-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sine_rows_zero [hPre_sine_rows_zero : Cert.Pre_sine_rows_zero.Facts] (m : (ℓ : Loc Cert.KernelIdeal.nD Cert.KernelIdeal.τ Cert.KernelIdeal.sig) → Buf (Elt Ideal) ℓ) : Prop :=
  ∀ c : Dev Cert.KernelIdeal.nD,
    (Cert.Pre_sine_rows_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sine_rows_zero [hPre_sine_rows_zero : Cert.Pre_sine_rows_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sine_rows_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelInv (m : (ℓ : Loc Cert.KernelInv.nD Cert.KernelInv.τ Cert.KernelInv.sig) → Buf (Elt Bits) ℓ) : Prop :=
  True

def Pre_KernelInvIdeal (m : (ℓ : Loc Cert.KernelInvIdeal.nD Cert.KernelInvIdeal.τ Cert.KernelInvIdeal.sig) → Buf (Elt Ideal) ℓ) : Prop :=
  True

def Pre_ReferenceInvIdeal (m : (ℓ : Loc Cert.ReferenceInvIdeal.nD Cert.ReferenceInvIdeal.τ Cert.ReferenceInvIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelSkip (m : (ℓ : Loc Cert.KernelSkip.nD Cert.KernelSkip.τ Cert.KernelSkip.sig) → Buf (Elt Bits) ℓ) : Prop :=
  True

def Pre_KernelSkipIdeal (m : (ℓ : Loc Cert.KernelSkipIdeal.nD Cert.KernelSkipIdeal.τ Cert.KernelSkipIdeal.sig) → Buf (Elt Ideal) ℓ) : Prop :=
  True

def Pre_ReferenceSkipIdeal (m : (ℓ : Loc Cert.ReferenceSkipIdeal.nD Cert.ReferenceSkipIdeal.τ Cert.ReferenceSkipIdeal.sig) → Buf (Elt Ideal) ℓ) : Prop :=
  True

def Pre_KernelFilt (m : (ℓ : Loc Cert.KernelFilt.nD Cert.KernelFilt.τ Cert.KernelFilt.sig) → Buf (Elt Bits) ℓ) : Prop :=
  True

def Pre_KernelFiltIdeal (m : (ℓ : Loc Cert.KernelFiltIdeal.nD Cert.KernelFiltIdeal.τ Cert.KernelFiltIdeal.sig) → Buf (Elt Ideal) ℓ) : Prop :=
  True

def Pre_ReferenceFiltIdeal (m : (ℓ : Loc Cert.ReferenceFiltIdeal.nD Cert.ReferenceFiltIdeal.τ Cert.ReferenceFiltIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sine_rows_zero [hKernelIdeal : Cert.KernelIdeal.Facts] [hPre_sine_rows_zero : Cert.Pre_sine_rows_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sine_rows_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sine_rows_zero [hReferenceIdeal : Cert.ReferenceIdeal.Facts] [hPre_sine_rows_zero : Cert.Pre_sine_rows_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sine_rows_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelInv [hKernelInv : Cert.KernelInv.Facts] : Prop :=
  ∀ (m : (ℓ : Loc Cert.KernelInv.nD Cert.KernelInv.τ Cert.KernelInv.sig) → Buf (Elt Bits) ℓ) (g : Dev Cert.KernelInv.nD → PrngReg), Pre_KernelInv m →
    θ_run (Cert.KernelInv.defs (F := Bits)) (onTc (τ := Cert.KernelInv.τ) (Cert.KernelInv.main (F := Bits))) ⟨m, fun _ => 0, g⟩ (fun r => (∀ c : Dev Cert.KernelInv.nD,
      r.2.mem ((c.tc : Thread Cert.KernelInv.nD Cert.KernelInv.τ).loc Cert.KernelInv.main_arg0) = m ((c.tc : Thread Cert.KernelInv.nD Cert.KernelInv.τ).loc Cert.KernelInv.main_arg0)
      ∧ r.2.mem ((c.tc : Thread Cert.KernelInv.nD Cert.KernelInv.τ).loc Cert.KernelInv.main_arg1) = m ((c.tc : Thread Cert.KernelInv.nD Cert.KernelInv.τ).loc Cert.KernelInv.main_arg1)
      ∧ r.2.mem ((c.tc : Thread Cert.KernelInv.nD Cert.KernelInv.τ).loc Cert.KernelInv.main_arg2) = m ((c.tc : Thread Cert.KernelInv.nD Cert.KernelInv.τ).loc Cert.KernelInv.main_arg2)
      ∧ r.2.mem ((c.tc : Thread Cert.KernelInv.nD Cert.KernelInv.τ).loc Cert.KernelInv.main_arg3) = m ((c.tc : Thread Cert.KernelInv.nD Cert.KernelInv.τ).loc Cert.KernelInv.main_arg3)
      ∧ r.2.mem ((c.tc : Thread Cert.KernelInv.nD Cert.KernelInv.τ).loc Cert.KernelInv.main_arg4) = m ((c.tc : Thread Cert.KernelInv.nD Cert.KernelInv.τ).loc Cert.KernelInv.main_arg4)
      ∧ r.2.mem ((c.tc : Thread Cert.KernelInv.nD Cert.KernelInv.τ).loc Cert.KernelInv.main_arg5) = m ((c.tc : Thread Cert.KernelInv.nD Cert.KernelInv.τ).loc Cert.KernelInv.main_arg5)
      ∧ r.2.mem ((c.tc : Thread Cert.KernelInv.nD Cert.KernelInv.τ).loc Cert.KernelInv.main_arg6) = m ((c.tc : Thread Cert.KernelInv.nD Cert.KernelInv.τ).loc Cert.KernelInv.main_arg6)
      ∧ r.2.mem ((c.tc : Thread Cert.KernelInv.nD Cert.KernelInv.τ).loc Cert.KernelInv.main_arg7) = m ((c.tc : Thread Cert.KernelInv.nD Cert.KernelInv.τ).loc Cert.KernelInv.main_arg7))
      ∧ r.2.sem = fun _ => 0)

def quiescent_KernelInvIdeal [hKernelInvIdeal : Cert.KernelInvIdeal.Facts] : Prop :=
  ∀ (m : (ℓ : Loc Cert.KernelInvIdeal.nD Cert.KernelInvIdeal.τ Cert.KernelInvIdeal.sig) → Buf (Elt Ideal) ℓ) (g : Dev Cert.KernelInvIdeal.nD → PrngReg), Pre_KernelInvIdeal m →
    θ_run (Cert.KernelInvIdeal.defs (F := Ideal)) (onTc (τ := Cert.KernelInvIdeal.τ) (Cert.KernelInvIdeal.main (F := Ideal))) ⟨m, fun _ => 0, g⟩ (fun r => (∀ c : Dev Cert.KernelInvIdeal.nD,
      r.2.mem ((c.tc : Thread Cert.KernelInvIdeal.nD Cert.KernelInvIdeal.τ).loc Cert.KernelInvIdeal.main_arg0) = m ((c.tc : Thread Cert.KernelInvIdeal.nD Cert.KernelInvIdeal.τ).loc Cert.KernelInvIdeal.main_arg0)
      ∧ r.2.mem ((c.tc : Thread Cert.KernelInvIdeal.nD Cert.KernelInvIdeal.τ).loc Cert.KernelInvIdeal.main_arg1) = m ((c.tc : Thread Cert.KernelInvIdeal.nD Cert.KernelInvIdeal.τ).loc Cert.KernelInvIdeal.main_arg1)
      ∧ r.2.mem ((c.tc : Thread Cert.KernelInvIdeal.nD Cert.KernelInvIdeal.τ).loc Cert.KernelInvIdeal.main_arg2) = m ((c.tc : Thread Cert.KernelInvIdeal.nD Cert.KernelInvIdeal.τ).loc Cert.KernelInvIdeal.main_arg2)
      ∧ r.2.mem ((c.tc : Thread Cert.KernelInvIdeal.nD Cert.KernelInvIdeal.τ).loc Cert.KernelInvIdeal.main_arg3) = m ((c.tc : Thread Cert.KernelInvIdeal.nD Cert.KernelInvIdeal.τ).loc Cert.KernelInvIdeal.main_arg3)
      ∧ r.2.mem ((c.tc : Thread Cert.KernelInvIdeal.nD Cert.KernelInvIdeal.τ).loc Cert.KernelInvIdeal.main_arg4) = m ((c.tc : Thread Cert.KernelInvIdeal.nD Cert.KernelInvIdeal.τ).loc Cert.KernelInvIdeal.main_arg4)
      ∧ r.2.mem ((c.tc : Thread Cert.KernelInvIdeal.nD Cert.KernelInvIdeal.τ).loc Cert.KernelInvIdeal.main_arg5) = m ((c.tc : Thread Cert.KernelInvIdeal.nD Cert.KernelInvIdeal.τ).loc Cert.KernelInvIdeal.main_arg5)
      ∧ r.2.mem ((c.tc : Thread Cert.KernelInvIdeal.nD Cert.KernelInvIdeal.τ).loc Cert.KernelInvIdeal.main_arg6) = m ((c.tc : Thread Cert.KernelInvIdeal.nD Cert.KernelInvIdeal.τ).loc Cert.KernelInvIdeal.main_arg6)
      ∧ r.2.mem ((c.tc : Thread Cert.KernelInvIdeal.nD Cert.KernelInvIdeal.τ).loc Cert.KernelInvIdeal.main_arg7) = m ((c.tc : Thread Cert.KernelInvIdeal.nD Cert.KernelInvIdeal.τ).loc Cert.KernelInvIdeal.main_arg7))
      ∧ r.2.sem = fun _ => 0)

def quiescent_ReferenceInvIdeal [hReferenceInvIdeal : Cert.ReferenceInvIdeal.Facts] : Prop :=
  ∀ (m : (ℓ : Loc Cert.ReferenceInvIdeal.nD Cert.ReferenceInvIdeal.τ Cert.ReferenceInvIdeal.sig) → Buf (Elt Ideal) ℓ) (g : Dev Cert.ReferenceInvIdeal.nD → PrngReg), Pre_ReferenceInvIdeal m →
    θ_run (Cert.ReferenceInvIdeal.defs (F := Ideal)) (onTc (τ := Cert.ReferenceInvIdeal.τ) (Cert.ReferenceInvIdeal.main (F := Ideal))) ⟨m, fun _ => 0, g⟩ (fun r => (∀ c : Dev Cert.ReferenceInvIdeal.nD,
      r.2.mem ((c.tc : Thread Cert.ReferenceInvIdeal.nD Cert.ReferenceInvIdeal.τ).loc Cert.ReferenceInvIdeal.main_arg0) = m ((c.tc : Thread Cert.ReferenceInvIdeal.nD Cert.ReferenceInvIdeal.τ).loc Cert.ReferenceInvIdeal.main_arg0)
      ∧ r.2.mem ((c.tc : Thread Cert.ReferenceInvIdeal.nD Cert.ReferenceInvIdeal.τ).loc Cert.ReferenceInvIdeal.main_arg1) = m ((c.tc : Thread Cert.ReferenceInvIdeal.nD Cert.ReferenceInvIdeal.τ).loc Cert.ReferenceInvIdeal.main_arg1)
      ∧ r.2.mem ((c.tc : Thread Cert.ReferenceInvIdeal.nD Cert.ReferenceInvIdeal.τ).loc Cert.ReferenceInvIdeal.main_arg2) = m ((c.tc : Thread Cert.ReferenceInvIdeal.nD Cert.ReferenceInvIdeal.τ).loc Cert.ReferenceInvIdeal.main_arg2)
      ∧ r.2.mem ((c.tc : Thread Cert.ReferenceInvIdeal.nD Cert.ReferenceInvIdeal.τ).loc Cert.ReferenceInvIdeal.main_arg3) = m ((c.tc : Thread Cert.ReferenceInvIdeal.nD Cert.ReferenceInvIdeal.τ).loc Cert.ReferenceInvIdeal.main_arg3)
      ∧ r.2.mem ((c.tc : Thread Cert.ReferenceInvIdeal.nD Cert.ReferenceInvIdeal.τ).loc Cert.ReferenceInvIdeal.main_arg4) = m ((c.tc : Thread Cert.ReferenceInvIdeal.nD Cert.ReferenceInvIdeal.τ).loc Cert.ReferenceInvIdeal.main_arg4)
      ∧ r.2.mem ((c.tc : Thread Cert.ReferenceInvIdeal.nD Cert.ReferenceInvIdeal.τ).loc Cert.ReferenceInvIdeal.main_arg5) = m ((c.tc : Thread Cert.ReferenceInvIdeal.nD Cert.ReferenceInvIdeal.τ).loc Cert.ReferenceInvIdeal.main_arg5)
      ∧ r.2.mem ((c.tc : Thread Cert.ReferenceInvIdeal.nD Cert.ReferenceInvIdeal.τ).loc Cert.ReferenceInvIdeal.main_arg6) = m ((c.tc : Thread Cert.ReferenceInvIdeal.nD Cert.ReferenceInvIdeal.τ).loc Cert.ReferenceInvIdeal.main_arg6)
      ∧ r.2.mem ((c.tc : Thread Cert.ReferenceInvIdeal.nD Cert.ReferenceInvIdeal.τ).loc Cert.ReferenceInvIdeal.main_arg7) = m ((c.tc : Thread Cert.ReferenceInvIdeal.nD Cert.ReferenceInvIdeal.τ).loc Cert.ReferenceInvIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelSkip [hKernelSkip : Cert.KernelSkip.Facts] : Prop :=
  ∀ (m : (ℓ : Loc Cert.KernelSkip.nD Cert.KernelSkip.τ Cert.KernelSkip.sig) → Buf (Elt Bits) ℓ) (g : Dev Cert.KernelSkip.nD → PrngReg), Pre_KernelSkip m →
    θ_run (Cert.KernelSkip.defs (F := Bits)) (onTc (τ := Cert.KernelSkip.τ) (Cert.KernelSkip.main (F := Bits))) ⟨m, fun _ => 0, g⟩ (fun r => (∀ c : Dev Cert.KernelSkip.nD,
      r.2.mem ((c.tc : Thread Cert.KernelSkip.nD Cert.KernelSkip.τ).loc Cert.KernelSkip.main_arg0) = m ((c.tc : Thread Cert.KernelSkip.nD Cert.KernelSkip.τ).loc Cert.KernelSkip.main_arg0)
      ∧ r.2.mem ((c.tc : Thread Cert.KernelSkip.nD Cert.KernelSkip.τ).loc Cert.KernelSkip.main_arg1) = m ((c.tc : Thread Cert.KernelSkip.nD Cert.KernelSkip.τ).loc Cert.KernelSkip.main_arg1)
      ∧ r.2.mem ((c.tc : Thread Cert.KernelSkip.nD Cert.KernelSkip.τ).loc Cert.KernelSkip.main_arg2) = m ((c.tc : Thread Cert.KernelSkip.nD Cert.KernelSkip.τ).loc Cert.KernelSkip.main_arg2)
      ∧ r.2.mem ((c.tc : Thread Cert.KernelSkip.nD Cert.KernelSkip.τ).loc Cert.KernelSkip.main_arg3) = m ((c.tc : Thread Cert.KernelSkip.nD Cert.KernelSkip.τ).loc Cert.KernelSkip.main_arg3)
      ∧ r.2.mem ((c.tc : Thread Cert.KernelSkip.nD Cert.KernelSkip.τ).loc Cert.KernelSkip.main_arg4) = m ((c.tc : Thread Cert.KernelSkip.nD Cert.KernelSkip.τ).loc Cert.KernelSkip.main_arg4)
      ∧ r.2.mem ((c.tc : Thread Cert.KernelSkip.nD Cert.KernelSkip.τ).loc Cert.KernelSkip.main_arg5) = m ((c.tc : Thread Cert.KernelSkip.nD Cert.KernelSkip.τ).loc Cert.KernelSkip.main_arg5)
      ∧ r.2.mem ((c.tc : Thread Cert.KernelSkip.nD Cert.KernelSkip.τ).loc Cert.KernelSkip.main_arg6) = m ((c.tc : Thread Cert.KernelSkip.nD Cert.KernelSkip.τ).loc Cert.KernelSkip.main_arg6))
      ∧ r.2.sem = fun _ => 0)

def quiescent_KernelSkipIdeal [hKernelSkipIdeal : Cert.KernelSkipIdeal.Facts] : Prop :=
  ∀ (m : (ℓ : Loc Cert.KernelSkipIdeal.nD Cert.KernelSkipIdeal.τ Cert.KernelSkipIdeal.sig) → Buf (Elt Ideal) ℓ) (g : Dev Cert.KernelSkipIdeal.nD → PrngReg), Pre_KernelSkipIdeal m →
    θ_run (Cert.KernelSkipIdeal.defs (F := Ideal)) (onTc (τ := Cert.KernelSkipIdeal.τ) (Cert.KernelSkipIdeal.main (F := Ideal))) ⟨m, fun _ => 0, g⟩ (fun r => (∀ c : Dev Cert.KernelSkipIdeal.nD,
      r.2.mem ((c.tc : Thread Cert.KernelSkipIdeal.nD Cert.KernelSkipIdeal.τ).loc Cert.KernelSkipIdeal.main_arg0) = m ((c.tc : Thread Cert.KernelSkipIdeal.nD Cert.KernelSkipIdeal.τ).loc Cert.KernelSkipIdeal.main_arg0)
      ∧ r.2.mem ((c.tc : Thread Cert.KernelSkipIdeal.nD Cert.KernelSkipIdeal.τ).loc Cert.KernelSkipIdeal.main_arg1) = m ((c.tc : Thread Cert.KernelSkipIdeal.nD Cert.KernelSkipIdeal.τ).loc Cert.KernelSkipIdeal.main_arg1)
      ∧ r.2.mem ((c.tc : Thread Cert.KernelSkipIdeal.nD Cert.KernelSkipIdeal.τ).loc Cert.KernelSkipIdeal.main_arg2) = m ((c.tc : Thread Cert.KernelSkipIdeal.nD Cert.KernelSkipIdeal.τ).loc Cert.KernelSkipIdeal.main_arg2)
      ∧ r.2.mem ((c.tc : Thread Cert.KernelSkipIdeal.nD Cert.KernelSkipIdeal.τ).loc Cert.KernelSkipIdeal.main_arg3) = m ((c.tc : Thread Cert.KernelSkipIdeal.nD Cert.KernelSkipIdeal.τ).loc Cert.KernelSkipIdeal.main_arg3)
      ∧ r.2.mem ((c.tc : Thread Cert.KernelSkipIdeal.nD Cert.KernelSkipIdeal.τ).loc Cert.KernelSkipIdeal.main_arg4) = m ((c.tc : Thread Cert.KernelSkipIdeal.nD Cert.KernelSkipIdeal.τ).loc Cert.KernelSkipIdeal.main_arg4)
      ∧ r.2.mem ((c.tc : Thread Cert.KernelSkipIdeal.nD Cert.KernelSkipIdeal.τ).loc Cert.KernelSkipIdeal.main_arg5) = m ((c.tc : Thread Cert.KernelSkipIdeal.nD Cert.KernelSkipIdeal.τ).loc Cert.KernelSkipIdeal.main_arg5)
      ∧ r.2.mem ((c.tc : Thread Cert.KernelSkipIdeal.nD Cert.KernelSkipIdeal.τ).loc Cert.KernelSkipIdeal.main_arg6) = m ((c.tc : Thread Cert.KernelSkipIdeal.nD Cert.KernelSkipIdeal.τ).loc Cert.KernelSkipIdeal.main_arg6))
      ∧ r.2.sem = fun _ => 0)

def quiescent_ReferenceSkipIdeal [hReferenceSkipIdeal : Cert.ReferenceSkipIdeal.Facts] : Prop :=
  ∀ (m : (ℓ : Loc Cert.ReferenceSkipIdeal.nD Cert.ReferenceSkipIdeal.τ Cert.ReferenceSkipIdeal.sig) → Buf (Elt Ideal) ℓ) (g : Dev Cert.ReferenceSkipIdeal.nD → PrngReg), Pre_ReferenceSkipIdeal m →
    θ_run (Cert.ReferenceSkipIdeal.defs (F := Ideal)) (onTc (τ := Cert.ReferenceSkipIdeal.τ) (Cert.ReferenceSkipIdeal.main (F := Ideal))) ⟨m, fun _ => 0, g⟩ (fun r => (∀ c : Dev Cert.ReferenceSkipIdeal.nD,
      r.2.mem ((c.tc : Thread Cert.ReferenceSkipIdeal.nD Cert.ReferenceSkipIdeal.τ).loc Cert.ReferenceSkipIdeal.main_arg0) = m ((c.tc : Thread Cert.ReferenceSkipIdeal.nD Cert.ReferenceSkipIdeal.τ).loc Cert.ReferenceSkipIdeal.main_arg0)
      ∧ r.2.mem ((c.tc : Thread Cert.ReferenceSkipIdeal.nD Cert.ReferenceSkipIdeal.τ).loc Cert.ReferenceSkipIdeal.main_arg1) = m ((c.tc : Thread Cert.ReferenceSkipIdeal.nD Cert.ReferenceSkipIdeal.τ).loc Cert.ReferenceSkipIdeal.main_arg1)
      ∧ r.2.mem ((c.tc : Thread Cert.ReferenceSkipIdeal.nD Cert.ReferenceSkipIdeal.τ).loc Cert.ReferenceSkipIdeal.main_arg2) = m ((c.tc : Thread Cert.ReferenceSkipIdeal.nD Cert.ReferenceSkipIdeal.τ).loc Cert.ReferenceSkipIdeal.main_arg2)
      ∧ r.2.mem ((c.tc : Thread Cert.ReferenceSkipIdeal.nD Cert.ReferenceSkipIdeal.τ).loc Cert.ReferenceSkipIdeal.main_arg3) = m ((c.tc : Thread Cert.ReferenceSkipIdeal.nD Cert.ReferenceSkipIdeal.τ).loc Cert.ReferenceSkipIdeal.main_arg3)
      ∧ r.2.mem ((c.tc : Thread Cert.ReferenceSkipIdeal.nD Cert.ReferenceSkipIdeal.τ).loc Cert.ReferenceSkipIdeal.main_arg4) = m ((c.tc : Thread Cert.ReferenceSkipIdeal.nD Cert.ReferenceSkipIdeal.τ).loc Cert.ReferenceSkipIdeal.main_arg4)
      ∧ r.2.mem ((c.tc : Thread Cert.ReferenceSkipIdeal.nD Cert.ReferenceSkipIdeal.τ).loc Cert.ReferenceSkipIdeal.main_arg5) = m ((c.tc : Thread Cert.ReferenceSkipIdeal.nD Cert.ReferenceSkipIdeal.τ).loc Cert.ReferenceSkipIdeal.main_arg5)
      ∧ r.2.mem ((c.tc : Thread Cert.ReferenceSkipIdeal.nD Cert.ReferenceSkipIdeal.τ).loc Cert.ReferenceSkipIdeal.main_arg6) = m ((c.tc : Thread Cert.ReferenceSkipIdeal.nD Cert.ReferenceSkipIdeal.τ).loc Cert.ReferenceSkipIdeal.main_arg6))
      ∧ r.2.sem = fun _ => 0)

def quiescent_KernelFilt [hKernelFilt : Cert.KernelFilt.Facts] : Prop :=
  ∀ (m : (ℓ : Loc Cert.KernelFilt.nD Cert.KernelFilt.τ Cert.KernelFilt.sig) → Buf (Elt Bits) ℓ) (g : Dev Cert.KernelFilt.nD → PrngReg), Pre_KernelFilt m →
    θ_run (Cert.KernelFilt.defs (F := Bits)) (onTc (τ := Cert.KernelFilt.τ) (Cert.KernelFilt.main (F := Bits))) ⟨m, fun _ => 0, g⟩ (fun r => (∀ c : Dev Cert.KernelFilt.nD,
      r.2.mem ((c.tc : Thread Cert.KernelFilt.nD Cert.KernelFilt.τ).loc Cert.KernelFilt.main_arg0) = m ((c.tc : Thread Cert.KernelFilt.nD Cert.KernelFilt.τ).loc Cert.KernelFilt.main_arg0)
      ∧ r.2.mem ((c.tc : Thread Cert.KernelFilt.nD Cert.KernelFilt.τ).loc Cert.KernelFilt.main_arg1) = m ((c.tc : Thread Cert.KernelFilt.nD Cert.KernelFilt.τ).loc Cert.KernelFilt.main_arg1)
      ∧ r.2.mem ((c.tc : Thread Cert.KernelFilt.nD Cert.KernelFilt.τ).loc Cert.KernelFilt.main_arg2) = m ((c.tc : Thread Cert.KernelFilt.nD Cert.KernelFilt.τ).loc Cert.KernelFilt.main_arg2)
      ∧ r.2.mem ((c.tc : Thread Cert.KernelFilt.nD Cert.KernelFilt.τ).loc Cert.KernelFilt.main_arg3) = m ((c.tc : Thread Cert.KernelFilt.nD Cert.KernelFilt.τ).loc Cert.KernelFilt.main_arg3)
      ∧ r.2.mem ((c.tc : Thread Cert.KernelFilt.nD Cert.KernelFilt.τ).loc Cert.KernelFilt.main_arg4) = m ((c.tc : Thread Cert.KernelFilt.nD Cert.KernelFilt.τ).loc Cert.KernelFilt.main_arg4)
      ∧ r.2.mem ((c.tc : Thread Cert.KernelFilt.nD Cert.KernelFilt.τ).loc Cert.KernelFilt.main_arg5) = m ((c.tc : Thread Cert.KernelFilt.nD Cert.KernelFilt.τ).loc Cert.KernelFilt.main_arg5)
      ∧ r.2.mem ((c.tc : Thread Cert.KernelFilt.nD Cert.KernelFilt.τ).loc Cert.KernelFilt.main_arg6) = m ((c.tc : Thread Cert.KernelFilt.nD Cert.KernelFilt.τ).loc Cert.KernelFilt.main_arg6))
      ∧ r.2.sem = fun _ => 0)

def quiescent_KernelFiltIdeal [hKernelFiltIdeal : Cert.KernelFiltIdeal.Facts] : Prop :=
  ∀ (m : (ℓ : Loc Cert.KernelFiltIdeal.nD Cert.KernelFiltIdeal.τ Cert.KernelFiltIdeal.sig) → Buf (Elt Ideal) ℓ) (g : Dev Cert.KernelFiltIdeal.nD → PrngReg), Pre_KernelFiltIdeal m →
    θ_run (Cert.KernelFiltIdeal.defs (F := Ideal)) (onTc (τ := Cert.KernelFiltIdeal.τ) (Cert.KernelFiltIdeal.main (F := Ideal))) ⟨m, fun _ => 0, g⟩ (fun r => (∀ c : Dev Cert.KernelFiltIdeal.nD,
      r.2.mem ((c.tc : Thread Cert.KernelFiltIdeal.nD Cert.KernelFiltIdeal.τ).loc Cert.KernelFiltIdeal.main_arg0) = m ((c.tc : Thread Cert.KernelFiltIdeal.nD Cert.KernelFiltIdeal.τ).loc Cert.KernelFiltIdeal.main_arg0)
      ∧ r.2.mem ((c.tc : Thread Cert.KernelFiltIdeal.nD Cert.KernelFiltIdeal.τ).loc Cert.KernelFiltIdeal.main_arg1) = m ((c.tc : Thread Cert.KernelFiltIdeal.nD Cert.KernelFiltIdeal.τ).loc Cert.KernelFiltIdeal.main_arg1)
      ∧ r.2.mem ((c.tc : Thread Cert.KernelFiltIdeal.nD Cert.KernelFiltIdeal.τ).loc Cert.KernelFiltIdeal.main_arg2) = m ((c.tc : Thread Cert.KernelFiltIdeal.nD Cert.KernelFiltIdeal.τ).loc Cert.KernelFiltIdeal.main_arg2)
      ∧ r.2.mem ((c.tc : Thread Cert.KernelFiltIdeal.nD Cert.KernelFiltIdeal.τ).loc Cert.KernelFiltIdeal.main_arg3) = m ((c.tc : Thread Cert.KernelFiltIdeal.nD Cert.KernelFiltIdeal.τ).loc Cert.KernelFiltIdeal.main_arg3)
      ∧ r.2.mem ((c.tc : Thread Cert.KernelFiltIdeal.nD Cert.KernelFiltIdeal.τ).loc Cert.KernelFiltIdeal.main_arg4) = m ((c.tc : Thread Cert.KernelFiltIdeal.nD Cert.KernelFiltIdeal.τ).loc Cert.KernelFiltIdeal.main_arg4)
      ∧ r.2.mem ((c.tc : Thread Cert.KernelFiltIdeal.nD Cert.KernelFiltIdeal.τ).loc Cert.KernelFiltIdeal.main_arg5) = m ((c.tc : Thread Cert.KernelFiltIdeal.nD Cert.KernelFiltIdeal.τ).loc Cert.KernelFiltIdeal.main_arg5)
      ∧ r.2.mem ((c.tc : Thread Cert.KernelFiltIdeal.nD Cert.KernelFiltIdeal.τ).loc Cert.KernelFiltIdeal.main_arg6) = m ((c.tc : Thread Cert.KernelFiltIdeal.nD Cert.KernelFiltIdeal.τ).loc Cert.KernelFiltIdeal.main_arg6))
      ∧ r.2.sem = fun _ => 0)

def quiescent_ReferenceFiltIdeal [hReferenceFiltIdeal : Cert.ReferenceFiltIdeal.Facts] : Prop :=
  ∀ (m : (ℓ : Loc Cert.ReferenceFiltIdeal.nD Cert.ReferenceFiltIdeal.τ Cert.ReferenceFiltIdeal.sig) → Buf (Elt Ideal) ℓ) (g : Dev Cert.ReferenceFiltIdeal.nD → PrngReg), Pre_ReferenceFiltIdeal m →
    θ_run (Cert.ReferenceFiltIdeal.defs (F := Ideal)) (onTc (τ := Cert.ReferenceFiltIdeal.τ) (Cert.ReferenceFiltIdeal.main (F := Ideal))) ⟨m, fun _ => 0, g⟩ (fun r => (∀ c : Dev Cert.ReferenceFiltIdeal.nD,
      r.2.mem ((c.tc : Thread Cert.ReferenceFiltIdeal.nD Cert.ReferenceFiltIdeal.τ).loc Cert.ReferenceFiltIdeal.main_arg0) = m ((c.tc : Thread Cert.ReferenceFiltIdeal.nD Cert.ReferenceFiltIdeal.τ).loc Cert.ReferenceFiltIdeal.main_arg0)
      ∧ r.2.mem ((c.tc : Thread Cert.ReferenceFiltIdeal.nD Cert.ReferenceFiltIdeal.τ).loc Cert.ReferenceFiltIdeal.main_arg1) = m ((c.tc : Thread Cert.ReferenceFiltIdeal.nD Cert.ReferenceFiltIdeal.τ).loc Cert.ReferenceFiltIdeal.main_arg1)
      ∧ r.2.mem ((c.tc : Thread Cert.ReferenceFiltIdeal.nD Cert.ReferenceFiltIdeal.τ).loc Cert.ReferenceFiltIdeal.main_arg2) = m ((c.tc : Thread Cert.ReferenceFiltIdeal.nD Cert.ReferenceFiltIdeal.τ).loc Cert.ReferenceFiltIdeal.main_arg2)
      ∧ r.2.mem ((c.tc : Thread Cert.ReferenceFiltIdeal.nD Cert.ReferenceFiltIdeal.τ).loc Cert.ReferenceFiltIdeal.main_arg3) = m ((c.tc : Thread Cert.ReferenceFiltIdeal.nD Cert.ReferenceFiltIdeal.τ).loc Cert.ReferenceFiltIdeal.main_arg3)
      ∧ r.2.mem ((c.tc : Thread Cert.ReferenceFiltIdeal.nD Cert.ReferenceFiltIdeal.τ).loc Cert.ReferenceFiltIdeal.main_arg4) = m ((c.tc : Thread Cert.ReferenceFiltIdeal.nD Cert.ReferenceFiltIdeal.τ).loc Cert.ReferenceFiltIdeal.main_arg4)
      ∧ r.2.mem ((c.tc : Thread Cert.ReferenceFiltIdeal.nD Cert.ReferenceFiltIdeal.τ).loc Cert.ReferenceFiltIdeal.main_arg5) = m ((c.tc : Thread Cert.ReferenceFiltIdeal.nD Cert.ReferenceFiltIdeal.τ).loc Cert.ReferenceFiltIdeal.main_arg5)
      ∧ r.2.mem ((c.tc : Thread Cert.ReferenceFiltIdeal.nD Cert.ReferenceFiltIdeal.τ).loc Cert.ReferenceFiltIdeal.main_arg6) = m ((c.tc : Thread Cert.ReferenceFiltIdeal.nD Cert.ReferenceFiltIdeal.τ).loc Cert.ReferenceFiltIdeal.main_arg6))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6)
      ∧ r.2.mem ((c.tc : Thread Cert.KernelMlp.nD Cert.KernelMlp.τ).loc Cert.KernelMlp.main_arg7) = m ((c.tc : Thread Cert.KernelMlp.nD Cert.KernelMlp.τ).loc Cert.KernelMlp.main_arg7))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
      ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6)
      ∧ r.2.mem ((c.tc : Thread Cert.ReferenceMlpIdeal.nD Cert.ReferenceMlpIdeal.τ).loc Cert.ReferenceMlpIdeal.main_arg7) = m ((c.tc : Thread Cert.ReferenceMlpIdeal.nD Cert.ReferenceMlpIdeal.τ).loc Cert.ReferenceMlpIdeal.main_arg7))
      ∧ r.2.sem = fun _ => 0)

def preserves_Kernel_KernelIdeal : Prop :=
  True

def algebraic_KernelIdeal_ReferenceIdeal_pre_sine_rows_zero [hKernelIdeal : Cert.KernelIdeal.Facts] [hReferenceIdeal : Cert.ReferenceIdeal.Facts] [hPre_sine_rows_zero : Cert.Pre_sine_rows_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sine_rows_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v0)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v32) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelInv_KernelInvIdeal : Prop :=
  True

def algebraic_KernelInvIdeal_ReferenceInvIdeal [hKernelInvIdeal : Cert.KernelInvIdeal.Facts] [hReferenceInvIdeal : Cert.ReferenceInvIdeal.Facts] : Prop :=
  ∀ (m : (ℓ : Loc Cert.KernelInvIdeal.nD Cert.KernelInvIdeal.τ Cert.KernelInvIdeal.sig) → Buf (Elt Ideal) ℓ) (g : Dev Cert.KernelInvIdeal.nD → PrngReg)
    (m' : (ℓ : Loc Cert.ReferenceInvIdeal.nD Cert.ReferenceInvIdeal.τ Cert.ReferenceInvIdeal.sig) → Buf (Elt Ideal) ℓ) (g' : Dev Cert.ReferenceInvIdeal.nD → PrngReg), Pre_KernelInvIdeal m →
    (∀ c : Dev Cert.KernelInvIdeal.nD,
      m' ((c.tc : Thread Cert.ReferenceInvIdeal.nD Cert.ReferenceInvIdeal.τ).loc Cert.ReferenceInvIdeal.main_arg0) = m ((c.tc : Thread Cert.KernelInvIdeal.nD Cert.KernelInvIdeal.τ).loc Cert.KernelInvIdeal.main_arg0)
      ∧ m' ((c.tc : Thread Cert.ReferenceInvIdeal.nD Cert.ReferenceInvIdeal.τ).loc Cert.ReferenceInvIdeal.main_arg1) = m ((c.tc : Thread Cert.KernelInvIdeal.nD Cert.KernelInvIdeal.τ).loc Cert.KernelInvIdeal.main_arg1)
      ∧ m' ((c.tc : Thread Cert.ReferenceInvIdeal.nD Cert.ReferenceInvIdeal.τ).loc Cert.ReferenceInvIdeal.main_arg2) = m ((c.tc : Thread Cert.KernelInvIdeal.nD Cert.KernelInvIdeal.τ).loc Cert.KernelInvIdeal.main_arg2)
      ∧ m' ((c.tc : Thread Cert.ReferenceInvIdeal.nD Cert.ReferenceInvIdeal.τ).loc Cert.ReferenceInvIdeal.main_arg3) = m ((c.tc : Thread Cert.KernelInvIdeal.nD Cert.KernelInvIdeal.τ).loc Cert.KernelInvIdeal.main_arg3)
      ∧ m' ((c.tc : Thread Cert.ReferenceInvIdeal.nD Cert.ReferenceInvIdeal.τ).loc Cert.ReferenceInvIdeal.main_arg4) = m ((c.tc : Thread Cert.KernelInvIdeal.nD Cert.KernelInvIdeal.τ).loc Cert.KernelInvIdeal.main_arg4)
      ∧ m' ((c.tc : Thread Cert.ReferenceInvIdeal.nD Cert.ReferenceInvIdeal.τ).loc Cert.ReferenceInvIdeal.main_arg5) = m ((c.tc : Thread Cert.KernelInvIdeal.nD Cert.KernelInvIdeal.τ).loc Cert.KernelInvIdeal.main_arg5)
      ∧ m' ((c.tc : Thread Cert.ReferenceInvIdeal.nD Cert.ReferenceInvIdeal.τ).loc Cert.ReferenceInvIdeal.main_arg6) = m ((c.tc : Thread Cert.KernelInvIdeal.nD Cert.KernelInvIdeal.τ).loc Cert.KernelInvIdeal.main_arg6)
      ∧ m' ((c.tc : Thread Cert.ReferenceInvIdeal.nD Cert.ReferenceInvIdeal.τ).loc Cert.ReferenceInvIdeal.main_arg7) = m ((c.tc : Thread Cert.KernelInvIdeal.nD Cert.KernelInvIdeal.τ).loc Cert.KernelInvIdeal.main_arg7)) →
    ∃ (v0 : (c : Dev Cert.KernelInvIdeal.nD) → Buf (Elt Ideal) ((c.tc : Thread Cert.KernelInvIdeal.nD Cert.KernelInvIdeal.τ).loc Cert.KernelInvIdeal.main_v0)),
      θ_run (Cert.KernelInvIdeal.defs (F := Ideal)) (onTc (τ := Cert.KernelInvIdeal.τ) (Cert.KernelInvIdeal.main (F := Ideal))) ⟨m, fun _ => 0, g⟩ (fun r => ∀ c : Dev Cert.KernelInvIdeal.nD,
          r.2.mem ((c.tc : Thread Cert.KernelInvIdeal.nD Cert.KernelInvIdeal.τ).loc Cert.KernelInvIdeal.main_v0) = v0 c
          ∧ r.2.mem ((c.tc : Thread Cert.KernelInvIdeal.nD Cert.KernelInvIdeal.τ).loc Cert.KernelInvIdeal.main_arg0) = m ((c.tc : Thread Cert.KernelInvIdeal.nD Cert.KernelInvIdeal.τ).loc Cert.KernelInvIdeal.main_arg0)
          ∧ r.2.mem ((c.tc : Thread Cert.KernelInvIdeal.nD Cert.KernelInvIdeal.τ).loc Cert.KernelInvIdeal.main_arg1) = m ((c.tc : Thread Cert.KernelInvIdeal.nD Cert.KernelInvIdeal.τ).loc Cert.KernelInvIdeal.main_arg1)
          ∧ r.2.mem ((c.tc : Thread Cert.KernelInvIdeal.nD Cert.KernelInvIdeal.τ).loc Cert.KernelInvIdeal.main_arg2) = m ((c.tc : Thread Cert.KernelInvIdeal.nD Cert.KernelInvIdeal.τ).loc Cert.KernelInvIdeal.main_arg2)
          ∧ r.2.mem ((c.tc : Thread Cert.KernelInvIdeal.nD Cert.KernelInvIdeal.τ).loc Cert.KernelInvIdeal.main_arg3) = m ((c.tc : Thread Cert.KernelInvIdeal.nD Cert.KernelInvIdeal.τ).loc Cert.KernelInvIdeal.main_arg3)
          ∧ r.2.mem ((c.tc : Thread Cert.KernelInvIdeal.nD Cert.KernelInvIdeal.τ).loc Cert.KernelInvIdeal.main_arg4) = m ((c.tc : Thread Cert.KernelInvIdeal.nD Cert.KernelInvIdeal.τ).loc Cert.KernelInvIdeal.main_arg4)
          ∧ r.2.mem ((c.tc : Thread Cert.KernelInvIdeal.nD Cert.KernelInvIdeal.τ).loc Cert.KernelInvIdeal.main_arg5) = m ((c.tc : Thread Cert.KernelInvIdeal.nD Cert.KernelInvIdeal.τ).loc Cert.KernelInvIdeal.main_arg5)
          ∧ r.2.mem ((c.tc : Thread Cert.KernelInvIdeal.nD Cert.KernelInvIdeal.τ).loc Cert.KernelInvIdeal.main_arg6) = m ((c.tc : Thread Cert.KernelInvIdeal.nD Cert.KernelInvIdeal.τ).loc Cert.KernelInvIdeal.main_arg6)
          ∧ r.2.mem ((c.tc : Thread Cert.KernelInvIdeal.nD Cert.KernelInvIdeal.τ).loc Cert.KernelInvIdeal.main_arg7) = m ((c.tc : Thread Cert.KernelInvIdeal.nD Cert.KernelInvIdeal.τ).loc Cert.KernelInvIdeal.main_arg7))
      ∧ θ_run (Cert.ReferenceInvIdeal.defs (F := Ideal)) (onTc (τ := Cert.ReferenceInvIdeal.τ) (Cert.ReferenceInvIdeal.main (F := Ideal))) ⟨m', fun _ => 0, g'⟩ (fun r => ∀ c : Dev Cert.ReferenceInvIdeal.nD,
          r.2.mem ((c.tc : Thread Cert.ReferenceInvIdeal.nD Cert.ReferenceInvIdeal.τ).loc Cert.ReferenceInvIdeal.main_v38) = v0 c
          ∧ r.2.mem ((c.tc : Thread Cert.ReferenceInvIdeal.nD Cert.ReferenceInvIdeal.τ).loc Cert.ReferenceInvIdeal.main_arg0) = m' ((c.tc : Thread Cert.ReferenceInvIdeal.nD Cert.ReferenceInvIdeal.τ).loc Cert.ReferenceInvIdeal.main_arg0)
          ∧ r.2.mem ((c.tc : Thread Cert.ReferenceInvIdeal.nD Cert.ReferenceInvIdeal.τ).loc Cert.ReferenceInvIdeal.main_arg1) = m' ((c.tc : Thread Cert.ReferenceInvIdeal.nD Cert.ReferenceInvIdeal.τ).loc Cert.ReferenceInvIdeal.main_arg1)
          ∧ r.2.mem ((c.tc : Thread Cert.ReferenceInvIdeal.nD Cert.ReferenceInvIdeal.τ).loc Cert.ReferenceInvIdeal.main_arg2) = m' ((c.tc : Thread Cert.ReferenceInvIdeal.nD Cert.ReferenceInvIdeal.τ).loc Cert.ReferenceInvIdeal.main_arg2)
          ∧ r.2.mem ((c.tc : Thread Cert.ReferenceInvIdeal.nD Cert.ReferenceInvIdeal.τ).loc Cert.ReferenceInvIdeal.main_arg3) = m' ((c.tc : Thread Cert.ReferenceInvIdeal.nD Cert.ReferenceInvIdeal.τ).loc Cert.ReferenceInvIdeal.main_arg3)
          ∧ r.2.mem ((c.tc : Thread Cert.ReferenceInvIdeal.nD Cert.ReferenceInvIdeal.τ).loc Cert.ReferenceInvIdeal.main_arg4) = m' ((c.tc : Thread Cert.ReferenceInvIdeal.nD Cert.ReferenceInvIdeal.τ).loc Cert.ReferenceInvIdeal.main_arg4)
          ∧ r.2.mem ((c.tc : Thread Cert.ReferenceInvIdeal.nD Cert.ReferenceInvIdeal.τ).loc Cert.ReferenceInvIdeal.main_arg5) = m' ((c.tc : Thread Cert.ReferenceInvIdeal.nD Cert.ReferenceInvIdeal.τ).loc Cert.ReferenceInvIdeal.main_arg5)
          ∧ r.2.mem ((c.tc : Thread Cert.ReferenceInvIdeal.nD Cert.ReferenceInvIdeal.τ).loc Cert.ReferenceInvIdeal.main_arg6) = m' ((c.tc : Thread Cert.ReferenceInvIdeal.nD Cert.ReferenceInvIdeal.τ).loc Cert.ReferenceInvIdeal.main_arg6)
          ∧ r.2.mem ((c.tc : Thread Cert.ReferenceInvIdeal.nD Cert.ReferenceInvIdeal.τ).loc Cert.ReferenceInvIdeal.main_arg7) = m' ((c.tc : Thread Cert.ReferenceInvIdeal.nD Cert.ReferenceInvIdeal.τ).loc Cert.ReferenceInvIdeal.main_arg7))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v15) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v38) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelSkip_KernelSkipIdeal : Prop :=
  True

def algebraic_KernelSkipIdeal_ReferenceSkipIdeal [hKernelSkipIdeal : Cert.KernelSkipIdeal.Facts] [hReferenceSkipIdeal : Cert.ReferenceSkipIdeal.Facts] : Prop :=
  ∀ (m : (ℓ : Loc Cert.KernelSkipIdeal.nD Cert.KernelSkipIdeal.τ Cert.KernelSkipIdeal.sig) → Buf (Elt Ideal) ℓ) (g : Dev Cert.KernelSkipIdeal.nD → PrngReg)
    (m' : (ℓ : Loc Cert.ReferenceSkipIdeal.nD Cert.ReferenceSkipIdeal.τ Cert.ReferenceSkipIdeal.sig) → Buf (Elt Ideal) ℓ) (g' : Dev Cert.ReferenceSkipIdeal.nD → PrngReg), Pre_KernelSkipIdeal m →
    (∀ c : Dev Cert.KernelSkipIdeal.nD,
      m' ((c.tc : Thread Cert.ReferenceSkipIdeal.nD Cert.ReferenceSkipIdeal.τ).loc Cert.ReferenceSkipIdeal.main_arg0) = m ((c.tc : Thread Cert.KernelSkipIdeal.nD Cert.KernelSkipIdeal.τ).loc Cert.KernelSkipIdeal.main_arg0)
      ∧ m' ((c.tc : Thread Cert.ReferenceSkipIdeal.nD Cert.ReferenceSkipIdeal.τ).loc Cert.ReferenceSkipIdeal.main_arg1) = m ((c.tc : Thread Cert.KernelSkipIdeal.nD Cert.KernelSkipIdeal.τ).loc Cert.KernelSkipIdeal.main_arg1)
      ∧ m' ((c.tc : Thread Cert.ReferenceSkipIdeal.nD Cert.ReferenceSkipIdeal.τ).loc Cert.ReferenceSkipIdeal.main_arg2) = m ((c.tc : Thread Cert.KernelSkipIdeal.nD Cert.KernelSkipIdeal.τ).loc Cert.KernelSkipIdeal.main_arg2)
      ∧ m' ((c.tc : Thread Cert.ReferenceSkipIdeal.nD Cert.ReferenceSkipIdeal.τ).loc Cert.ReferenceSkipIdeal.main_arg3) = m ((c.tc : Thread Cert.KernelSkipIdeal.nD Cert.KernelSkipIdeal.τ).loc Cert.KernelSkipIdeal.main_arg3)
      ∧ m' ((c.tc : Thread Cert.ReferenceSkipIdeal.nD Cert.ReferenceSkipIdeal.τ).loc Cert.ReferenceSkipIdeal.main_arg4) = m ((c.tc : Thread Cert.KernelSkipIdeal.nD Cert.KernelSkipIdeal.τ).loc Cert.KernelSkipIdeal.main_arg4)
      ∧ m' ((c.tc : Thread Cert.ReferenceSkipIdeal.nD Cert.ReferenceSkipIdeal.τ).loc Cert.ReferenceSkipIdeal.main_arg5) = m ((c.tc : Thread Cert.KernelSkipIdeal.nD Cert.KernelSkipIdeal.τ).loc Cert.KernelSkipIdeal.main_arg5)
      ∧ m' ((c.tc : Thread Cert.ReferenceSkipIdeal.nD Cert.ReferenceSkipIdeal.τ).loc Cert.ReferenceSkipIdeal.main_arg6) = m ((c.tc : Thread Cert.KernelSkipIdeal.nD Cert.KernelSkipIdeal.τ).loc Cert.KernelSkipIdeal.main_arg6)) →
    ∃ (v0 : (c : Dev Cert.KernelSkipIdeal.nD) → Buf (Elt Ideal) ((c.tc : Thread Cert.KernelSkipIdeal.nD Cert.KernelSkipIdeal.τ).loc Cert.KernelSkipIdeal.main_v0)),
      θ_run (Cert.KernelSkipIdeal.defs (F := Ideal)) (onTc (τ := Cert.KernelSkipIdeal.τ) (Cert.KernelSkipIdeal.main (F := Ideal))) ⟨m, fun _ => 0, g⟩ (fun r => ∀ c : Dev Cert.KernelSkipIdeal.nD,
          r.2.mem ((c.tc : Thread Cert.KernelSkipIdeal.nD Cert.KernelSkipIdeal.τ).loc Cert.KernelSkipIdeal.main_v0) = v0 c
          ∧ r.2.mem ((c.tc : Thread Cert.KernelSkipIdeal.nD Cert.KernelSkipIdeal.τ).loc Cert.KernelSkipIdeal.main_arg0) = m ((c.tc : Thread Cert.KernelSkipIdeal.nD Cert.KernelSkipIdeal.τ).loc Cert.KernelSkipIdeal.main_arg0)
          ∧ r.2.mem ((c.tc : Thread Cert.KernelSkipIdeal.nD Cert.KernelSkipIdeal.τ).loc Cert.KernelSkipIdeal.main_arg1) = m ((c.tc : Thread Cert.KernelSkipIdeal.nD Cert.KernelSkipIdeal.τ).loc Cert.KernelSkipIdeal.main_arg1)
          ∧ r.2.mem ((c.tc : Thread Cert.KernelSkipIdeal.nD Cert.KernelSkipIdeal.τ).loc Cert.KernelSkipIdeal.main_arg2) = m ((c.tc : Thread Cert.KernelSkipIdeal.nD Cert.KernelSkipIdeal.τ).loc Cert.KernelSkipIdeal.main_arg2)
          ∧ r.2.mem ((c.tc : Thread Cert.KernelSkipIdeal.nD Cert.KernelSkipIdeal.τ).loc Cert.KernelSkipIdeal.main_arg3) = m ((c.tc : Thread Cert.KernelSkipIdeal.nD Cert.KernelSkipIdeal.τ).loc Cert.KernelSkipIdeal.main_arg3)
          ∧ r.2.mem ((c.tc : Thread Cert.KernelSkipIdeal.nD Cert.KernelSkipIdeal.τ).loc Cert.KernelSkipIdeal.main_arg4) = m ((c.tc : Thread Cert.KernelSkipIdeal.nD Cert.KernelSkipIdeal.τ).loc Cert.KernelSkipIdeal.main_arg4)
          ∧ r.2.mem ((c.tc : Thread Cert.KernelSkipIdeal.nD Cert.KernelSkipIdeal.τ).loc Cert.KernelSkipIdeal.main_arg5) = m ((c.tc : Thread Cert.KernelSkipIdeal.nD Cert.KernelSkipIdeal.τ).loc Cert.KernelSkipIdeal.main_arg5)
          ∧ r.2.mem ((c.tc : Thread Cert.KernelSkipIdeal.nD Cert.KernelSkipIdeal.τ).loc Cert.KernelSkipIdeal.main_arg6) = m ((c.tc : Thread Cert.KernelSkipIdeal.nD Cert.KernelSkipIdeal.τ).loc Cert.KernelSkipIdeal.main_arg6))
      ∧ θ_run (Cert.ReferenceSkipIdeal.defs (F := Ideal)) (onTc (τ := Cert.ReferenceSkipIdeal.τ) (Cert.ReferenceSkipIdeal.main (F := Ideal))) ⟨m', fun _ => 0, g'⟩ (fun r => ∀ c : Dev Cert.ReferenceSkipIdeal.nD,
          r.2.mem ((c.tc : Thread Cert.ReferenceSkipIdeal.nD Cert.ReferenceSkipIdeal.τ).loc Cert.ReferenceSkipIdeal.main_v32) = v0 c
          ∧ r.2.mem ((c.tc : Thread Cert.ReferenceSkipIdeal.nD Cert.ReferenceSkipIdeal.τ).loc Cert.ReferenceSkipIdeal.main_arg0) = m' ((c.tc : Thread Cert.ReferenceSkipIdeal.nD Cert.ReferenceSkipIdeal.τ).loc Cert.ReferenceSkipIdeal.main_arg0)
          ∧ r.2.mem ((c.tc : Thread Cert.ReferenceSkipIdeal.nD Cert.ReferenceSkipIdeal.τ).loc Cert.ReferenceSkipIdeal.main_arg1) = m' ((c.tc : Thread Cert.ReferenceSkipIdeal.nD Cert.ReferenceSkipIdeal.τ).loc Cert.ReferenceSkipIdeal.main_arg1)
          ∧ r.2.mem ((c.tc : Thread Cert.ReferenceSkipIdeal.nD Cert.ReferenceSkipIdeal.τ).loc Cert.ReferenceSkipIdeal.main_arg2) = m' ((c.tc : Thread Cert.ReferenceSkipIdeal.nD Cert.ReferenceSkipIdeal.τ).loc Cert.ReferenceSkipIdeal.main_arg2)
          ∧ r.2.mem ((c.tc : Thread Cert.ReferenceSkipIdeal.nD Cert.ReferenceSkipIdeal.τ).loc Cert.ReferenceSkipIdeal.main_arg3) = m' ((c.tc : Thread Cert.ReferenceSkipIdeal.nD Cert.ReferenceSkipIdeal.τ).loc Cert.ReferenceSkipIdeal.main_arg3)
          ∧ r.2.mem ((c.tc : Thread Cert.ReferenceSkipIdeal.nD Cert.ReferenceSkipIdeal.τ).loc Cert.ReferenceSkipIdeal.main_arg4) = m' ((c.tc : Thread Cert.ReferenceSkipIdeal.nD Cert.ReferenceSkipIdeal.τ).loc Cert.ReferenceSkipIdeal.main_arg4)
          ∧ r.2.mem ((c.tc : Thread Cert.ReferenceSkipIdeal.nD Cert.ReferenceSkipIdeal.τ).loc Cert.ReferenceSkipIdeal.main_arg5) = m' ((c.tc : Thread Cert.ReferenceSkipIdeal.nD Cert.ReferenceSkipIdeal.τ).loc Cert.ReferenceSkipIdeal.main_arg5)
          ∧ r.2.mem ((c.tc : Thread Cert.ReferenceSkipIdeal.nD Cert.ReferenceSkipIdeal.τ).loc Cert.ReferenceSkipIdeal.main_arg6) = m' ((c.tc : Thread Cert.ReferenceSkipIdeal.nD Cert.ReferenceSkipIdeal.τ).loc Cert.ReferenceSkipIdeal.main_arg6))

def preserves_KernelFilt_KernelFiltIdeal : Prop :=
  True

def algebraic_KernelFiltIdeal_ReferenceFiltIdeal [hKernelFiltIdeal : Cert.KernelFiltIdeal.Facts] [hReferenceFiltIdeal : Cert.ReferenceFiltIdeal.Facts] : Prop :=
  ∀ (m : (ℓ : Loc Cert.KernelFiltIdeal.nD Cert.KernelFiltIdeal.τ Cert.KernelFiltIdeal.sig) → Buf (Elt Ideal) ℓ) (g : Dev Cert.KernelFiltIdeal.nD → PrngReg)
    (m' : (ℓ : Loc Cert.ReferenceFiltIdeal.nD Cert.ReferenceFiltIdeal.τ Cert.ReferenceFiltIdeal.sig) → Buf (Elt Ideal) ℓ) (g' : Dev Cert.ReferenceFiltIdeal.nD → PrngReg), Pre_KernelFiltIdeal m →
    (∀ c : Dev Cert.KernelFiltIdeal.nD,
      m' ((c.tc : Thread Cert.ReferenceFiltIdeal.nD Cert.ReferenceFiltIdeal.τ).loc Cert.ReferenceFiltIdeal.main_arg0) = m ((c.tc : Thread Cert.KernelFiltIdeal.nD Cert.KernelFiltIdeal.τ).loc Cert.KernelFiltIdeal.main_arg0)
      ∧ m' ((c.tc : Thread Cert.ReferenceFiltIdeal.nD Cert.ReferenceFiltIdeal.τ).loc Cert.ReferenceFiltIdeal.main_arg1) = m ((c.tc : Thread Cert.KernelFiltIdeal.nD Cert.KernelFiltIdeal.τ).loc Cert.KernelFiltIdeal.main_arg1)
      ∧ m' ((c.tc : Thread Cert.ReferenceFiltIdeal.nD Cert.ReferenceFiltIdeal.τ).loc Cert.ReferenceFiltIdeal.main_arg2) = m ((c.tc : Thread Cert.KernelFiltIdeal.nD Cert.KernelFiltIdeal.τ).loc Cert.KernelFiltIdeal.main_arg2)
      ∧ m' ((c.tc : Thread Cert.ReferenceFiltIdeal.nD Cert.ReferenceFiltIdeal.τ).loc Cert.ReferenceFiltIdeal.main_arg3) = m ((c.tc : Thread Cert.KernelFiltIdeal.nD Cert.KernelFiltIdeal.τ).loc Cert.KernelFiltIdeal.main_arg3)
      ∧ m' ((c.tc : Thread Cert.ReferenceFiltIdeal.nD Cert.ReferenceFiltIdeal.τ).loc Cert.ReferenceFiltIdeal.main_arg4) = m ((c.tc : Thread Cert.KernelFiltIdeal.nD Cert.KernelFiltIdeal.τ).loc Cert.KernelFiltIdeal.main_arg4)
      ∧ m' ((c.tc : Thread Cert.ReferenceFiltIdeal.nD Cert.ReferenceFiltIdeal.τ).loc Cert.ReferenceFiltIdeal.main_arg5) = m ((c.tc : Thread Cert.KernelFiltIdeal.nD Cert.KernelFiltIdeal.τ).loc Cert.KernelFiltIdeal.main_arg5)
      ∧ m' ((c.tc : Thread Cert.ReferenceFiltIdeal.nD Cert.ReferenceFiltIdeal.τ).loc Cert.ReferenceFiltIdeal.main_arg6) = m ((c.tc : Thread Cert.KernelFiltIdeal.nD Cert.KernelFiltIdeal.τ).loc Cert.KernelFiltIdeal.main_arg6)) →
    ∃ (v0 : (c : Dev Cert.KernelFiltIdeal.nD) → Buf (Elt Ideal) ((c.tc : Thread Cert.KernelFiltIdeal.nD Cert.KernelFiltIdeal.τ).loc Cert.KernelFiltIdeal.main_v0_0)) (v1 : (c : Dev Cert.KernelFiltIdeal.nD) → Buf (Elt Ideal) ((c.tc : Thread Cert.KernelFiltIdeal.nD Cert.KernelFiltIdeal.τ).loc Cert.KernelFiltIdeal.main_v0_1)),
      θ_run (Cert.KernelFiltIdeal.defs (F := Ideal)) (onTc (τ := Cert.KernelFiltIdeal.τ) (Cert.KernelFiltIdeal.main (F := Ideal))) ⟨m, fun _ => 0, g⟩ (fun r => ∀ c : Dev Cert.KernelFiltIdeal.nD,
          r.2.mem ((c.tc : Thread Cert.KernelFiltIdeal.nD Cert.KernelFiltIdeal.τ).loc Cert.KernelFiltIdeal.main_v0_0) = v0 c
          ∧ r.2.mem ((c.tc : Thread Cert.KernelFiltIdeal.nD Cert.KernelFiltIdeal.τ).loc Cert.KernelFiltIdeal.main_v0_1) = v1 c
          ∧ r.2.mem ((c.tc : Thread Cert.KernelFiltIdeal.nD Cert.KernelFiltIdeal.τ).loc Cert.KernelFiltIdeal.main_arg0) = m ((c.tc : Thread Cert.KernelFiltIdeal.nD Cert.KernelFiltIdeal.τ).loc Cert.KernelFiltIdeal.main_arg0)
          ∧ r.2.mem ((c.tc : Thread Cert.KernelFiltIdeal.nD Cert.KernelFiltIdeal.τ).loc Cert.KernelFiltIdeal.main_arg1) = m ((c.tc : Thread Cert.KernelFiltIdeal.nD Cert.KernelFiltIdeal.τ).loc Cert.KernelFiltIdeal.main_arg1)
          ∧ r.2.mem ((c.tc : Thread Cert.KernelFiltIdeal.nD Cert.KernelFiltIdeal.τ).loc Cert.KernelFiltIdeal.main_arg2) = m ((c.tc : Thread Cert.KernelFiltIdeal.nD Cert.KernelFiltIdeal.τ).loc Cert.KernelFiltIdeal.main_arg2)
          ∧ r.2.mem ((c.tc : Thread Cert.KernelFiltIdeal.nD Cert.KernelFiltIdeal.τ).loc Cert.KernelFiltIdeal.main_arg3) = m ((c.tc : Thread Cert.KernelFiltIdeal.nD Cert.KernelFiltIdeal.τ).loc Cert.KernelFiltIdeal.main_arg3)
          ∧ r.2.mem ((c.tc : Thread Cert.KernelFiltIdeal.nD Cert.KernelFiltIdeal.τ).loc Cert.KernelFiltIdeal.main_arg4) = m ((c.tc : Thread Cert.KernelFiltIdeal.nD Cert.KernelFiltIdeal.τ).loc Cert.KernelFiltIdeal.main_arg4)
          ∧ r.2.mem ((c.tc : Thread Cert.KernelFiltIdeal.nD Cert.KernelFiltIdeal.τ).loc Cert.KernelFiltIdeal.main_arg5) = m ((c.tc : Thread Cert.KernelFiltIdeal.nD Cert.KernelFiltIdeal.τ).loc Cert.KernelFiltIdeal.main_arg5)
          ∧ r.2.mem ((c.tc : Thread Cert.KernelFiltIdeal.nD Cert.KernelFiltIdeal.τ).loc Cert.KernelFiltIdeal.main_arg6) = m ((c.tc : Thread Cert.KernelFiltIdeal.nD Cert.KernelFiltIdeal.τ).loc Cert.KernelFiltIdeal.main_arg6))
      ∧ θ_run (Cert.ReferenceFiltIdeal.defs (F := Ideal)) (onTc (τ := Cert.ReferenceFiltIdeal.τ) (Cert.ReferenceFiltIdeal.main (F := Ideal))) ⟨m', fun _ => 0, g'⟩ (fun r => ∀ c : Dev Cert.ReferenceFiltIdeal.nD,
          r.2.mem ((c.tc : Thread Cert.ReferenceFiltIdeal.nD Cert.ReferenceFiltIdeal.τ).loc Cert.ReferenceFiltIdeal.main_v47) = v0 c
          ∧ r.2.mem ((c.tc : Thread Cert.ReferenceFiltIdeal.nD Cert.ReferenceFiltIdeal.τ).loc Cert.ReferenceFiltIdeal.main_v49) = v1 c
          ∧ r.2.mem ((c.tc : Thread Cert.ReferenceFiltIdeal.nD Cert.ReferenceFiltIdeal.τ).loc Cert.ReferenceFiltIdeal.main_arg0) = m' ((c.tc : Thread Cert.ReferenceFiltIdeal.nD Cert.ReferenceFiltIdeal.τ).loc Cert.ReferenceFiltIdeal.main_arg0)
          ∧ r.2.mem ((c.tc : Thread Cert.ReferenceFiltIdeal.nD Cert.ReferenceFiltIdeal.τ).loc Cert.ReferenceFiltIdeal.main_arg1) = m' ((c.tc : Thread Cert.ReferenceFiltIdeal.nD Cert.ReferenceFiltIdeal.τ).loc Cert.ReferenceFiltIdeal.main_arg1)
          ∧ r.2.mem ((c.tc : Thread Cert.ReferenceFiltIdeal.nD Cert.ReferenceFiltIdeal.τ).loc Cert.ReferenceFiltIdeal.main_arg2) = m' ((c.tc : Thread Cert.ReferenceFiltIdeal.nD Cert.ReferenceFiltIdeal.τ).loc Cert.ReferenceFiltIdeal.main_arg2)
          ∧ r.2.mem ((c.tc : Thread Cert.ReferenceFiltIdeal.nD Cert.ReferenceFiltIdeal.τ).loc Cert.ReferenceFiltIdeal.main_arg3) = m' ((c.tc : Thread Cert.ReferenceFiltIdeal.nD Cert.ReferenceFiltIdeal.τ).loc Cert.ReferenceFiltIdeal.main_arg3)
          ∧ r.2.mem ((c.tc : Thread Cert.ReferenceFiltIdeal.nD Cert.ReferenceFiltIdeal.τ).loc Cert.ReferenceFiltIdeal.main_arg4) = m' ((c.tc : Thread Cert.ReferenceFiltIdeal.nD Cert.ReferenceFiltIdeal.τ).loc Cert.ReferenceFiltIdeal.main_arg4)
          ∧ r.2.mem ((c.tc : Thread Cert.ReferenceFiltIdeal.nD Cert.ReferenceFiltIdeal.τ).loc Cert.ReferenceFiltIdeal.main_arg5) = m' ((c.tc : Thread Cert.ReferenceFiltIdeal.nD Cert.ReferenceFiltIdeal.τ).loc Cert.ReferenceFiltIdeal.main_arg5)
          ∧ r.2.mem ((c.tc : Thread Cert.ReferenceFiltIdeal.nD Cert.ReferenceFiltIdeal.τ).loc Cert.ReferenceFiltIdeal.main_arg6) = m' ((c.tc : Thread Cert.ReferenceFiltIdeal.nD Cert.ReferenceFiltIdeal.τ).loc Cert.ReferenceFiltIdeal.main_arg6))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v30) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)
      ∧ m' ((c.tc : Thread Cert.ReferenceMlpIdeal.nD Cert.ReferenceMlpIdeal.τ).loc Cert.ReferenceMlpIdeal.main_arg7) = m ((c.tc : Thread Cert.KernelMlpIdeal.nD Cert.KernelMlpIdeal.τ).loc Cert.KernelMlpIdeal.main_arg7)) →
    ∃ (v0 : (c : Dev Cert.KernelMlpIdeal.nD) → Buf (Elt Ideal) ((c.tc : Thread Cert.KernelMlpIdeal.nD Cert.KernelMlpIdeal.τ).loc Cert.KernelMlpIdeal.main_v8_0)) (v1 : (c : Dev Cert.KernelMlpIdeal.nD) → Buf (Elt Ideal) ((c.tc : Thread Cert.KernelMlpIdeal.nD Cert.KernelMlpIdeal.τ).loc Cert.KernelMlpIdeal.main_v8_1)) (v2 : (c : Dev Cert.KernelMlpIdeal.nD) → Buf (Elt Ideal) ((c.tc : Thread Cert.KernelMlpIdeal.nD Cert.KernelMlpIdeal.τ).loc Cert.KernelMlpIdeal.main_v8_2)) (v3 : (c : Dev Cert.KernelMlpIdeal.nD) → Buf (Elt Ideal) ((c.tc : Thread Cert.KernelMlpIdeal.nD Cert.KernelMlpIdeal.τ).loc Cert.KernelMlpIdeal.main_v8_3)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v8_0) = v0 c
          ∧ r.2.mem ((c.tc : Thread Cert.KernelMlpIdeal.nD Cert.KernelMlpIdeal.τ).loc Cert.KernelMlpIdeal.main_v8_1) = v1 c
          ∧ r.2.mem ((c.tc : Thread Cert.KernelMlpIdeal.nD Cert.KernelMlpIdeal.τ).loc Cert.KernelMlpIdeal.main_v8_2) = v2 c
          ∧ r.2.mem ((c.tc : Thread Cert.KernelMlpIdeal.nD Cert.KernelMlpIdeal.τ).loc Cert.KernelMlpIdeal.main_v8_3) = v3 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
          ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v125) = v0 c
          ∧ r.2.mem ((c.tc : Thread Cert.ReferenceMlpIdeal.nD Cert.ReferenceMlpIdeal.τ).loc Cert.ReferenceMlpIdeal.main_v129) = v1 c
          ∧ r.2.mem ((c.tc : Thread Cert.ReferenceMlpIdeal.nD Cert.ReferenceMlpIdeal.τ).loc Cert.ReferenceMlpIdeal.main_v121) = v2 c
          ∧ r.2.mem ((c.tc : Thread Cert.ReferenceMlpIdeal.nD Cert.ReferenceMlpIdeal.τ).loc Cert.ReferenceMlpIdeal.main_v131) = v3 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6)
          ∧ r.2.mem ((c.tc : Thread Cert.ReferenceMlpIdeal.nD Cert.ReferenceMlpIdeal.τ).loc Cert.ReferenceMlpIdeal.main_arg7) = m' ((c.tc : Thread Cert.ReferenceMlpIdeal.nD Cert.ReferenceMlpIdeal.τ).loc Cert.ReferenceMlpIdeal.main_arg7))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelInv : Cert.KernelInv.Facts) (hKernelInvIdeal : Cert.KernelInvIdeal.Facts) (hReferenceInvIdeal : Cert.ReferenceInvIdeal.Facts) (hKernelIn : Cert.KernelIn.Facts) (hKernelInIdeal : Cert.KernelInIdeal.Facts) (hReferenceInIdeal : Cert.ReferenceInIdeal.Facts) (hKernelMerge : Cert.KernelMerge.Facts) (hKernelMergeIdeal : Cert.KernelMergeIdeal.Facts) (hReferenceMergeIdeal : Cert.ReferenceMergeIdeal.Facts) (hKernelSkip : Cert.KernelSkip.Facts) (hKernelSkipIdeal : Cert.KernelSkipIdeal.Facts) (hReferenceSkipIdeal : Cert.ReferenceSkipIdeal.Facts) (hKernelFilt : Cert.KernelFilt.Facts) (hKernelFiltIdeal : Cert.KernelFiltIdeal.Facts) (hReferenceFiltIdeal : Cert.ReferenceFiltIdeal.Facts) (hKernelConv : Cert.KernelConv.Facts) (hKernelConvIdeal : Cert.KernelConvIdeal.Facts) (hReferenceConvIdeal : Cert.ReferenceConvIdeal.Facts) (hKernelMlp : Cert.KernelMlp.Facts) (hKernelMlpIdeal : Cert.KernelMlpIdeal.Facts) (hReferenceMlpIdeal : Cert.ReferenceMlpIdeal.Facts) (hPre_sine_rows_zero : Cert.Pre_sine_rows_zero.Facts),
    quiescent_Kernel (hKernel := hKernel)
    ∧ quiescent_KernelIdeal (hKernelIdeal := hKernelIdeal)
    ∧ quiescent_KernelIdeal_pre_sine_rows_zero (hKernelIdeal := hKernelIdeal) (hPre_sine_rows_zero := hPre_sine_rows_zero)
    ∧ quiescent_ReferenceIdeal (hReferenceIdeal := hReferenceIdeal)
    ∧ quiescent_ReferenceIdeal_pre_sine_rows_zero (hReferenceIdeal := hReferenceIdeal) (hPre_sine_rows_zero := hPre_sine_rows_zero)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelInv (hKernelInv := hKernelInv)
    ∧ quiescent_KernelInvIdeal (hKernelInvIdeal := hKernelInvIdeal)
    ∧ quiescent_ReferenceInvIdeal (hReferenceInvIdeal := hReferenceInvIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelSkip (hKernelSkip := hKernelSkip)
    ∧ quiescent_KernelSkipIdeal (hKernelSkipIdeal := hKernelSkipIdeal)
    ∧ quiescent_ReferenceSkipIdeal (hReferenceSkipIdeal := hReferenceSkipIdeal)
    ∧ quiescent_KernelFilt (hKernelFilt := hKernelFilt)
    ∧ quiescent_KernelFiltIdeal (hKernelFiltIdeal := hKernelFiltIdeal)
    ∧ quiescent_ReferenceFiltIdeal (hReferenceFiltIdeal := hReferenceFiltIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ preserves_Kernel_KernelIdeal
    ∧ algebraic_KernelIdeal_ReferenceIdeal_pre_sine_rows_zero (hKernelIdeal := hKernelIdeal) (hReferenceIdeal := hReferenceIdeal) (hPre_sine_rows_zero := hPre_sine_rows_zero)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelInv_KernelInvIdeal
    ∧ algebraic_KernelInvIdeal_ReferenceInvIdeal (hKernelInvIdeal := hKernelInvIdeal) (hReferenceInvIdeal := hReferenceInvIdeal)
    ∧ preserves_KernelIn_KernelInIdeal
    ∧ algebraic_KernelInIdeal_ReferenceInIdeal (hKernelInIdeal := hKernelInIdeal) (hReferenceInIdeal := hReferenceInIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelSkip_KernelSkipIdeal
    ∧ algebraic_KernelSkipIdeal_ReferenceSkipIdeal (hKernelSkipIdeal := hKernelSkipIdeal) (hReferenceSkipIdeal := hReferenceSkipIdeal)
    ∧ preserves_KernelFilt_KernelFiltIdeal
    ∧ algebraic_KernelFiltIdeal_ReferenceFiltIdeal (hKernelFiltIdeal := hKernelFiltIdeal) (hReferenceFiltIdeal := hReferenceFiltIdeal)
    ∧ preserves_KernelConv_KernelConvIdeal
    ∧ algebraic_KernelConvIdeal_ReferenceConvIdeal (hKernelConvIdeal := hKernelConvIdeal) (hReferenceConvIdeal := hReferenceConvIdeal)
    ∧ preserves_KernelMlp_KernelMlpIdeal
    ∧ algebraic_KernelMlpIdeal_ReferenceMlpIdeal (hKernelMlpIdeal := hKernelMlpIdeal) (hReferenceMlpIdeal := hReferenceMlpIdeal)
-- ==== Pre_sine_rows_zero.lean ====
abbrev S1024x1024 : Shape := ⟨2, ![1024, 1024]⟩
abbrev S4x2048x3072 : Shape := ⟨3, ![4, 2048, 3072]⟩
abbrev S4x1024x2048 : Shape := ⟨3, ![4, 1024, 2048]⟩
abbrev S2x2048 : Shape := ⟨2, ![2, 2048]⟩
abbrev S1x1x1024 : Shape := ⟨3, ![1, 1, 1024]⟩
abbrev S1024 : Shape := ⟨1, ![1024]⟩
abbrev S_ : Shape := ⟨0, ![]⟩

class Facts : Prop where
  slices_S4x1024x2048_S1x1x1024_1_0_0 : S4x1024x2048.Slices ![1, 0, 0] S1x1x1024
  shapeCasts_S1x1x1024_S1024 : S1x1x1024.ShapeCasts S1024
  bitsLt_bf16_f32 : FTy.bits .bf16 < FTy.bits .f32
  bcast_S_S1024 : S_.BroadcastsInDim S1024 (![] : Fin 0 → Fin S1024.rank)
  slices_S4x1024x2048_S1x1x1024_3_0_0 : S4x1024x2048.Slices ![3, 0, 0] S1x1x1024

variable [Facts]

def fn {F : FTy → Type} [FloatOps F] (main_arg0 : FVec F S1024x1024 .bf16) (main_arg1 : FVec F S1024x1024 .bf16) (main_arg2 : FVec F S1024x1024 .bf16) (main_arg3 : FVec F S1024x1024 .bf16) (main_arg4 : FVec F S4x2048x3072 .bf16) (main_arg5 : FVec F S4x1024x2048 .bf16) (main_arg6 : FVec F S2x2048 .f32) : IVec S1024 1 :=
  let main_v0 : FVec F S1x1x1024 .bf16 := (extractStridedSlice S1x1x1024 ![1, 0, 0] · slices_S4x1024x2048_S1x1x1024_1_0_0) main_arg5
  let main_v1 : FVec F S1024 .bf16 := shapeCast S1024 main_v0 shapeCasts_S1x1x1024_S1024
  let main_v2 : FVec F S1024 .f32 := (extf .f32 · bitsLt_bf16_f32) main_v1
  let main_cst : FVec F S_ .f32 := constant S_ .f32 0x00000000#32
  let main_v3 : FVec F S1024 .f32 := broadcastInDim S1024 ![] bcast_S_S1024 main_cst
  let main_v4 : IVec S1024 1 := cmpf .oeq main_v2 main_v3
  let main_v5 : FVec F S1x1x1024 .bf16 := (extractStridedSlice S1x1x1024 ![3, 0, 0] · slices_S4x1024x2048_S1x1x1024_3_0_0) main_arg5
  let main_v6 : FVec F S1024 .bf16 := shapeCast S1024 main_v5 shapeCasts_S1x1x1024_S1024
  let main_v7 : FVec F S1024 .f32 := (extf .f32 · bitsLt_bf16_f32) main_v6
  let main_cst_0 : FVec F S_ .f32 := constant S_ .f32 0x00000000#32
  let main_v8 : FVec F S1024 .f32 := broadcastInDim S1024 ![] bcast_S_S1024 main_cst_0
  let main_v9 : IVec S1024 1 := cmpf .oeq main_v7 main_v8
  let main_v10 : IVec S1024 1 := andi main_v4 main_v9
  main_v10
-- ==== Kernel.lean ====
abbrev S1024x1024 : Shape := ⟨2, ![1024, 1024]⟩
abbrev S4x2048x3072 : Shape := ⟨3, ![4, 2048, 3072]⟩
abbrev S4x1024x2048 : Shape := ⟨3, ![4, 1024, 2048]⟩
abbrev S2x2048 : Shape := ⟨2, ![2, 2048]⟩
abbrev S4x4x1024x1024 : Shape := ⟨4, ![4, 4, 1024, 1024]⟩
abbrev S1x2048x1024 : Shape := ⟨3, ![1, 2048, 1024]⟩
abbrev S4x512x1024 : Shape := ⟨3, ![4, 512, 1024]⟩
abbrev S2x1024 : Shape := ⟨2, ![2, 1024]⟩
abbrev S1x4x512x1024 : Shape := ⟨4, ![1, 4, 512, 1024]⟩
abbrev S1x1024x1024 : Shape := ⟨3, ![1, 1024, 1024]⟩
abbrev S512x1024 : Shape := ⟨2, ![512, 1024]⟩
abbrev S1x512x1024 : Shape := ⟨3, ![1, 512, 1024]⟩
abbrev S1x1024 : Shape := ⟨2, ![1, 1024]⟩
abbrev S1x1x512x1024 : Shape := ⟨4, ![1, 1, 512, 1024]⟩

abbrev nBuf : Space → Nat
  | .hbm => 8
  | .vmem => 11
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4x2048x3072, .bf16⟩
  | .hbm, ⟨5, _⟩ => ⟨S4x1024x2048, .bf16⟩
  | .hbm, ⟨6, _⟩ => ⟨S2x2048, .f32⟩
  | .hbm, ⟨7, _⟩ => ⟨S4x4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S4x512x1024, .bf16⟩
  | .local _ .vmem, ⟨7, _⟩ => ⟨S4x512x1024, .bf16⟩
  | .local _ .vmem, ⟨8, _⟩ => ⟨S2x1024, .f32⟩
  | .local _ .vmem, ⟨9, _⟩ => ⟨S1x4x512x1024, .bf16⟩
  | .local _ .vmem, ⟨10, _⟩ => ⟨S1x4x512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v6 : Index := Scalar.indexCast v1
  let c0_4 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S1024x1024 : Shape := ⟨2, ![1024, 1024]⟩
abbrev S4x2048x3072 : Shape := ⟨3, ![4, 2048, 3072]⟩
abbrev S4x1024x2048 : Shape := ⟨3, ![4, 1024, 2048]⟩
abbrev S2x2048 : Shape := ⟨2, ![2, 2048]⟩
abbrev S4x2048x1024 : Shape := ⟨3, ![4, 2048, 1024]⟩
abbrev S4x1024x1024 : Shape := ⟨3, ![4, 1024, 1024]⟩
abbrev S2x1024 : Shape := ⟨2, ![2, 1024]⟩
abbrev S_ : Shape := ⟨0, ![]⟩
abbrev S1x1024x1024 : Shape := ⟨3, ![1, 1024, 1024]⟩
abbrev S1x1024 : Shape := ⟨2, ![1, 1024]⟩
abbrev S4x1024x1 : Shape := ⟨3, ![4, 1024, 1]⟩
abbrev S4x1x1024 : Shape := ⟨3, ![4, 1, 1024]⟩
abbrev S1024 : Shape := ⟨1, ![1024]⟩
abbrev S1x1x1024 : Shape := ⟨3, ![1, 1, 1024]⟩
abbrev S1x1024x1 : Shape := ⟨3, ![1, 1024, 1]⟩
abbrev S4x1x1024x1024 : Shape := ⟨4, ![4, 1, 1024, 1024]⟩
abbrev S4x4x1024x1024 : Shape := ⟨4, ![4, 4, 1024, 1024]⟩

abbrev nBuf : Space → Nat
  | .hbm => 130
  | .vmem => 0
  | .smem => 0
  | _ => 0

abbrev hbmTy0_0 (i : Nat) : BufTy := match i % 128 with
  | 0 => ⟨S1024x1024, .bf16⟩
  | 1 => ⟨S1024x1024, .bf16⟩
  | 2 => ⟨S1024x1024, .bf16⟩
  | 3 => ⟨S1024x1024, .bf16⟩
  | 4 => ⟨S4x2048x3072, .bf16⟩
  | 5 => ⟨S4x1024x2048, .bf16⟩
  | 6 => ⟨S2x2048, .f32⟩
  | 7 => ⟨S1024x1024, .f32⟩
  | 8 => ⟨S1024x1024, .f32⟩
  | 9 => ⟨S1024x1024, .f32⟩
  | 10 => ⟨S1024x1024, .f32⟩
  | 11 => ⟨S4x2048x1024, .bf16⟩
  | 12 => ⟨S4x2048x1024, .f32⟩
  | 13 => ⟨S4x1024x1024, .bf16⟩
  | 14 => ⟨S4x1024x1024, .f32⟩
  | 15 => ⟨S2x1024, .f32⟩
  | 16 => ⟨S4x1024x1024, .f32⟩
  | 17 => ⟨S4x1024x1024, .f32⟩
  | 18 => ⟨S1024x1024, .i32⟩
  | 19 => ⟨S_, .i32⟩
  | 20 => ⟨S1024x1024, .i32⟩
  | 21 => ⟨S1024x1024, .i1⟩
  | 22 => ⟨S_, .f32⟩
  | 23 => ⟨S_, .f32⟩
  | 24 => ⟨S1024x1024, .f32⟩
  | 25 => ⟨S1024x1024, .f32⟩
  | 26 => ⟨S_, .f32⟩
  | 27 => ⟨S_, .f32⟩
  | 28 => ⟨S1024x1024, .f32⟩
  | 29 => ⟨S1024x1024, .f32⟩
  | 30 => ⟨S4x1024x1024, .f32⟩
  | 31 => ⟨S4x1024x1024, .f32⟩
  | 32 => ⟨S4x1024x1024, .f32⟩
  | 33 => ⟨S4x1024x1024, .f32⟩
  | 34 => ⟨S4x1024x1024, .f32⟩
  | 35 => ⟨S4x1024x1024, .f32⟩
  | 36 => ⟨S4x1024x1024, .f32⟩
  | 37 => ⟨S4x1024x1024, .f32⟩
  | 38 => ⟨S4x1024x1024, .f32⟩
  | 39 => ⟨S4x1024x1024, .f32⟩
  | 40 => ⟨S1x1024x1024, .f32⟩
  | 41 => ⟨S1024x1024, .f32⟩
  | 42 => ⟨S1x1024x1024, .f32⟩
  | 43 => ⟨S1024x1024, .f32⟩
  | 44 => ⟨S1x1024x1024, .f32⟩
  | 45 => ⟨S4x1024x1024, .f32⟩
  | 46 => ⟨S4x1024x1024, .f32⟩
  | 47 => ⟨S1x1024x1024, .f32⟩
  | 48 => ⟨S4x1024x1024, .f32⟩
  | 49 => ⟨S4x1024x1024, .f32⟩
  | 50 => ⟨S4x1024x1024, .f32⟩
  | 51 => ⟨S1x1024x1024, .f32⟩
  | 52 => ⟨S4x1024x1024, .f32⟩
  | 53 => ⟨S4x1024x1024, .f32⟩
  | 54 => ⟨S1x1024x1024, .f32⟩
  | 55 => ⟨S4x1024x1024, .f32⟩
  | 56 => ⟨S4x1024x1024, .f32⟩
  | 57 => ⟨S4x1024x1024, .f32⟩
  | 58 => ⟨S4x1024x1024, .f32⟩
  | 59 => ⟨S4x1024x1024, .f32⟩
  | 60 => ⟨S4x1024x1024, .f32⟩
  | 61 => ⟨S4x1024x1024, .f32⟩
  | 62 => ⟨S4x1024x1024, .f32⟩
  | 63 => ⟨S4x1024x1024, .f32⟩
  | 64 => ⟨S4x1024x1024, .f32⟩
  | 65 => ⟨S4x1024x1024, .f32⟩
  | 66 => ⟨S4x1024x1024, .f32⟩
  | 67 => ⟨S4x1024x1024, .f32⟩
  | 68 => ⟨S1x1024x1024, .f32⟩
  | 69 => ⟨S1024x1024, .f32⟩
  | 70 => ⟨S1x1024x1024, .f32⟩
  | 71 => ⟨S1024x1024, .f32⟩
  | 72 => ⟨S1x1024x1024, .f32⟩
  | 73 => ⟨S4x1024x1024, .f32⟩
  | 74 => ⟨S4x1024x1024, .f32⟩
  | 75 => ⟨S1x1024x1024, .f32⟩
  | 76 => ⟨S4x1024x1024, .f32⟩
  | 77 => ⟨S4x1024x1024, .f32⟩
  | 78 => ⟨S4x1024x1024, .f32⟩
  | 79 => ⟨S1x1024x1024, .f32⟩
  | 80 => ⟨S4x1024x1024, .f32⟩
  | 81 => ⟨S4x1024x1024, .f32⟩
  | 82 => ⟨S1x1024x1024, .f32⟩
  | 83 => ⟨S4x1024x1024, .f32⟩
  | 84 => ⟨S4x1024x1024, .f32⟩
  | 85 => ⟨S4x1024x1024, .f32⟩
  | 86 => ⟨S1x1024, .f32⟩
  | 87 => ⟨S4x1024x1, .f32⟩
  | 88 => ⟨S4x1x1024, .f32⟩
  | 89 => ⟨S1x1024, .f32⟩
  | 90 => ⟨S4x1024x1, .f32⟩
  | 91 => ⟨S4x1x1024, .f32⟩
  | 92 => ⟨S1x1024, .f32⟩
  | 93 => ⟨S1024, .f32⟩
  | 94 => ⟨S1x1024, .f32⟩
  | 95 => ⟨S1024, .f32⟩
  | 96 => ⟨S1x1x1024, .f32⟩
  | 97 => ⟨S4x1x1024, .f32⟩
  | 98 => ⟨S4x1x1024, .f32⟩
  | 99 => ⟨S1x1x1024, .f32⟩
  | 100 => ⟨S4x1x1024, .f32⟩
  | 101 => ⟨S4x1x1024, .f32⟩
  | 102 => ⟨S4x1x1024, .f32⟩
  | 103 => ⟨S1x1x1024, .f32⟩
  | 104 => ⟨S4x1x1024, .f32⟩
  | 105 => ⟨S4x1x1024, .f32⟩
  | 106 => ⟨S1x1x1024, .f32⟩
  | 107 => ⟨S4x1x1024, .f32⟩
  | 108 => ⟨S4x1x1024, .f32⟩
  | 109 => ⟨S4x1x1024, .f32⟩
  | 110 => ⟨S1x1024x1, .i32⟩
  | 111 => ⟨S_, .i32⟩
  | 112 => ⟨S1x1024x1, .i32⟩
  | 113 => ⟨S1x1024x1, .i1⟩
  | 114 => ⟨S4x1024x1024, .f32⟩
  | 115 => ⟨S4x1024x1024, .f32⟩
  | 116 => ⟨S4x1024x1024, .f32⟩
  | 117 => ⟨S4x1024x1024, .i1⟩
  | 118 => ⟨S4x1024x1024, .f32⟩
  | 119 => ⟨S4x1024x1024, .f32⟩
  | 120 => ⟨S4x1024x1024, .f32⟩
  | 121 => ⟨S4x1024x1024, .i1⟩
  | 122 => ⟨S4x1024x1024, .f32⟩
  | 123 => ⟨S4x1024x1024, .f32⟩
  | 124 => ⟨S4x1x1024x1024, .f32⟩
  | 125 => ⟨S4x1x1024x1024, .f32⟩
  | 126 => ⟨S4x1x1024x1024, .f32⟩
  | 127 => ⟨S4x1x1024x1024, .f32⟩
  | _ => ⟨S1024x1024, .bf16⟩

abbrev hbmTy0_1 (i : Nat) : BufTy := match i % 128 with
  | 0 => ⟨S4x4x1024x1024, .f32⟩
  | 1 => ⟨S4x4x1024x1024, .bf16⟩
  | _ => ⟨S1024x1024, .bf16⟩

abbrev hbmTy (i : Nat) : BufTy := match i / 128 with
  | 0 => hbmTy0_0 i
  | 1 => hbmTy0_1 i
  | _ => ⟨S1024x1024, .bf16⟩

abbrev bufTy : (tb : Table) → Fin (tcTables nBuf tb) → BufTy
  | .hbm, ⟨i, _⟩ => hbmTy i
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_c_1 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_call2_v0 : Ref sig .tc := ⟨.hbm, 117, rfl⟩
abbrev main_call2_v1 : Ref sig .tc := ⟨.hbm, 118, rfl⟩
abbrev main_v102 : Ref sig .tc := ⟨.hbm, 119, rfl⟩
abbrev main_v103 : Ref sig .tc := ⟨.hbm, 120, rfl⟩
abbrev main_call3_v0 : Ref sig .tc := ⟨.hbm, 121, rfl⟩
abbrev main_call3_v1 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]
-- ==== KernelFfn.lean ====
abbrev S8192x2048 : Shape := ⟨2, ![8192, 2048]⟩
abbrev S1x2048 : Shape := ⟨2, ![1, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFfnIdeal.lean ====
abbrev S8192x2048 : Shape := ⟨2, ![8192, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x11264 : Shape := ⟨2, ![8192, 11264]⟩
abbrev S8192x5632 : Shape := ⟨2, ![8192, 5632]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S2048x11264, .f32⟩
  | .hbm, ⟨21, _⟩ => ⟨S8192x11264, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S5632x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== KernelInv.lean ====
abbrev S1024x1024 : Shape := ⟨2, ![1024, 1024]⟩
abbrev S4x4x1024x1024 : Shape := ⟨4, ![4, 4, 1024, 1024]⟩
abbrev S4x2x1024x3072 : Shape := ⟨4, ![4, 2, 1024, 3072]⟩
abbrev S4x2x1024x1024 : Shape := ⟨4, ![4, 2, 1024, 1024]⟩
abbrev S2x1024 : Shape := ⟨2, ![2, 1024]⟩
abbrev S4x2048x1024 : Shape := ⟨3, ![4, 2048, 1024]⟩
abbrev S1x4x1024x1024 : Shape := ⟨4, ![1, 4, 1024, 1024]⟩
abbrev S1x2x512x1024 : Shape := ⟨4, ![1, 2, 512, 1024]⟩
abbrev S1x1024x1024 : Shape := ⟨3, ![1, 1024, 1024]⟩
abbrev S8x1024x128 : Shape := ⟨3, ![8, 1024, 128]⟩
abbrev S512x1024 : Shape := ⟨2, ![512, 1024]⟩
abbrev S1x1x1024x1024 : Shape := ⟨4, ![1, 1, 1024, 1024]⟩
abbrev S1x1024 : Shape := ⟨2, ![1, 1024]⟩
abbrev S1x1x512x1024 : Shape := ⟨4, ![1, 1, 512, 1024]⟩
abbrev S512x128 : Shape := ⟨2, ![512, 128]⟩
abbrev S1x512x128 : Shape := ⟨3, ![1, 512, 128]⟩
abbrev S1x1024x128 : Shape := ⟨3, ![1, 1024, 128]⟩
abbrev S1024x128 : Shape := ⟨2, ![1024, 128]⟩

abbrev nBuf : Space → Nat
  | .hbm => 9
  | .vmem => 14
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4x4x1024x1024, .bf16⟩
  | .hbm, ⟨5, _⟩ => ⟨S4x2x1024x3072, .bf16⟩
  | .hbm, ⟨6, _⟩ => ⟨S4x2x1024x1024, .bf16⟩
  | .hbm, ⟨7, _⟩ => ⟨S2x1024, .f32⟩
  | .hbm, ⟨8, _⟩ => ⟨S4x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x4x1024x1024, .bf16⟩
  | .local _ .vmem, ⟨5, _⟩ => ⟨S1x4x1024x1024, .bf16⟩
  | .local _ .vmem, ⟨6, _⟩ => ⟨S1x2x512x1024, .bf16⟩
  | .local _ .vmem, ⟨7, _⟩ => ⟨S1x2x512x1024, .bf16⟩
  | .local _ .vmem, ⟨8, _⟩ => ⟨S1x2x512x1024, .bf16⟩
  | .local _ .vmem, ⟨9, _⟩ => ⟨S1x2x512x1024, .bf16⟩
  | .local _ .vmem, ⟨10, _⟩ => ⟨S2x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S8x1024x128, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceInvIdeal.lean ====
abbrev S1024x1024 : Shape := ⟨2, ![1024, 1024]⟩
abbrev S4x4x1024x1024 : Shape := ⟨4, ![4, 4, 1024, 1024]⟩
abbrev S4x2x1024x3072 : Shape := ⟨4, ![4, 2, 1024, 3072]⟩
abbrev S4x2x1024x1024 : Shape := ⟨4, ![4, 2, 1024, 1024]⟩
abbrev S2x1024 : Shape := ⟨2, ![2, 1024]⟩
abbrev S1024x2048 : Shape := ⟨2, ![1024, 2048]⟩
abbrev S4x1x1024x1024 : Shape := ⟨4, ![4, 1, 1024, 1024]⟩
abbrev S4x1024x1024 : Shape := ⟨3, ![4, 1024, 1024]⟩
abbrev S4x2048x1024 : Shape := ⟨3, ![4, 2048, 1024]⟩
abbrev S4x1024x2x1024 : Shape := ⟨4, ![4, 1024, 2, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4x4x1024x1024, .bf16⟩
  | .hbm, ⟨5, _⟩ => ⟨S4x2x1024x3072, .bf16⟩
  | .hbm, ⟨6, _⟩ => ⟨S4x2x1024x1024, .bf16⟩
  | .hbm, ⟨7, _⟩ => ⟨S2x1024, .f32⟩
  | .hbm, ⟨8, _⟩ => ⟨S4x4x1024x1024, .f32⟩
  | .hbm, ⟨9, _⟩ => ⟨S1024x2048, .bf16⟩
  | .hbm, ⟨10, _⟩ => ⟨S4x1x1024x1024, .f32⟩
  | .hbm, ⟨11, _⟩ => ⟨S4x1024x1024, .f32⟩
  | .hbm, ⟨12, _⟩ => ⟨S4x1x1024x1024, .f32⟩
  | .hbm, ⟨13, _⟩ => ⟨S4x1024x1024, .f32⟩
  | .hbm, ⟨14, _⟩ => ⟨S4x2048x1024, .f32⟩
  | .hbm, ⟨15, _⟩ => ⟨S1024x2048, .f32⟩
  | .hbm, ⟨16, _⟩ => ⟨S4x1024x1024, .f32⟩
  | .hbm, ⟨17, _⟩ => ⟨S4x1024x1024, .f32⟩
  | .hbm, ⟨18, _⟩ => ⟨S1024x2048, .bf16⟩
  | .hbm, ⟨19, _⟩ => ⟨S4x1x1024x1024, .f32⟩
  | .hbm, ⟨20, _⟩ => ⟨S4x1024x1024, .f32⟩
  | .hbm, ⟨21, _⟩ => ⟨S4x1x1024x1024, .f32⟩
  | .hbm, ⟨22, _⟩ => ⟨S4x1024x1024, .f32⟩
  | .hbm, ⟨23, _⟩ => ⟨S4x2048x1024, .f32⟩
  | .hbm, ⟨24, _⟩ => ⟨S1024x2048, .f32⟩
  | .hbm, ⟨25, _⟩ => ⟨S4x1024x1024, .f32⟩
  | .hbm, ⟨26, _⟩ => ⟨S4x1024x1024, .f32⟩
  | .hbm, ⟨27, _⟩ => ⟨S4x1x1024x1024, .f32⟩
  | .hbm, ⟨28, _⟩ => ⟨S4x1x1024x1024, .f32⟩
  | .hbm, ⟨29, _⟩ => ⟨S4x2x1024x1024, .f32⟩
  | .hbm, ⟨30, _⟩ => ⟨S4x1024x2x1024, .f32⟩
  | .hbm, ⟨31, _⟩ => ⟨S4x2048x1024, .f32⟩
  | .hbm, ⟨32, _⟩ => ⟨S4x2x1024x1024, .bf16⟩
  | .hbm, ⟨33, _⟩ => ⟨S4x2x1024x1024, .f32⟩
  | .hbm, ⟨34, _⟩ => ⟨S4x1024x2x1024, .f32⟩
  | .hbm, ⟨35, _⟩ => ⟨S4x2048x1024, .f32⟩
  | .hbm, ⟨36, _⟩ => ⟨S4x2x1024x1024, .f32⟩
  | .hbm, ⟨37, _⟩ => ⟨S4x1024x2x1024, .f32⟩
  | .hbm, ⟨38, _⟩ => ⟨S4x2048x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== KernelIn.lean ====
abbrev S8192x2048 : Shape := ⟨2, ![8192, 2048]⟩
abbrev S1x2048 : Shape := ⟨2, ![1, 2048]⟩
abbrev S1024x9216 : Shape := ⟨2, ![1024, 9216]⟩
abbrev S8192x9216 : Shape := ⟨2, ![8192, 9216]⟩
abbrev S1024x2048 : Shape := ⟨2, ![1024, 2048]⟩
abbrev S1024x2304 : Shape := ⟨2, ![1024, 2304]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1024x9216, .bf16⟩
  | .hbm, ⟨3, _⟩ => ⟨S1024x9216, .bf16⟩
  | .hbm, ⟨4, _⟩ => ⟨S8192x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2304, .bf16⟩
  | .local _ .vmem, ⟨4, _⟩ => ⟨S1024x2304, .bf16⟩
  | .local _ .vmem, ⟨5, _⟩ => ⟨S1024x2304, .bf16⟩
  | .local _ .vmem, ⟨6, _⟩ => ⟨S1024x2304, .bf16⟩
  | .local _ .vmem, ⟨7, _⟩ => ⟨S1024x2304, .bf16⟩
  | .local _ .vmem, ⟨8, _⟩ => ⟨S1024x2304, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInIdeal.lean ====
abbrev S8192x2048 : Shape := ⟨2, ![8192, 2048]⟩
abbrev S1x2048 : Shape := ⟨2, ![1, 2048]⟩
abbrev S1024x9216 : Shape := ⟨2, ![1024, 9216]⟩
abbrev S2048x9216 : Shape := ⟨2, ![2048, 9216]⟩
abbrev S_ : Shape := ⟨0, ![]⟩
abbrev S8192 : Shape := ⟨1, ![8192]⟩
abbrev S8192x1 : Shape := ⟨2, ![8192, 1]⟩
abbrev S8192x9216 : Shape := ⟨2, ![8192, 9216]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1024x9216, .bf16⟩
  | .hbm, ⟨3, _⟩ => ⟨S1024x9216, .bf16⟩
  | .hbm, ⟨4, _⟩ => ⟨S2048x9216, .bf16⟩
  | .hbm, ⟨5, _⟩ => ⟨S2048x9216, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x9216, .f32⟩
  | .hbm, ⟨22, _⟩ => ⟨S8192x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelMerge.lean ====
abbrev S8192x1024 : Shape := ⟨2, ![8192, 1024]⟩
abbrev S8192x9216 : Shape := ⟨2, ![8192, 9216]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x9216, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMergeIdeal.lean ====
abbrev S8192x1024 : Shape := ⟨2, ![8192, 1024]⟩
abbrev S8192x9216 : Shape := ⟨2, ![8192, 9216]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x9216, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S8192x1024, .f32⟩
  | .hbm, ⟨9, _⟩ => ⟨S8192x1024, .f32⟩
  | .hbm, ⟨10, _⟩ => ⟨S8192x9216, .f32⟩
  | .hbm, ⟨11, _⟩ => ⟨S1024x2048, .f32⟩
  | .hbm, ⟨12, _⟩ => ⟨S1024x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== KernelSkip.lean ====
abbrev S1024x1024 : Shape := ⟨2, ![1024, 1024]⟩
abbrev S4x4x1024x1024 : Shape := ⟨4, ![4, 4, 1024, 1024]⟩
abbrev S4x2x1024x3072 : Shape := ⟨4, ![4, 2, 1024, 3072]⟩
abbrev S2x1024 : Shape := ⟨2, ![2, 1024]⟩
abbrev S4x2x1024x1024 : Shape := ⟨4, ![4, 2, 1024, 1024]⟩
abbrev S1x4x1024x1024 : Shape := ⟨4, ![1, 4, 1024, 1024]⟩
abbrev S1x2x512x1024 : Shape := ⟨4, ![1, 2, 512, 1024]⟩
abbrev S512x1024 : Shape := ⟨2, ![512, 1024]⟩
abbrev S1x1x1024x1024 : Shape := ⟨4, ![1, 1, 1024, 1024]⟩
abbrev S1x1024 : Shape := ⟨2, ![1, 1024]⟩
abbrev S1x1x512x1024 : Shape := ⟨4, ![1, 1, 512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4x4x1024x1024, .bf16⟩
  | .hbm, ⟨5, _⟩ => ⟨S4x2x1024x3072, .bf16⟩
  | .hbm, ⟨6, _⟩ => ⟨S2x1024, .f32⟩
  | .hbm, ⟨7, _⟩ => ⟨S4x2x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x4x1024x1024, .bf16⟩
  | .local _ .vmem, ⟨5, _⟩ => ⟨S1x4x1024x1024, .bf16⟩
  | .local _ .vmem, ⟨6, _⟩ => ⟨S1x2x512x1024, .bf16⟩
  | .local _ .vmem, ⟨7, _⟩ => ⟨S1x2x512x1024, .bf16⟩
  | .local _ .vmem, ⟨8, _⟩ => ⟨S1x2x512x1024, .bf16⟩
  | .local _ .vmem, ⟨9, _⟩ => ⟨S1x2x512x1024, .bf16⟩
  | .local _ .vmem, ⟨10, _⟩ => ⟨S2x1024, .f32⟩
  | .local _ .vmem, ⟨11, _⟩ => ⟨S1x2x512x1024, .bf16⟩
  | .local _ .vmem, ⟨12, _⟩ => ⟨S1x2x512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceSkipIdeal.lean ====
abbrev S1024x1024 : Shape := ⟨2, ![1024, 1024]⟩
abbrev S4x4x1024x1024 : Shape := ⟨4, ![4, 4, 1024, 1024]⟩
abbrev S4x2x1024x3072 : Shape := ⟨4, ![4, 2, 1024, 3072]⟩
abbrev S2x1024 : Shape := ⟨2, ![2, 1024]⟩
abbrev S1024x2048 : Shape := ⟨2, ![1024, 2048]⟩
abbrev S4x1x1024x1024 : Shape := ⟨4, ![4, 1, 1024, 1024]⟩
abbrev S4x1024x1024 : Shape := ⟨3, ![4, 1024, 1024]⟩
abbrev S4x2048x1024 : Shape := ⟨3, ![4, 2048, 1024]⟩
abbrev S4x2x1024x1024 : Shape := ⟨4, ![4, 2, 1024, 1024]⟩
abbrev S1x1024 : Shape := ⟨2, ![1, 1024]⟩
abbrev S1024 : Shape := ⟨1, ![1024]⟩
abbrev S1x1x1x1024 : Shape := ⟨4, ![1, 1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4x4x1024x1024, .bf16⟩
  | .hbm, ⟨5, _⟩ => ⟨S4x2x1024x3072, .bf16⟩
  | .hbm, ⟨6, _⟩ => ⟨S2x1024, .f32⟩
  | .hbm, ⟨7, _⟩ => ⟨S4x4x1024x1024, .f32⟩
  | .hbm, ⟨8, _⟩ => ⟨S4x2x1024x3072, .f32⟩
  | .hbm, ⟨9, _⟩ => ⟨S1024x2048, .bf16⟩
  | .hbm, ⟨10, _⟩ => ⟨S4x1x1024x1024, .f32⟩
  | .hbm, ⟨11, _⟩ => ⟨S4x1024x1024, .f32⟩
  | .hbm, ⟨12, _⟩ => ⟨S4x1x1024x1024, .f32⟩
  | .hbm, ⟨13, _⟩ => ⟨S4x1024x1024, .f32⟩
  | .hbm, ⟨14, _⟩ => ⟨S4x2048x1024, .f32⟩
  | .hbm, ⟨15, _⟩ => ⟨S1024x2048, .f32⟩
  | .hbm, ⟨16, _⟩ => ⟨S4x1024x1024, .f32⟩
  | .hbm, ⟨17, _⟩ => ⟨S4x1024x1024, .f32⟩
  | .hbm, ⟨18, _⟩ => ⟨S1024x2048, .bf16⟩
  | .hbm, ⟨19, _⟩ => ⟨S4x1x1024x1024, .f32⟩
  | .hbm, ⟨20, _⟩ => ⟨S4x1024x1024, .f32⟩
  | .hbm, ⟨21, _⟩ => ⟨S4x1x1024x1024, .f32⟩
  | .hbm, ⟨22, _⟩ => ⟨S4x1024x1024, .f32⟩
  | .hbm, ⟨23, _⟩ => ⟨S4x2048x1024, .f32⟩
  | .hbm, ⟨24, _⟩ => ⟨S1024x2048, .f32⟩
  | .hbm, ⟨25, _⟩ => ⟨S4x1024x1024, .f32⟩
  | .hbm, ⟨26, _⟩ => ⟨S4x1024x1024, .f32⟩
  | .hbm, ⟨27, _⟩ => ⟨S4x1x1024x1024, .f32⟩
  | .hbm, ⟨28, _⟩ => ⟨S4x1x1024x1024, .f32⟩
  | .hbm, ⟨29, _⟩ => ⟨S4x2x1024x1024, .f32⟩
  | .hbm, ⟨30, _⟩ => ⟨S4x2x1024x1024, .f32⟩
  | .hbm, ⟨31, _⟩ => ⟨S4x2x1024x1024, .f32⟩
  | .hbm, ⟨32, _⟩ => ⟨S1x1024, .f32⟩
  | .hbm, ⟨33, _⟩ => ⟨S1024, .f32⟩
  | .hbm, ⟨34, _⟩ => ⟨S1x1x1x1024, .f32⟩
  | .hbm, ⟨35, _⟩ => ⟨S4x2x1024x1024, .f32⟩
  | .hbm, ⟨36, _⟩ => ⟨S4x2x1024x1024, .f32⟩
  | .hbm, ⟨37, _⟩ => ⟨S4x2x1024x1024, .f32⟩
  | .hbm, ⟨38, _⟩ => ⟨S4x2x1024x1024, .f32⟩
  | .hbm, ⟨39, _⟩ => ⟨S4x2x1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelFilt.lean ====
abbrev S1024x1024 : Shape := ⟨2, ![1024, 1024]⟩
abbrev S2048x2048 : Shape := ⟨2, ![2048, 2048]⟩
abbrev S2048x9216 : Shape := ⟨2, ![2048, 9216]⟩
abbrev S4x1024x2048 : Shape := ⟨3, ![4, 1024, 2048]⟩
abbrev S1024x9216 : Shape := ⟨2, ![1024, 9216]⟩
abbrev S2048x512 : Shape := ⟨2, ![2048, 512]⟩
abbrev S128x9216 : Shape := ⟨2, ![128, 9216]⟩
abbrev S4x512x512 : Shape := ⟨3, ![4, 512, 512]⟩
abbrev S512x1024 : Shape := ⟨2, ![512, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 9
  | .vmem => 14
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S2048x2048, .bf16⟩
  | .hbm, ⟨5, _⟩ => ⟨S2048x2048, .bf16⟩
  | .hbm, ⟨6, _⟩ => ⟨S2048x9216, .f32⟩
  | .hbm, ⟨7, _⟩ => ⟨S4x1024x2048, .bf16⟩
  | .hbm, ⟨8, _⟩ => ⟨S1024x9216, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S128x9216, .f32⟩
  | .local _ .vmem, ⟨9, _⟩ => ⟨S128x9216, .f32⟩
  | .local _ .vmem, ⟨10, _⟩ => ⟨S4x512x512, .bf16⟩
  | .local _ .vmem, ⟨11, _⟩ => ⟨S4x512x512, .bf16⟩
  | .local _ .vmem, ⟨12, _⟩ => ⟨S128x9216, .bf16⟩
  | .local _ .vmem, ⟨13, _⟩ => ⟨S128x9216, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_3 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x9216 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x9216 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFiltIdeal.lean ====
abbrev S1024x1024 : Shape := ⟨2, ![1024, 1024]⟩
abbrev S2048x2048 : Shape := ⟨2, ![2048, 2048]⟩
abbrev S2048x9216 : Shape := ⟨2, ![2048, 9216]⟩
abbrev S_ : Shape := ⟨0, ![]⟩
abbrev S1024x1 : Shape := ⟨2, ![1024, 1]⟩
abbrev S1024x2048 : Shape := ⟨2, ![1024, 2048]⟩
abbrev S1x1024x2048 : Shape := ⟨3, ![1, 1024, 2048]⟩
abbrev S4x1024x2048 : Shape := ⟨3, ![4, 1024, 2048]⟩
abbrev S1024x9216 : Shape := ⟨2, ![1024, 9216]⟩

abbrev nBuf : Space → Nat
  | .hbm => 70
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S2048x2048, .bf16⟩
  | .hbm, ⟨5, _⟩ => ⟨S2048x2048, .bf16⟩
  | .hbm, ⟨6, _⟩ => ⟨S2048x9216, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S2048x2048, .f32⟩
  | .hbm, ⟨12, _⟩ => ⟨S2048x2048, .f32⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i1⟩
  | .hbm, ⟨17, _⟩ => ⟨S_, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1, .i32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S1024x1, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S1024x1, .f32⟩
  | .hbm, ⟨52, _⟩ => ⟨S1024x2048, .f32⟩
  | .hbm, ⟨53, _⟩ => ⟨S1024x2048, .f32⟩
  | .hbm, ⟨54, _⟩ => ⟨S1024x2048, .f32⟩
  | .hbm, ⟨55, _⟩ => ⟨S1024x1, .f32⟩
  | .hbm, ⟨56, _⟩ => ⟨S1024x2048, .f32⟩
  | .hbm, ⟨57, _⟩ => ⟨S1024x2048, .f32⟩
  | .hbm, ⟨58, _⟩ => ⟨S1024x2048, .f32⟩
  | .hbm, ⟨59, _⟩ => ⟨S1024x1, .f32⟩
  | .hbm, ⟨60, _⟩ => ⟨S1024x2048, .f32⟩
  | .hbm, ⟨61, _⟩ => ⟨S1024x2048, .f32⟩
  | .hbm, ⟨62, _⟩ => ⟨S1x1024x2048, .f32⟩
  | .hbm, ⟨63, _⟩ => ⟨S1x1024x2048, .f32⟩
  | .hbm, ⟨64, _⟩ => ⟨S1x1024x2048, .f32⟩
  | .hbm, ⟨65, _⟩ => ⟨S1x1024x2048, .f32⟩
  | .hbm, ⟨66, _⟩ => ⟨S4x1024x2048, .f32⟩
  | .hbm, ⟨67, _⟩ => ⟨S4x1024x2048, .bf16⟩
  | .hbm, ⟨68, _⟩ => ⟨S1024x9216, .f32⟩
  | .hbm, ⟨69, _⟩ => ⟨S1024x9216, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_0 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_cst_3 : Ref sig .tc := ⟨.hbm, 30, rfl⟩
abbrev main_call2_v0 : Ref sig .tc := ⟨.hbm, 31, rfl⟩
abbrev main_call2_v1 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== KernelConv.lean ====
abbrev S4x2048x9216 : Shape := ⟨3, ![4, 2048, 9216]⟩
abbrev S3x3072 : Shape := ⟨2, ![3, 3072]⟩
abbrev S1x3072 : Shape := ⟨2, ![1, 3072]⟩
abbrev S4x2048x3072 : Shape := ⟨3, ![4, 2048, 3072]⟩
abbrev S1x2048x1536 : Shape := ⟨3, ![1, 2048, 1536]⟩
abbrev S3x1536 : Shape := ⟨2, ![3, 1536]⟩
abbrev S1x1536 : Shape := ⟨2, ![1, 1536]⟩
abbrev S12x2064x128 : Shape := ⟨3, ![12, 2064, 128]⟩
abbrev S8x128 : Shape := ⟨2, ![8, 128]⟩
abbrev S1x8x128 : Shape := ⟨3, ![1, 8, 128]⟩
abbrev S1x2048x128 : Shape := ⟨3, ![1, 2048, 128]⟩
abbrev S2048x128 : Shape := ⟨2, ![2048, 128]⟩
abbrev S1x128 : Shape := ⟨2, ![1, 128]⟩
abbrev S1x1024x128 : Shape := ⟨3, ![1, 1024, 128]⟩
abbrev S1024x128 : Shape := ⟨2, ![1024, 128]⟩

abbrev nBuf : Space → Nat
  | .hbm => 4
  | .vmem => 9
  | .smem => 0
  | _ => 0

abbrev bufTy : (tb : Table) → Fin (tcTables nBuf tb) → BufTy
  | .hbm, ⟨0, _⟩ => ⟨S4x2048x9216, .bf16⟩
  | .hbm, ⟨1, _⟩ => ⟨S3x3072, .f32⟩
  | .hbm, ⟨2, _⟩ => ⟨S1x3072, .f32⟩
  | .hbm, ⟨3, _⟩ => ⟨S4x2048x3072, .bf16⟩
  | .local _ .vmem, ⟨0, _⟩ => ⟨S1x2048x1536, .bf16⟩
  | .local _ .vmem, ⟨1, _⟩ => ⟨S1x2048x1536, .bf16⟩
  | .local _ .vmem, ⟨2, _⟩ => ⟨S3x1536, .f32⟩
  | .local _ .vmem, ⟨3, _⟩ => ⟨S3x1536, .f32⟩
  | .local _ .vmem, ⟨4, _⟩ => ⟨S1x1536, .f32⟩
  | .local _ .vmem, ⟨5, _⟩ => ⟨S1x1536, .f32⟩
  | .local _ .vmem, ⟨6, _⟩ => ⟨S1x2048x1536, .bf16⟩
  | .local _ .vmem, ⟨7, _⟩ => ⟨S1x2048x1536, .bf16⟩
  | .local _ .vmem, ⟨8, _⟩ => ⟨S12x2064x128, .f32⟩
  | _, _ => ⟨S4x2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceConvIdeal.lean ====
abbrev S4x2048x9216 : Shape := ⟨3, ![4, 2048, 9216]⟩
abbrev S3x3072 : Shape := ⟨2, ![3, 3072]⟩
abbrev S1x3072 : Shape := ⟨2, ![1, 3072]⟩
abbrev S4x2048x3072 : Shape := ⟨3, ![4, 2048, 3072]⟩
abbrev S_ : Shape := ⟨0, ![]⟩
abbrev S4x1x3072 : Shape := ⟨3, ![4, 1, 3072]⟩
abbrev S4x2050x3072 : Shape := ⟨3, ![4, 2050, 3072]⟩
abbrev S3072 : Shape := ⟨1, ![3072]⟩
abbrev S1x1x3072 : Shape := ⟨3, ![1, 1, 3072]⟩
abbrev S4x1024x2x3072 : Shape := ⟨4, ![4, 1024, 2, 3072]⟩
abbrev S4x2x1024x3072 : Shape := ⟨4, ![4, 2, 1024, 3072]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x9216, .bf16⟩
  | .hbm, ⟨1, _⟩ => ⟨S3x3072, .f32⟩
  | .hbm, ⟨2, _⟩ => ⟨S1x3072, .f32⟩
  | .hbm, ⟨3, _⟩ => ⟨S4x2048x3072, .bf16⟩
  | .hbm, ⟨4, _⟩ => ⟨S4x2048x3072, .f32⟩
  | .hbm, ⟨5, _⟩ => ⟨S_, .f32⟩
  | .hbm, ⟨6, _⟩ => ⟨S4x1x3072, .f32⟩
  | .hbm, ⟨7, _⟩ => ⟨S4x2050x3072, .f32⟩
  | .hbm, ⟨8, _⟩ => ⟨S1x3072, .f32⟩
  | .hbm, ⟨9, _⟩ => ⟨S3072, .f32⟩
  | .hbm, ⟨10, _⟩ => ⟨S4x2048x3072, .f32⟩
  | .hbm, ⟨11, _⟩ => ⟨S1x1x3072, .f32⟩
  | .hbm, ⟨12, _⟩ => ⟨S4x2048x3072, .f32⟩
  | .hbm, ⟨13, _⟩ => ⟨S4x2048x3072, .f32⟩
  | .hbm, ⟨14, _⟩ => ⟨S1x3072, .f32⟩
  | .hbm, ⟨15, _⟩ => ⟨S3072, .f32⟩
  | .hbm, ⟨16, _⟩ => ⟨S4x2048x3072, .f32⟩
  | .hbm, ⟨17, _⟩ => ⟨S1x1x3072, .f32⟩
  | .hbm, ⟨18, _⟩ => ⟨S4x2048x3072, .f32⟩
  | .hbm, ⟨19, _⟩ => ⟨S4x2048x3072, .f32⟩
  | .hbm, ⟨20, _⟩ => ⟨S4x2048x3072, .f32⟩
  | .hbm, ⟨21, _⟩ => ⟨S1x3072, .f32⟩
  | .hbm, ⟨22, _⟩ => ⟨S3072, .f32⟩
  | .hbm, ⟨23, _⟩ => ⟨S4x2048x3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | .hbm, ⟨27, _⟩ => ⟨S4x2048x3072, .f32⟩
  | .hbm, ⟨28, _⟩ => ⟨S1x1x3072, .f32⟩
  | .hbm, ⟨29, _⟩ => ⟨S4x2048x3072, .f32⟩
  | .hbm, ⟨30, _⟩ => ⟨S4x2048x3072, .f32⟩
  | .hbm, ⟨31, _⟩ => ⟨S4x1024x2x3072, .f32⟩
  | .hbm, ⟨32, _⟩ => ⟨S4x2x1024x3072, .f32⟩
  | .hbm, ⟨33, _⟩ => ⟨S4x2048x3072, .f32⟩
  | .hbm, ⟨34, _⟩ => ⟨S4x2048x3072, .bf16⟩
  | _, _ => ⟨S4x2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== KernelMlp.lean ====
abbrev S33x64 : Shape := ⟨2, ![33, 64]⟩
abbrev S1x64 : Shape := ⟨2, ![1, 64]⟩
abbrev S64x64 : Shape := ⟨2, ![64, 64]⟩
abbrev S64x4096 : Shape := ⟨2, ![64, 4096]⟩
abbrev S2048x9216 : Shape := ⟨2, ![2048, 9216]⟩
abbrev S64x33 : Shape := ⟨2, ![64, 33]⟩
abbrev S64x1 : Shape := ⟨2, ![64, 1]⟩
abbrev S64x101 : Shape := ⟨2, ![64, 101]⟩
abbrev S_ : Shape := ⟨0, ![]⟩
abbrev S64x128 : Shape := ⟨2, ![64, 128]⟩
abbrev S2048x2048 : Shape := ⟨2, ![2048, 2048]⟩
abbrev S2x2048 : Shape := ⟨2, ![2, 2048]⟩
abbrev S1024x9216 : Shape := ⟨2, ![1024, 9216]⟩
abbrev S64x256 : Shape := ⟨2, ![64, 256]⟩
abbrev S128x9216 : Shape := ⟨2, ![128, 9216]⟩
abbrev S2048x256 : Shape := ⟨2, ![2048, 256]⟩
abbrev S2x256 : Shape := ⟨2, ![2, 256]⟩
abbrev S2048x64 : Shape := ⟨2, ![2048, 64]⟩
abbrev S2x2048x128 : Shape := ⟨3, ![2, 2048, 128]⟩
abbrev S2048x1 : Shape := ⟨2, ![2048, 1]⟩
abbrev S1x2048 : Shape := ⟨2, ![1, 2048]⟩
abbrev S16x1 : Shape := ⟨2, ![16, 1]⟩
abbrev S16x2048 : Shape := ⟨2, ![16, 2048]⟩
abbrev S64x16 : Shape := ⟨2, ![64, 16]⟩
abbrev S64x2048 : Shape := ⟨2, ![64, 2048]⟩
abbrev S1x256 : Shape := ⟨2, ![1, 256]⟩
abbrev S256 : Shape := ⟨1, ![256]⟩
abbrev S2048x128 : Shape := ⟨2, ![2048, 128]⟩
abbrev S1x2048x128 : Shape := ⟨3, ![1, 2048, 128]⟩
abbrev S1x1024x128 : Shape := ⟨3, ![1, 1024, 128]⟩
abbrev S1024x128 : Shape := ⟨2, ![1024, 128]⟩

abbrev nBuf : Space → Nat
  | .hbm => 22
  | .vmem => 17
  | .smem => 0
  | _ => 0

abbrev bufTy : (tb : Table) → Fin (tcTables nBuf tb) → BufTy
  | .hbm, ⟨0, _⟩ => ⟨S33x64, .f32⟩
  | .hbm, ⟨1, _⟩ => ⟨S1x64, .f32⟩
  | .hbm, ⟨2, _⟩ => ⟨S1x64, .f32⟩
  | .hbm, ⟨3, _⟩ => ⟨S64x64, .f32⟩
  | .hbm, ⟨4, _⟩ => ⟨S1x64, .f32⟩
  | .hbm, ⟨5, _⟩ => ⟨S1x64, .f32⟩
  | .hbm, ⟨6, _⟩ => ⟨S64x4096, .f32⟩
  | .hbm, ⟨7, _⟩ => ⟨S2048x9216, .f32⟩
  | .hbm, ⟨8, _⟩ => ⟨S64x33, .f32⟩
  | .hbm, ⟨9, _⟩ => ⟨S64x1, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x64, .f32⟩
  | .hbm, ⟨14, _⟩ => ⟨S64x101, .f32⟩
  | .hbm, ⟨15, _⟩ => ⟨S_, .i32⟩
  | .hbm, ⟨16, _⟩ => ⟨S_, .f32⟩
  | .hbm, ⟨17, _⟩ => ⟨S64x128, .f32⟩
  | .hbm, ⟨18, _⟩ => ⟨S2048x2048, .bf16⟩
  | .hbm, ⟨19, _⟩ => ⟨S2048x2048, .bf16⟩
  | .hbm, ⟨20, _⟩ => ⟨S2x2048, .f32⟩
  | .hbm, ⟨21, _⟩ => ⟨S1024x9216, .bf16⟩
  | .local _ .vmem, ⟨0, _⟩ => ⟨S64x128, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S128x9216, .f32⟩
  | .local _ .vmem, ⟨6, _⟩ => ⟨S128x9216, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2x256, .f32⟩
  | .local _ .vmem, ⟨12, _⟩ => ⟨S2x256, .f32⟩
  | .local _ .vmem, ⟨13, _⟩ => ⟨S128x9216, .bf16⟩
  | .local _ .vmem, ⟨14, _⟩ => ⟨S128x9216, .bf16⟩
  | .local _ .vmem, ⟨15, _⟩ => ⟨S2048x64, .f32⟩
  | .local _ .vmem, ⟨16, _⟩ => ⟨S2x2048x128, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c4_i32 : BitVec 32 := 4#32
  let v1 : BitVec 32 := Scalar.muli v0 c4_i32
  let c4_i32_0 : BitVec 32 := 4#32
  let v2 : BitVec 32 := Scalar.addi v1 c4_i32_0
  let v3 : BitVec 32 := Scalar.addi v2 arg1
  let c0_i32 : BitVec 32 := 0#32
  let c0_i32_1 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x9216 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMlpIdeal.lean ====
abbrev S33x64 : Shape := ⟨2, ![33, 64]⟩
abbrev S1x64 : Shape := ⟨2, ![1, 64]⟩
abbrev S64x64 : Shape := ⟨2, ![64, 64]⟩
abbrev S64x4096 : Shape := ⟨2, ![64, 4096]⟩
abbrev S2048x9216 : Shape := ⟨2, ![2048, 9216]⟩
abbrev S2048x1 : Shape := ⟨2, ![2048, 1]⟩
abbrev S_ : Shape := ⟨0, ![]⟩
abbrev S1x16 : Shape := ⟨2, ![1, 16]⟩
abbrev S2048x64 : Shape := ⟨2, ![2048, 64]⟩
abbrev S2048x16 : Shape := ⟨2, ![2048, 16]⟩
abbrev S16x64 : Shape := ⟨2, ![16, 64]⟩
abbrev S1x1024 : Shape := ⟨2, ![1, 1024]⟩
abbrev S2048x4096 : Shape := ⟨2, ![2048, 4096]⟩
abbrev S2048x2x2x1024 : Shape := ⟨4, ![2048, 2, 2, 1024]⟩
abbrev S2048x1024 : Shape := ⟨2, ![2048, 1024]⟩
abbrev S2048x1x1x1024 : Shape := ⟨4, ![2048, 1, 1, 1024]⟩
abbrev S2048x2x1x1024 : Shape := ⟨4, ![2048, 2, 1, 1024]⟩
abbrev S2048x2x1024 : Shape := ⟨3, ![2048, 2, 1024]⟩
abbrev S2048x2048 : Shape := ⟨2, ![2048, 2048]⟩
abbrev S2048 : Shape := ⟨1, ![2048]⟩
abbrev S1x2048 : Shape := ⟨2, ![1, 2048]⟩
abbrev S2x2048 : Shape := ⟨2, ![2, 2048]⟩
abbrev S1024x2x2048 : Shape := ⟨3, ![1024, 2, 2048]⟩
abbrev S2x1024x2048 : Shape := ⟨3, ![2, 1024, 2048]⟩
abbrev S1024x9216 : Shape := ⟨2, ![1024, 9216]⟩

abbrev nBuf : Space → Nat
  | .hbm => 180
  | .vmem => 0
  | .smem => 0
  | _ => 0

abbrev hbmTy0_0 (i : Nat) : BufTy := match i % 128 with
  | 0 => ⟨S33x64, .f32⟩
  | 1 => ⟨S1x64, .f32⟩
  | 2 => ⟨S1x64, .f32⟩
  | 3 => ⟨S64x64, .f32⟩
  | 4 => ⟨S1x64, .f32⟩
  | 5 => ⟨S1x64, .f32⟩
  | 6 => ⟨S64x4096, .f32⟩
  | 7 => ⟨S2048x9216, .f32⟩
  | 8 => ⟨S2048x1, .i32⟩
  | 9 => ⟨S2048x1, .f32⟩
  | 10 => ⟨S_, .f32⟩
  | 11 => ⟨S2048x1, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S1x16, .i32⟩
  | 21 => ⟨S1x16, .f32⟩
  | 22 => ⟨S_, .f32⟩
  | 23 => ⟨S1x16, .f32⟩
  | 24 => ⟨S1x16, .f32⟩
  | 25 => ⟨S_, .f32⟩
  | 26 => ⟨S1x16, .f32⟩
  | 27 => ⟨S1x16, .f32⟩
  | 28 => ⟨S1x64, .f32⟩
  | 29 => ⟨S2048x64, .f32⟩
  | 30 => ⟨S2048x64, .f32⟩
  | 31 => ⟨S2048x64, .f32⟩
  | 32 => ⟨S2048x16, .f32⟩
  | 33 => ⟨S2048x16, .f32⟩
  | 34 => ⟨S2048x16, .f32⟩
  | 35 => ⟨S2048x16, .f32⟩
  | 36 => ⟨S16x64, .f32⟩
  | 37 => ⟨S2048x64, .f32⟩
  | 38 => ⟨S2048x64, .f32⟩
  | 39 => ⟨S2048x16, .f32⟩
  | 40 => ⟨S2048x16, .f32⟩
  | 41 => ⟨S2048x16, .f32⟩
  | 42 => ⟨S2048x16, .f32⟩
  | 43 => ⟨S16x64, .f32⟩
  | 44 => ⟨S2048x64, .f32⟩
  | 45 => ⟨S2048x64, .f32⟩
  | 46 => ⟨S2048x64, .f32⟩
  | 47 => ⟨S2048x64, .f32⟩
  | 48 => ⟨S2048x64, .f32⟩
  | 49 => ⟨S2048x64, .f32⟩
  | 50 => ⟨S2048x64, .f32⟩
  | 51 => ⟨S2048x64, .f32⟩
  | 52 => ⟨S2048x64, .f32⟩
  | 53 => ⟨S2048x64, .f32⟩
  | 54 => ⟨S2048x64, .f32⟩
  | 55 => ⟨S2048x64, .f32⟩
  | 56 => ⟨S2048x64, .f32⟩
  | 57 => ⟨S1x1024, .i32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S2048x4096, .f32⟩
  | 66 => ⟨S2048x2x2x1024, .f32⟩
  | 67 => ⟨S2048x1, .f32⟩
  | 68 => ⟨S1x1024, .f32⟩
  | 69 => ⟨S2048x1024, .f32⟩
  | 70 => ⟨S2048x1024, .f32⟩
  | 71 => ⟨S2048x1024, .f32⟩
  | 72 => ⟨S2048x1024, .f32⟩
  | 73 => ⟨S2048x1x1x1024, .f32⟩
  | 74 => ⟨S2048x2x2x1024, .f32⟩
  | 75 => ⟨S2048x2x2x1024, .f32⟩
  | 76 => ⟨S2048x2x1x1024, .f32⟩
  | 77 => ⟨S2048x2x1024, .f32⟩
  | 78 => ⟨S2048x2048, .f32⟩
  | 79 => ⟨S2048x2x1x1024, .f32⟩
  | 80 => ⟨S2048x2x1024, .f32⟩
  | 81 => ⟨S2048x2048, .f32⟩
  | 82 => ⟨S_, .i32⟩
  | 83 => ⟨S2048x1, .i32⟩
  | 84 => ⟨S2048x1, .i1⟩
  | 85 => ⟨S_, .f32⟩
  | 86 => ⟨S_, .f32⟩
  | 87 => ⟨S2048x2048, .i1⟩
  | 88 => ⟨S2048x2048, .f32⟩
  | 89 => ⟨S2048x2048, .f32⟩
  | 90 => ⟨S2048x2048, .f32⟩
  | 91 => ⟨S_, .f32⟩
  | 92 => ⟨S2048, .f32⟩
  | 93 => ⟨S2048x2048, .f32⟩
  | 94 => ⟨S_, .f32⟩
  | 95 => ⟨S2048, .f32⟩
  | 96 => ⟨S2048, .f32⟩
  | 97 => ⟨S2048x2048, .f32⟩
  | 98 => ⟨S_, .f32⟩
  | 99 => ⟨S2048, .f32⟩
  | 100 => ⟨S2048, .f32⟩
  | 101 => ⟨S1x2048, .f32⟩
  | 102 => ⟨S2048x2048, .f32⟩
  | 103 => ⟨S2048x2048, .f32⟩
  | 104 => ⟨S2048x2048, .f32⟩
  | 105 => ⟨S_, .f32⟩
  | 106 => ⟨S2048, .f32⟩
  | 107 => ⟨S2048, .f32⟩
  | 108 => ⟨S1x2048, .f32⟩
  | 109 => ⟨S2048x2048, .f32⟩
  | 110 => ⟨S2048x2048, .f32⟩
  | 111 => ⟨S_, .i32⟩
  | 112 => ⟨S2048x1, .i32⟩
  | 113 => ⟨S2048x1, .i32⟩
  | 114 => ⟨S_, .i32⟩
  | 115 => ⟨S2048x1, .i32⟩
  | 116 => ⟨S2048x1, .i1⟩
  | 117 => ⟨S_, .i32⟩
  | 118 => ⟨S2048x1, .i32⟩
  | 119 => ⟨S2048x1, .i32⟩
  | 120 => ⟨S_, .i32⟩
  | 121 => ⟨S2048x1, .i32⟩
  | 122 => ⟨S2048x1, .i1⟩
  | 123 => ⟨S_, .f32⟩
  | 124 => ⟨S_, .f32⟩
  | 125 => ⟨S2048x1, .f32⟩
  | 126 => ⟨S2048x1, .f32⟩
  | 127 => ⟨S2048x1, .f32⟩
  | _ => ⟨S33x64, .f32⟩

abbrev hbmTy0_1 (i : Nat) : BufTy := match i % 128 with
  | 0 => ⟨S_, .f32⟩
  | 1 => ⟨S2048x1, .f32⟩
  | 2 => ⟨S2048x1, .f32⟩
  | 3 => ⟨S_, .i32⟩
  | 4 => ⟨S2048x1, .i32⟩
  | 5 => ⟨S2048x1, .i32⟩
  | 6 => ⟨S_, .i32⟩
  | 7 => ⟨S2048x1, .i32⟩
  | 8 => ⟨S2048x1, .i1⟩
  | 9 => ⟨S_, .i32⟩
  | 10 => ⟨S2048x1, .i32⟩
  | 11 => ⟨S2048x1, .i32⟩
  | 12 => ⟨S_, .i32⟩
  | 13 => ⟨S2048x1, .i32⟩
  | 14 => ⟨S2048x1, .i1⟩
  | 15 => ⟨S_, .f32⟩
  | 16 => ⟨S_, .f32⟩
  | 17 => ⟨S2048x1, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x1, .f32⟩
  | 24 => ⟨S2048x2048, .f32⟩
  | 25 => ⟨S2048x2048, .f32⟩
  | 26 => ⟨S_, .f32⟩
  | 27 => ⟨S2048, .f32⟩
  | 28 => ⟨S_, .f32⟩
  | 29 => ⟨S2048, .f32⟩
  | 30 => ⟨S2048, .f32⟩
  | 31 => ⟨S2048x1, .f32⟩
  | 32 => ⟨S2048x2048, .f32⟩
  | 33 => ⟨S2048x2048, .f32⟩
  | 34 => ⟨S_, .f32⟩
  | 35 => ⟨S2048, .f32⟩
  | 36 => ⟨S_, .f32⟩
  | 37 => ⟨S2048, .f32⟩
  | 38 => ⟨S2048, .f32⟩
  | 39 => ⟨S1x2048, .f32⟩
  | 40 => ⟨S1x2048, .f32⟩
  | 41 => ⟨S2x2048, .f32⟩
  | 42 => ⟨S1024x2x2048, .f32⟩
  | 43 => ⟨S2x1024x2048, .f32⟩
  | 44 => ⟨S2048x2048, .f32⟩
  | 45 => ⟨S2048x2048, .bf16⟩
  | 46 => ⟨S1024x2x2048, .f32⟩
  | 47 => ⟨S2x1024x2048, .f32⟩
  | 48 => ⟨S2048x2048, .f32⟩
  | 49 => ⟨S2048x2048, .bf16⟩
  | 50 => ⟨S1024x9216, .f32⟩
  | 51 => ⟨S1024x9216, .bf16⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_9 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_11 : Ref sig .tc := ⟨.hbm, 111, rfl⟩
abbrev main_v87 : Ref sig .tc := ⟨.hbm, 112, rfl⟩
abbrev main_v88 : Ref sig .tc := ⟨.hbm, 113, rfl⟩
abbrev main_c_12 : Ref sig .tc := ⟨.hbm, 114, rfl⟩
abbrev main_v89 : Ref sig .tc := ⟨.hbm, 115, rfl⟩
abbrev main_v90 : Ref sig .tc := ⟨.hbm, 116, rfl⟩
abbrev main_c_13 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_cst_16 : Ref sig .tc := ⟨.hbm, 124, rfl⟩
abbrev main_call1_v0 : Ref sig .tc := ⟨.hbm, 125, rfl⟩
abbrev main_call1_v1 : Ref sig .tc := ⟨.hbm, 126, rfl⟩
abbrev main_v95 : Ref sig .tc := ⟨.hbm, 127, rfl⟩
abbrev main_cst_17 : Ref sig .tc := ⟨.hbm, 128, rfl⟩
abbrev main_call2_v0 : Ref sig .tc := ⟨.hbm, 129, rfl⟩
abbrev main_v96 : Ref sig .tc := ⟨.hbm, 130, rfl⟩
abbrev main_c_18 : Ref sig .tc := ⟨.hbm, 131, rfl⟩
abbrev main_v97 : Ref sig .tc := ⟨.hbm, 132, rfl⟩
abbrev main_v98 : Ref sig .tc := ⟨.hbm, 133, rfl⟩
abbrev main_c_19 : Ref sig .tc := ⟨.hbm, 134, rfl⟩
abbrev main_v99 : Ref sig .tc := ⟨.hbm, 135, rfl⟩
abbrev main_v100 : Ref sig .tc := ⟨.hbm, 136, rfl⟩
abbrev main_c_20 : Ref sig .tc := ⟨.hbm, 137, rfl⟩
abbrev main_v101 : Ref sig .tc := ⟨.hbm, 138, rfl⟩
abbrev main_v102 : Ref sig .tc := ⟨.hbm, 139, rfl⟩
abbrev main_c_21 : Ref sig .tc := ⟨.hbm, 140, rfl⟩
abbrev main_v103 : Ref sig .tc := ⟨.hbm, 141, rfl⟩
abbrev main_v104 : Ref sig .tc := ⟨.hbm, 142, rfl⟩
abbrev main_cst_22 : Ref sig .tc := ⟨.hbm, 143, rfl⟩
abbrev main_cst_23 : Ref sig .tc := ⟨.hbm, 144, rfl⟩
abbrev main_call3_v0 : Ref sig .tc := ⟨.hbm, 145, rfl⟩
abbrev main_call3_v1 : Ref sig .tc := ⟨.hbm, 146, rfl⟩
abbrev main_v105 : Ref sig .tc := ⟨.hbm, 147, rfl⟩
abbrev main_cst_24 : Ref sig .tc := ⟨.hbm, 148, rfl⟩
abbrev main_call4_v0 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_25 : Ref sig .tc := ⟨.hbm, 154, rfl⟩
abbrev main_v110 : Ref sig .tc := ⟨.hbm, 155, rfl⟩
abbrev main_cst_26 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_27 : Ref sig .tc := ⟨.hbm, 162, rfl⟩
abbrev main_v116 : Ref sig .tc := ⟨.hbm, 163, rfl⟩
abbrev main_cst_28 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩

abbrev nD : Nat := 1
abbrev τ : Topo := Topo.v7x

variable {F : FTy → Type} [FloatOps F]
-- ==== Proof.ConvScratch.lean ====
/- What the short convolution's scratch holds when it is read: per lane group eight zero rows, the 2048 positions, eight zero rows. A
   read of every other row from row `o` on holds the positions `o - 8`, `o - 6`, …, and zero outside them. -/
module

public import proofs.«01_k».proof.Proof.Gen.KernelConvIdeal.Value
public import Idealize.ShloMosaic.Lib.Pipeline.ValueKit
public import Idealize.ShloMosaic.Lib.Pipeline.StridedRows

@[expose] public section

set_option maxRecDepth 16384

noncomputable section

namespace Cert.Proof.Conv

open Cert.KernelConvIdeal Cert.KernelConvIdeal.Gen
open Idealize.ShloMosaic Idealize.ShloMosaic.TcCoe Idealize.SL.Sem

variable (X : Fin 12 → Fin 2048 → Fin 128 → EReal)

/-- Row `r` of lane group `g`: position `r - 8`, zero before and behind the positions. -/
def padded (g : Fin 12) (r : ℕ) (l : Fin 128) : EReal := if h : 8 ≤ r ∧ r < 2056 then X g ⟨r - 8, by omega⟩ l else 0

/-- The scratch as one function of its index. -/
def held (y : S12x2064x128.Idx) : EReal := padded X (y 0) (y 1).val (y 2)

/-- A store of eight zero rows outside the positions agrees with `held`. -/
theorem zero_good (g o : ℕ) (inb : ∀ a, (![g, o, 0] : Fin 3 → Nat) a + S1x8x128.size a ≤ S12x2064x128.size a) (ho : o = 0 ∨ 2056 ≤ o)
    (w : FVec Ideal S1x8x128 .f32) (hw : ∀ (a : Fin 1) (r : Fin 8) (l : Fin 128), w (ix3 a r l) = 0) (x : S1x8x128.Idx) :
    w x = held X ((Rect.unit (s := S12x2064x128) ![g, o, 0] S1x8x128.size inb).emb x) := by
  have hx : w x = 0 := by
    idx_vars x
    exact hw _ _ _
  have b1 : (x 1).val < 8 := (x 1).isLt
  have e1 : (((Rect.unit (s := S12x2064x128) ![g, o, 0] S1x8x128.size inb).emb x) 1).val = o + 1 * (x 1).val := rfl
  rw [hx]
  unfold held padded
  rw [dif_neg (by rw [e1]; omega)]

/-- A store of a lane group's positions agrees with `held`. -/
theorem data_good (g : Fin 12) (inb : ∀ a, (![g.val, 8, 0] : Fin 3 → Nat) a + S1x2048x128.size a ≤ S12x2064x128.size a)
    (w : FVec Ideal S1x2048x128 .f32) (hw : ∀ (r : Fin 2048) (l : Fin 128), w (ix3 0 r l) = X g r l) (x : S1x2048x128.Idx) :
    w x = held X ((Rect.unit (s := S12x2064x128) ![g.val, 8, 0] S1x2048x128.size inb).emb x) := by
  have hx : w x = X g (x 1) (x 2) := by
    idx_vars x
    exact (congrArg (fun a => w (ix3 a _ _)) (Subsingleton.elim _ _)).trans (hw _ _)
  have b0 : (x 0).val < 1 := (x 0).isLt
  have b1 : (x 1).val < 2048 := (x 1).isLt
  have e0 : ((Rect.unit (s := S12x2064x128) ![g.val, 8, 0] S1x2048x128.size inb).emb x) 0 = g :=
    Fin.ext (show g.val + 1 * (x 0).val = g.val by omega)
  have e1 : (((Rect.unit (s := S12x2064x128) ![g.val, 8, 0] S1x2048x128.size inb).emb x) 1).val = 8 + (x 1).val :=
    show 8 + 1 * (x 1).val = 8 + (x 1).val by omega
  have e2 : ((Rect.unit (s := S12x2064x128) ![g.val, 8, 0] S1x2048x128.size inb).emb x) 2 = x 2 :=
    Fin.ext (show 0 + 1 * (x 2).val = (x 2).val by omega)
  rw [hx]
  unfold held
  rw [e0, e1, e2]
  unfold padded
  rw [dif_pos (by omega)]
  exact congrArg (fun r => X g r (x 2)) (Fin.ext (show (x 1).val = 8 + (x 1).val - 8 by omega))

/-- Where a store of eight rows lies. -/
theorem mem_zero (g o : ℕ) (inb : ∀ a, (![g, o, 0] : Fin 3 → Nat) a + S1x8x128.size a ≤ S12x2064x128.size a) (y : S12x2064x128.Idx)
    (h0 : (y 0).val = g) (h1 : o ≤ (y 1).val ∧ (y 1).val < o + 8) :
    y ∈ (Rect.unit (s := S12x2064x128) ![g, o, 0] S1x8x128.size inb).set := by
  have b2 : (y 2).val < 128 := (y 2).isLt
  rw [LoadRect.mem_set]
  intro a
  match a with
  | ⟨0, _⟩ => exact ⟨0, Nat.one_pos, show (y 0).val = g + 1 * 0 by omega⟩
  | ⟨1, _⟩ => exact ⟨(y 1).val - o, show (y 1).val - o < 8 by omega, show (y 1).val = o + 1 * ((y 1).val - o) by omega⟩
  | ⟨2, _⟩ => exact ⟨(y 2).val, b2, show (y 2).val = 0 + 1 * (y 2).val by omega⟩

/-- Where a store of the positions lies. -/
theorem mem_data (g : ℕ) (inb : ∀ a, (![g, 8, 0] : Fin 3 → Nat) a + S1x2048x128.size a ≤ S12x2064x128.size a) (y : S12x2064x128.Idx)
    (h0 : (y 0).val = g) (h1 : 8 ≤ (y 1).val ∧ (y 1).val < 2056) :
    y ∈ (Rect.unit (s := S12x2064x128) ![g, 8, 0] S1x2048x128.size inb).set := by
  have b2 : (y 2).val < 128 := (y 2).isLt
  rw [LoadRect.mem_set]
  intro a
  match a with
  | ⟨0, _⟩ => exact ⟨0, Nat.one_pos, show (y 0).val = g + 1 * 0 by omega⟩
  | ⟨1, _⟩ => exact ⟨(y 1).val - 8, show (y 1).val - 8 < 2048 by omega, show (y 1).val = 8 + 1 * ((y 1).val - 8) by omega⟩
  | ⟨2, _⟩ => exact ⟨(y 2).val, b2, show (y 2).val = 0 + 1 * (y 2).val by omega⟩

/-- The scratch's stores, newest first; `D g` is lane group `g` of the input block. -/
abbrev pieces (D : Fin 12 → Vec Ideal S1x2048x128 .bf16) : List (View.Piece (Elt Ideal) S12x2064x128 .f32) :=
  [⟨Rect.unit (s := S12x2064x128) ![11, 2056, 0] S1x8x128.size inb_S12x2064x128_S1x8x128_11_2056_0, k0_pay39 (F := Ideal) (k0_pay2 (F := Ideal))⟩,
    ⟨Rect.unit (s := S12x2064x128) ![11, 8, 0] S1x2048x128.size inb_S12x2064x128_S1x2048x128_11_8_0, k0_pay38 (F := Ideal) (D 11)⟩,
    ⟨Rect.unit (s := S12x2064x128) ![11, 0, 0] S1x8x128.size inb_S12x2064x128_S1x8x128_11_0_0, k0_pay37 (F := Ideal) (k0_pay2 (F := Ideal))⟩,
    ⟨Rect.unit (s := S12x2064x128) ![10, 2056, 0] S1x8x128.size inb_S12x2064x128_S1x8x128_10_2056_0, k0_pay36 (F := Ideal) (k0_pay2 (F := Ideal))⟩,
    ⟨Rect.unit (s := S12x2064x128) ![10, 8, 0] S1x2048x128.size inb_S12x2064x128_S1x2048x128_10_8_0, k0_pay35 (F := Ideal) (D 10)⟩,
    ⟨Rect.unit (s := S12x2064x128) ![10, 0, 0] S1x8x128.size inb_S12x2064x128_S1x8x128_10_0_0, k0_pay34 (F := Ideal) (k0_pay2 (F := Ideal))⟩,
    ⟨Rect.unit (s := S12x2064x128) ![9, 2056, 0] S1x8x128.size inb_S12x2064x128_S1x8x128_9_2056_0, k0_pay33 (F := Ideal) (k0_pay2 (F := Ideal))⟩,
    ⟨Rect.unit (s := S12x2064x128) ![9, 8, 0] S1x2048x128.size inb_S12x2064x128_S1x2048x128_9_8_0, k0_pay32 (F := Ideal) (D 9)⟩,
    ⟨Rect.unit (s := S12x2064x128) ![9, 0, 0] S1x8x128.size inb_S12x2064x128_S1x8x128_9_0_0, k0_pay31 (F := Ideal) (k0_pay2 (F := Ideal))⟩,
    ⟨Rect.unit (s := S12x2064x128) ![8, 2056, 0] S1x8x128.size inb_S12x2064x128_S1x8x128_8_2056_0, k0_pay30 (F := Ideal) (k0_pay2 (F := Ideal))⟩,
    ⟨Rect.unit (s := S12x2064x128) ![8, 8, 0] S1x2048x128.size inb_S12x2064x128_S1x2048x128_8_8_0, k0_pay29 (F := Ideal) (D 8)⟩,
    ⟨Rect.unit (s := S12x2064x128) ![8, 0, 0] S1x8x128.size inb_S12x2064x128_S1x8x128_8_0_0, k0_pay28 (F := Ideal) (k0_pay2 (F := Ideal))⟩,
    ⟨Rect.unit (s := S12x2064x128) ![7, 2056, 0] S1x8x128.size inb_S12x2064x128_S1x8x128_7_2056_0, k0_pay27 (F := Ideal) (k0_pay2 (F := Ideal))⟩,
    ⟨Rect.unit (s := S12x2064x128) ![7, 8, 0] S1x2048x128.size inb_S12x2064x128_S1x2048x128_7_8_0, k0_pay26 (F := Ideal) (D 7)⟩,
    ⟨Rect.unit (s := S12x2064x128) ![7, 0, 0] S1x8x128.size inb_S12x2064x128_S1x8x128_7_0_0, k0_pay25 (F := Ideal) (k0_pay2 (F := Ideal))⟩,
    ⟨Rect.unit (s := S12x2064x128) ![6, 2056, 0] S1x8x128.size inb_S12x2064x128_S1x8x128_6_2056_0, k0_pay24 (F := Ideal) (k0_pay2 (F := Ideal))⟩,
    ⟨Rect.unit (s := S12x2064x128) ![6, 8, 0] S1x2048x128.size inb_S12x2064x128_S1x2048x128_6_8_0, k0_pay23 (F := Ideal) (k0_pay22 (F := Ideal) (D 6))⟩,
    ⟨Rect.unit (s := S12x2064x128) ![6, 0, 0] S1x8x128.size inb_S12x2064x128_S1x8x128_6_0_0, k0_pay21 (F := Ideal) (k0_pay2 (F := Ideal))⟩,
    ⟨Rect.unit (s := S12x2064x128) ![5, 2056, 0] S1x8x128.size inb_S12x2064x128_S1x8x128_5_2056_0, k0_pay20 (F := Ideal) (k0_pay2 (F := Ideal))⟩,
    ⟨Rect.unit (s := S12x2064x128) ![5, 8, 0] S1x2048x128.size inb_S12x2064x128_S1x2048x128_5_8_0, k0_pay19 (F := Ideal) (D 5)⟩,
    ⟨Rect.unit (s := S12x2064x128) ![5, 0, 0] S1x8x128.size inb_S12x2064x128_S1x8x128_5_0_0, k0_pay18 (F := Ideal) (k0_pay2 (F := Ideal))⟩,
    ⟨Rect.unit (s := S12x2064x128) ![4, 2056, 0] S1x8x128.size inb_S12x2064x128_S1x8x128_4_2056_0, k0_pay17 (F := Ideal) (k0_pay2 (F := Ideal))⟩,
    ⟨Rect.unit (s := S12x2064x128) ![4, 8, 0] S1x2048x128.size inb_S12x2064x128_S1x2048x128_4_8_0, k0_pay16 (F := Ideal) (D 4)⟩,
    ⟨Rect.unit (s := S12x2064x128) ![4, 0, 0] S1x8x128.size inb_S12x2064x128_S1x8x128_4_0_0, k0_pay15 (F := Ideal) (k0_pay2 (F := Ideal))⟩,
    ⟨Rect.unit (s := S12x2064x128) ![3, 2056, 0] S1x8x128.size inb_S12x2064x128_S1x8x128_3_2056_0, k0_pay14 (F := Ideal) (k0_pay2 (F := Ideal))⟩,
    ⟨Rect.unit (s := S12x2064x128) ![3, 8, 0] S1x2048x128.size inb_S12x2064x128_S1x2048x128_3_8_0, k0_pay13 (F := Ideal) (D 3)⟩,
    ⟨Rect.unit (s := S12x2064x128) ![3, 0, 0] S1x8x128.size inb_S12x2064x128_S1x8x128_3_0_0, k0_pay12 (F := Ideal) (k0_pay2 (F := Ideal))⟩,
    ⟨Rect.unit (s := S12x2064x128) ![2, 2056, 0] S1x8x128.size inb_S12x2064x128_S1x8x128_2_2056_0, k0_pay11 (F := Ideal) (k0_pay2 (F := Ideal))⟩,
    ⟨Rect.unit (s := S12x2064x128) ![2, 8, 0] S1x2048x128.size inb_S12x2064x128_S1x2048x128_2_8_0, k0_pay10 (F := Ideal) (D 2)⟩,
    ⟨Rect.unit (s := S12x2064x128) ![2, 0, 0] S1x8x128.size inb_S12x2064x128_S1x8x128_2_0_0, k0_pay9 (F := Ideal) (k0_pay2 (F := Ideal))⟩,
    ⟨Rect.unit (s := S12x2064x128) ![1, 2056, 0] S1x8x128.size inb_S12x2064x128_S1x8x128_1_2056_0, k0_pay8 (F := Ideal)⟩,
    ⟨Rect.unit (s := S12x2064x128) ![1, 8, 0] S1x2048x128.size inb_S12x2064x128_S1x2048x128_1_8_0, k0_pay7 (F := Ideal) (D 1)⟩,
    ⟨Rect.unit (s := S12x2064x128) ![1, 0, 0] S1x8x128.size inb_S12x2064x128_S1x8x128_1_0_0, k0_pay6 (F := Ideal)⟩,
    ⟨Rect.unit (s := S12x2064x128) ![0, 2056, 0] S1x8x128.size inb_S12x2064x128_S1x8x128_0_2056_0, k0_pay5 (F := Ideal)⟩,
    ⟨Rect.unit (s := S12x2064x128) ![0, 8, 0] S1x2048x128.size inb_S12x2064x128_S1x2048x128_0_8_0, k0_pay4 (F := Ideal) (D 0)⟩,
    ⟨Rect.unit (s := S12x2064x128) ![0, 0, 0] S1x8x128.size inb_S12x2064x128_S1x8x128_0_0_0, k0_pay3 (F := Ideal)⟩]

variable (D : Fin 12 → Vec Ideal S1x2048x128 .bf16)

/-- The positions the stores hold. -/
def rows (g : Fin 12) (r : Fin 2048) (l : Fin 128) : EReal := D g (ix3 0 r l)

/-- Every store agrees with `held`. -/
theorem pieces_good : ∀ p ∈ pieces D, ∀ x : p.1.shape.Idx, p.2 x = held (rows D) (p.1.emb x) := by
  refine List.forall_mem_cons.2 ⟨zero_good _ 11 2056 inb_S12x2064x128_S1x8x128_11_2056_0 (.inr (le_refl _)) _ (fun a r l => by pointwise [k0_pay39, k0_pay2]), ?_⟩
  refine List.forall_mem_cons.2 ⟨data_good _ 11 inb_S12x2064x128_S1x2048x128_11_8_0 _ (fun r l => by pointwise [k0_pay38, rows]), ?_⟩
  refine List.forall_mem_cons.2 ⟨zero_good _ 11 0 inb_S12x2064x128_S1x8x128_11_0_0 (.inl rfl) _ (fun a r l => by pointwise [k0_pay37, k0_pay2]), ?_⟩
  refine List.forall_mem_cons.2 ⟨zero_good _ 10 2056 inb_S12x2064x128_S1x8x128_10_2056_0 (.inr (le_refl _)) _ (fun a r l => by pointwise [k0_pay36, k0_pay2]), ?_⟩
  refine List.forall_mem_cons.2 ⟨data_good _ 10 inb_S12x2064x128_S1x2048x128_10_8_0 _ (fun r l => by pointwise [k0_pay35, rows]), ?_⟩
  refine List.forall_mem_cons.2 ⟨zero_good _ 10 0 inb_S12x2064x128_S1x8x128_10_0_0 (.inl rfl) _ (fun a r l => by pointwise [k0_pay34, k0_pay2]), ?_⟩
  refine List.forall_mem_cons.2 ⟨zero_good _ 9 2056 inb_S12x2064x128_S1x8x128_9_2056_0 (.inr (le_refl _)) _ (fun a r l => by pointwise [k0_pay33, k0_pay2]), ?_⟩
  refine List.forall_mem_cons.2 ⟨data_good _ 9 inb_S12x2064x128_S1x2048x128_9_8_0 _ (fun r l => by pointwise [k0_pay32, rows]), ?_⟩
  refine List.forall_mem_cons.2 ⟨zero_good _ 9 0 inb_S12x2064x128_S1x8x128_9_0_0 (.inl rfl) _ (fun a r l => by pointwise [k0_pay31, k0_pay2]), ?_⟩
  refine List.forall_mem_cons.2 ⟨zero_good _ 8 2056 inb_S12x2064x128_S1x8x128_8_2056_0 (.inr (le_refl _)) _ (fun a r l => by pointwise [k0_pay30, k0_pay2]), ?_⟩
  refine List.forall_mem_cons.2 ⟨data_good _ 8 inb_S12x2064x128_S1x2048x128_8_8_0 _ (fun r l => by pointwise [k0_pay29, rows]), ?_⟩
  refine List.forall_mem_cons.2 ⟨zero_good _ 8 0 inb_S12x2064x128_S1x8x128_8_0_0 (.inl rfl) _ (fun a r l => by pointwise [k0_pay28, k0_pay2]), ?_⟩
  refine List.forall_mem_cons.2 ⟨zero_good _ 7 2056 inb_S12x2064x128_S1x8x128_7_2056_0 (.inr (le_refl _)) _ (fun a r l => by pointwise [k0_pay27, k0_pay2]), ?_⟩
  refine List.forall_mem_cons.2 ⟨data_good _ 7 inb_S12x2064x128_S1x2048x128_7_8_0 _ (fun r l => by pointwise [k0_pay26, rows]), ?_⟩
  refine List.forall_mem_cons.2 ⟨zero_good _ 7 0 inb_S12x2064x128_S1x8x128_7_0_0 (.inl rfl) _ (fun a r l => by pointwise [k0_pay25, k0_pay2]), ?_⟩
  refine List.forall_mem_cons.2 ⟨zero_good _ 6 2056 inb_S12x2064x128_S1x8x128_6_2056_0 (.inr (le_refl _)) _ (fun a r l => by pointwise [k0_pay24, k0_pay2]), ?_⟩
  refine List.forall_mem_cons.2 ⟨data_good _ 6 inb_S12x2064x128_S1x2048x128_6_8_0 _ (fun r l => by pointwise [k0_pay23, k0_pay22, rows]), ?_⟩
  refine List.forall_mem_cons.2 ⟨zero_good _ 6 0 inb_S12x2064x128_S1x8x128_6_0_0 (.inl rfl) _ (fun a r l => by pointwise [k0_pay21, k0_pay2]), ?_⟩
  refine List.forall_mem_cons.2 ⟨zero_good _ 5 2056 inb_S12x2064x128_S1x8x128_5_2056_0 (.inr (le_refl _)) _ (fun a r l => by pointwise [k0_pay20, k0_pay2]), ?_⟩
  refine List.forall_mem_cons.2 ⟨data_good _ 5 inb_S12x2064x128_S1x2048x128_5_8_0 _ (fun r l => by pointwise [k0_pay19, rows]), ?_⟩
  refine List.forall_mem_cons.2 ⟨zero_good _ 5 0 inb_S12x2064x128_S1x8x128_5_0_0 (.inl rfl) _ (fun a r l => by pointwise [k0_pay18, k0_pay2]), ?_⟩
  refine List.forall_mem_cons.2 ⟨zero_good _ 4 2056 inb_S12x2064x128_S1x8x128_4_2056_0 (.inr (le_refl _)) _ (fun a r l => by pointwise [k0_pay17, k0_pay2]), ?_⟩
  refine List.forall_mem_cons.2 ⟨data_good _ 4 inb_S12x2064x128_S1x2048x128_4_8_0 _ (fun r l => by pointwise [k0_pay16, rows]), ?_⟩
  refine List.forall_mem_cons.2 ⟨zero_good _ 4 0 inb_S12x2064x128_S1x8x128_4_0_0 (.inl rfl) _ (fun a r l => by pointwise [k0_pay15, k0_pay2]), ?_⟩
  refine List.forall_mem_cons.2 ⟨zero_good _ 3 2056 inb_S12x2064x128_S1x8x128_3_2056_0 (.inr (le_refl _)) _ (fun a r l => by pointwise [k0_pay14, k0_pay2]), ?_⟩
  refine List.forall_mem_cons.2 ⟨data_good _ 3 inb_S12x2064x128_S1x2048x128_3_8_0 _ (fun r l => by pointwise [k0_pay13, rows]), ?_⟩
  refine List.forall_mem_cons.2 ⟨zero_good _ 3 0 inb_S12x2064x128_S1x8x128_3_0_0 (.inl rfl) _ (fun a r l => by pointwise [k0_pay12, k0_pay2]), ?_⟩
  refine List.forall_mem_cons.2 ⟨zero_good _ 2 2056 inb_S12x2064x128_S1x8x128_2_2056_0 (.inr (le_refl _)) _ (fun a r l => by pointwise [k0_pay11, k0_pay2]), ?_⟩
  refine List.forall_mem_cons.2 ⟨data_good _ 2 inb_S12x2064x128_S1x2048x128_2_8_0 _ (fun r l => by pointwise [k0_pay10, rows]), ?_⟩
  refine List.forall_mem_cons.2 ⟨zero_good _ 2 0 inb_S12x2064x128_S1x8x128_2_0_0 (.inl rfl) _ (fun a r l => by pointwise [k0_pay9, k0_pay2]), ?_⟩
  refine List.forall_mem_cons.2 ⟨zero_good _ 1 2056 inb_S12x2064x128_S1x8x128_1_2056_0 (.inr (le_refl _)) _ (fun a r l => by pointwise [k0_pay8, k0_pay2]), ?_⟩
  refine List.forall_mem_cons.2 ⟨data_good _ 1 inb_S12x2064x128_S1x2048x128_1_8_0 _ (fun r l => by pointwise [k0_pay7, rows]), ?_⟩
  refine List.forall_mem_cons.2 ⟨zero_good _ 1 0 inb_S12x2064x128_S1x8x128_1_0_0 (.inl rfl) _ (fun a r l => by pointwise [k0_pay6, k0_pay2]), ?_⟩
  refine List.forall_mem_cons.2 ⟨zero_good _ 0 2056 inb_S12x2064x128_S1x8x128_0_2056_0 (.inr (le_refl _)) _ (fun a r l => by pointwise [k0_pay5, k0_pay2]), ?_⟩
  refine List.forall_mem_cons.2 ⟨data_good _ 0 inb_S12x2064x128_S1x2048x128_0_8_0 _ (fun r l => by pointwise [k0_pay4, rows]), ?_⟩
  refine List.forall_mem_cons.2 ⟨zero_good _ 0 0 inb_S12x2064x128_S1x8x128_0_0_0 (.inl rfl) _ (fun a r l => by pointwise [k0_pay3, k0_pay2]), ?_⟩
  intro p hp
  exact absurd hp (List.not_mem_nil)

set_option maxHeartbeats 1000000 in
/-- Every element of the scratch is stored. -/
theorem pieces_cover (g : Fin 12) (y : S12x2064x128.Idx) (h0 : (y 0).val = g.val) : ∃ p ∈ pieces D, y ∈ p.1.set := by
  have b1 : (y 1).val < 2064 := (y 1).isLt
  have hr : (0 ≤ (y 1).val ∧ (y 1).val < 0 + 8) ∨ (8 ≤ (y 1).val ∧ (y 1).val < 2056) ∨ (2056 ≤ (y 1).val ∧ (y 1).val < 2056 + 8) := by omega
  match g with
  | ⟨0, _⟩ =>
    rcases hr with hr | hr | hr
    · exact ⟨_, List.getElem_mem (l := pieces D) (n := 35) (show 35 < 36 by decide), mem_zero 0 0 inb_S12x2064x128_S1x8x128_0_0_0 y h0 hr⟩
    · exact ⟨_, List.getElem_mem (l := pieces D) (n := 34) (show 34 < 36 by decide), mem_data 0 inb_S12x2064x128_S1x2048x128_0_8_0 y h0 hr⟩
    · exact ⟨_, List.getElem_mem (l := pieces D) (n := 33) (show 33 < 36 by decide), mem_zero 0 2056 inb_S12x2064x128_S1x8x128_0_2056_0 y h0 hr⟩
  | ⟨1, _⟩ =>
    rcases hr with hr | hr | hr
    · exact ⟨_, List.getElem_mem (l := pieces D) (n := 32) (show 32 < 36 by decide), mem_zero 1 0 inb_S12x2064x128_S1x8x128_1_0_0 y h0 hr⟩
    · exact ⟨_, List.getElem_mem (l := pieces D) (n := 31) (show 31 < 36 by decide), mem_data 1 inb_S12x2064x128_S1x2048x128_1_8_0 y h0 hr⟩
    · exact ⟨_, List.getElem_mem (l := pieces D) (n := 30) (show 30 < 36 by decide), mem_zero 1 2056 inb_S12x2064x128_S1x8x128_1_2056_0 y h0 hr⟩
  | ⟨2, _⟩ =>
    rcases hr with hr | hr | hr
    · exact ⟨_, List.getElem_mem (l := pieces D) (n := 29) (show 29 < 36 by decide), mem_zero 2 0 inb_S12x2064x128_S1x8x128_2_0_0 y h0 hr⟩
    · exact ⟨_, List.getElem_mem (l := pieces D) (n := 28) (show 28 < 36 by decide), mem_data 2 inb_S12x2064x128_S1x2048x128_2_8_0 y h0 hr⟩
    · exact ⟨_, List.getElem_mem (l := pieces D) (n := 27) (show 27 < 36 by decide), mem_zero 2 2056 inb_S12x2064x128_S1x8x128_2_2056_0 y h0 hr⟩
  | ⟨3, _⟩ =>
    rcases hr with hr | hr | hr
    · exact ⟨_, List.getElem_mem (l := pieces D) (n := 26) (show 26 < 36 by decide), mem_zero 3 0 inb_S12x2064x128_S1x8x128_3_0_0 y h0 hr⟩
    · exact ⟨_, List.getElem_mem (l := pieces D) (n := 25) (show 25 < 36 by decide), mem_data 3 inb_S12x2064x128_S1x2048x128_3_8_0 y h0 hr⟩
    · exact ⟨_, List.getElem_mem (l := pieces D) (n := 24) (show 24 < 36 by decide), mem_zero 3 2056 inb_S12x2064x128_S1x8x128_3_2056_0 y h0 hr⟩
  | ⟨4, _⟩ =>
    rcases hr with hr | hr | hr
    · exact ⟨_, List.getElem_mem (l := pieces D) (n := 23) (show 23 < 36 by decide), mem_zero 4 0 inb_S12x2064x128_S1x8x128_4_0_0 y h0 hr⟩
    · exact ⟨_, List.getElem_mem (l := pieces D) (n := 22) (show 22 < 36 by decide), mem_data 4 inb_S12x2064x128_S1x2048x128_4_8_0 y h0 hr⟩
    · exact ⟨_, List.getElem_mem (l := pieces D) (n := 21) (show 21 < 36 by decide), mem_zero 4 2056 inb_S12x2064x128_S1x8x128_4_2056_0 y h0 hr⟩
  | ⟨5, _⟩ =>
    rcases hr with hr | hr | hr
    · exact ⟨_, List.getElem_mem (l := pieces D) (n := 20) (show 20 < 36 by decide), mem_zero 5 0 inb_S12x2064x128_S1x8x128_5_0_0 y h0 hr⟩
    · exact ⟨_, List.getElem_mem (l := pieces D) (n := 19) (show 19 < 36 by decide), mem_data 5 inb_S12x2064x128_S1x2048x128_5_8_0 y h0 hr⟩
    · exact ⟨_, List.getElem_mem (l := pieces D) (n := 18) (show 18 < 36 by decide), mem_zero 5 2056 inb_S12x2064x128_S1x8x128_5_2056_0 y h0 hr⟩
  | ⟨6, _⟩ =>
    rcases hr with hr | hr | hr
    · exact ⟨_, List.getElem_mem (l := pieces D) (n := 17) (show 17 < 36 by decide), mem_zero 6 0 inb_S12x2064x128_S1x8x128_6_0_0 y h0 hr⟩
    · exact ⟨_, List.getElem_mem (l := pieces D) (n := 16) (show 16 < 36 by decide), mem_data 6 inb_S12x2064x128_S1x2048x128_6_8_0 y h0 hr⟩
    · exact ⟨_, List.getElem_mem (l := pieces D) (n := 15) (show 15 < 36 by decide), mem_zero 6 2056 inb_S12x2064x128_S1x8x128_6_2056_0 y h0 hr⟩
  | ⟨7, _⟩ =>
    rcases hr with hr | hr | hr
    · exact ⟨_, List.getElem_mem (l := pieces D) (n := 14) (show 14 < 36 by decide), mem_zero 7 0 inb_S12x2064x128_S1x8x128_7_0_0 y h0 hr⟩
    · exact ⟨_, List.getElem_mem (l := pieces D) (n := 13) (show 13 < 36 by decide), mem_data 7 inb_S12x2064x128_S1x2048x128_7_8_0 y h0 hr⟩
    · exact ⟨_, List.getElem_mem (l := pieces D) (n := 12) (show 12 < 36 by decide), mem_zero 7 2056 inb_S12x2064x128_S1x8x128_7_2056_0 y h0 hr⟩
  | ⟨8, _⟩ =>
    rcases hr with hr | hr | hr
    · exact ⟨_, List.getElem_mem (l := pieces D) (n := 11) (show 11 < 36 by decide), mem_zero 8 0 inb_S12x2064x128_S1x8x128_8_0_0 y h0 hr⟩
    · exact ⟨_, List.getElem_mem (l := pieces D) (n := 10) (show 10 < 36 by decide), mem_data 8 inb_S12x2064x128_S1x2048x128_8_8_0 y h0 hr⟩
    · exact ⟨_, List.getElem_mem (l := pieces D) (n := 9) (show 9 < 36 by decide), mem_zero 8 2056 inb_S12x2064x128_S1x8x128_8_2056_0 y h0 hr⟩
  | ⟨9, _⟩ =>
    rcases hr with hr | hr | hr
    · exact ⟨_, List.getElem_mem (l := pieces D) (n := 8) (show 8 < 36 by decide), mem_zero 9 0 inb_S12x2064x128_S1x8x128_9_0_0 y h0 hr⟩
    · exact ⟨_, List.getElem_mem (l := pieces D) (n := 7) (show 7 < 36 by decide), mem_data 9 inb_S12x2064x128_S1x2048x128_9_8_0 y h0 hr⟩
    · exact ⟨_, List.getElem_mem (l := pieces D) (n := 6) (show 6 < 36 by decide), mem_zero 9 2056 inb_S12x2064x128_S1x8x128_9_2056_0 y h0 hr⟩
  | ⟨10, _⟩ =>
    rcases hr with hr | hr | hr
    · exact ⟨_, List.getElem_mem (l := pieces D) (n := 5) (show 5 < 36 by decide), mem_zero 10 0 inb_S12x2064x128_S1x8x128_10_0_0 y h0 hr⟩
    · exact ⟨_, List.getElem_mem (l := pieces D) (n := 4) (show 4 < 36 by decide), mem_data 10 inb_S12x2064x128_S1x2048x128_10_8_0 y h0 hr⟩
    · exact ⟨_, List.getElem_mem (l := pieces D) (n := 3) (show 3 < 36 by decide), mem_zero 10 2056 inb_S12x2064x128_S1x8x128_10_2056_0 y h0 hr⟩
  | ⟨11, _⟩ =>
    rcases hr with hr | hr | hr
    · exact ⟨_, List.getElem_mem (l := pieces D) (n := 2) (show 2 < 36 by decide), mem_zero 11 0 inb_S12x2064x128_S1x8x128_11_0_0 y h0 hr⟩
    · exact ⟨_, List.getElem_mem (l := pieces D) (n := 1) (show 1 < 36 by decide), mem_data 11 inb_S12x2064x128_S1x2048x128_11_8_0 y h0 hr⟩
    · exact ⟨_, List.getElem_mem (l := pieces D) (n := 0) (show 0 < 36 by decide), mem_zero 11 2056 inb_S12x2064x128_S1x8x128_11_2056_0 y h0 hr⟩

/-- A read of every other row of lane group `g` from row `o` on, after the stores. -/
theorem slab {sig' : RefSig} {κ : Kind} {sp : Space} (v : View sig' κ sp S12x2064x128 .f32) (g : Fin 12) (o : ℕ)
    (inb : ∀ a, S1x1024x128.size a = 0 ∨ (![g.val, o, 0] : Fin 3 → Nat) a + (![1, 2, 1] : Fin 3 → Nat) a * (S1x1024x128.size a - 1) < S12x2064x128.size a)
    (n : Fin 1024) (l : Fin 128) :
    v.readCov (pieces D) (⟨![g.val, o, 0], S1x1024x128.size, ![1, 2, 1], inb⟩ : LoadRect S12x2064x128) (ix3 0 n l : S1x1024x128.Idx)
      = padded (rows D) g (o + 2 * n.val) l := by
  rw [View.readCov_eq_canon']
  have e0 : ((⟨![g.val, o, 0], S1x1024x128.size, ![1, 2, 1], inb⟩ : LoadRect S12x2064x128).idx (ix3 0 n l : S1x1024x128.Idx)) 0 = g := rfl
  have e1 : (((⟨![g.val, o, 0], S1x1024x128.size, ![1, 2, 1], inb⟩ : LoadRect S12x2064x128).idx (ix3 0 n l : S1x1024x128.Idx)) 1).val = o + 2 * n.val := rfl
  have e2 : ((⟨![g.val, o, 0], S1x1024x128.size, ![1, 2, 1], inb⟩ : LoadRect S12x2064x128).idx (ix3 0 n l : S1x1024x128.Idx)) 2 = l :=
    Fin.ext (show 0 + 1 * l.val = l.val by omega)
  refine (View.canon_apply_of_pieces (held (rows D)) _ (pieces_good D) _ (pieces_cover D g _ (congrArg Fin.val e0))).trans ?_
  unfold held
  rw [e0, e1, e2]

end Cert.Proof.Conv

end
-- ==== Proof.ConvValue.lean ====
/- The Hyena branch's short convolution (`KernelConv`): the array the kernel leaves and the array the reference computes are one
   function of the arguments. -/
module

public import proofs.«01_k».proof.Proof.ConvScratch
public import proofs.«01_k».proof.Proof.Gen.KernelConvIdeal.Value
public import proofs.«01_k».proof.Proof.Gen.ReferenceConvIdeal.Run
public import Idealize.ShloMosaic.Lib.Pipeline.ValueKit

@[expose] public section

set_option maxRecDepth 16384

noncomputable section

namespace Cert.Proof.Conv

open Idealize.ShloMosaic Idealize.ShloMosaic.TcCoe Idealize.SL.Sem
open Idealize.ShloMosaic.Pipeline (Dat)

section Reference

open Cert.ReferenceConvIdeal Cert.ReferenceConvIdeal.Gen
open Cert.ReferenceConvIdeal.Facts

/-- Row `r` of the positions with one zero before and one behind them. -/
def tap (x : FVec Ideal S4x2048x9216 .bf16) (b : Fin 4) (r : ℕ) (c : Fin 3072) : EReal :=
  if h : 1 ≤ r ∧ r < 2049 then x (ix3 b ⟨r - 1, by omega⟩ ⟨c.val, by omega⟩) else 0

/-- The convolution at position `l`. -/
def conv (x : FVec Ideal S4x2048x9216 .bf16) (w : FVec Ideal S3x3072 .f32) (d : FVec Ideal S1x3072 .f32) (b : Fin 4) (l : ℕ) (c : Fin 3072) : EReal :=
  w (ix2 0 c) * tap x b l c + w (ix2 1 c) * tap x b (l + 1) c + w (ix2 2 c) * tap x b (l + 2) c + d (ix2 0 c)

/-- The result: row `q` is the position with half `q % 1024` and parity `q / 1024`. -/
def G (x : FVec Ideal S4x2048x9216 .bf16) (w : FVec Ideal S3x3072 .f32) (d : FVec Ideal S1x3072 .f32) : FVec Ideal S4x2048x3072 .bf16 :=
  fun y => conv x w d (y 0) (2 * ((y 1).val % 1024) + (y 1).val / 1024) (y 2)

/-- The positions between two rows of zeros, as the reference forms them. -/
def EDGED (x : FVec Ideal S4x2048x9216 .bf16) : FVec Ideal S4x2050x3072 .f32 :=
  concatenate S4x2050x3072 1 [⟨S4x1x3072, (broadcastInDim S4x1x3072 ![] bcast_S_S4x1x3072 (constant S_ .f32 0x00000000#32))⟩,
    ⟨S4x2048x3072, (extf .f32 (extractStridedSlice S4x2048x3072 ![0, 0, 0] x slices_S4x2048x9216_S4x2048x3072_0_0_0) bitsLt_bf16_f32)⟩,
    ⟨S4x1x3072, (broadcastInDim S4x1x3072 ![] bcast_S_S4x1x3072 (constant S_ .f32 0x00000000#32))⟩]
    concatenates_S4x1x3072_S4x2048x3072_S4x1x3072_S4x2050x3072_d1

/-- The padded positions at one element. -/
theorem EDGED_at (x : FVec Ideal S4x2048x9216 .bf16) (b : Fin 4) (r : Fin 2050) (c : Fin 3072) : EDGED x (ix3 b r c) = tap x b r.val c := by
  pointwise [EDGED, tap]
  by_cases h : 1 ≤ r.val ∧ r.val < 2049
  · rw [dif_neg (by omega), dif_pos (by omega), dif_pos h]
  · by_cases h' : r.val < 1
    · rw [dif_pos h', dif_neg h]
    · rw [dif_neg h', dif_neg (by omega), dif_neg h]

/-- One row of the weights, everywhere. -/
def WROW (k : Fin 2 → ℕ) (hk : S3x3072.Slices k S1x3072) (w : FVec Ideal S3x3072 .f32) : FVec Ideal S4x2048x3072 .f32 :=
  broadcastInDim S4x2048x3072 ![0, 1, 2] bcast_S1x1x3072_S4x2048x3072_0_1_2 (broadcastInDim S1x1x3072 ![2] bcast_S3072_S1x1x3072_2
    (shapeCast _ (extractStridedSlice S1x3072 k w hk) shapeCasts_S1x3072_S3072))

/-- The first row at one element. -/
theorem WROW0_at (w : FVec Ideal S3x3072 .f32) (b : Fin 4) (l : Fin 2048) (c : Fin 3072) :
    WROW ![0, 0] slices_S3x3072_S1x3072_0_0 w (ix3 b l c) = w (ix2 0 c) := by
  pointwise [WROW]

/-- The second row at one element. -/
theorem WROW1_at (w : FVec Ideal S3x3072 .f32) (b : Fin 4) (l : Fin 2048) (c : Fin 3072) :
    WROW ![1, 0] slices_S3x3072_S1x3072_1_0 w (ix3 b l c) = w (ix2 1 c) := by
  pointwise [WROW]

/-- The third row at one element. -/
theorem WROW2_at (w : FVec Ideal S3x3072 .f32) (b : Fin 4) (l : Fin 2048) (c : Fin 3072) :
    WROW ![2, 0] slices_S3x3072_S1x3072_2_0 w (ix3 b l c) = w (ix2 2 c) := by
  pointwise [WROW]

/-- The bias, everywhere. -/
def BIAS (d : FVec Ideal S1x3072 .f32) : FVec Ideal S4x2048x3072 .f32 :=
  broadcastInDim S4x2048x3072 ![0, 1, 2] bcast_S1x1x3072_S4x2048x3072_0_1_2 (broadcastInDim S1x1x3072 ![1, 2] bcast_S1x3072_S1x1x3072_1_2 d)

/-- The bias at one element. -/
theorem BIAS_at (d : FVec Ideal S1x3072 .f32) (b : Fin 4) (l : Fin 2048) (c : Fin 3072) : BIAS d (ix3 b l c) = d (ix2 0 c) := by
  pointwise [BIAS]

/-- The convolution in natural order, as the reference forms it. -/
def NATURAL (x : FVec Ideal S4x2048x9216 .bf16) (w : FVec Ideal S3x3072 .f32) (d : FVec Ideal S1x3072 .f32) : FVec Ideal S4x2048x3072 .f32 :=
  addf (addf (addf (mulf (WROW ![0, 0] slices_S3x3072_S1x3072_0_0 w) (extractStridedSlice S4x2048x3072 ![0, 0, 0] (EDGED x) slices_S4x2050x3072_S4x2048x3072_0_0_0))
      (mulf (WROW ![1, 0] slices_S3x3072_S1x3072_1_0 w) (extractStridedSlice S4x2048x3072 ![0, 1, 0] (EDGED x) slices_S4x2050x3072_S4x2048x3072_0_1_0)))
      (mulf (WROW ![2, 0] slices_S3x3072_S1x3072_2_0 w) (extractStridedSlice S4x2048x3072 ![0, 2, 0] (EDGED x) slices_S4x2050x3072_S4x2048x3072_0_2_0)))
    (BIAS d)

/-- The convolution in natural order, at one element. -/
theorem NATURAL_at (x : FVec Ideal S4x2048x9216 .bf16) (w : FVec Ideal S3x3072 .f32) (d : FVec Ideal S1x3072 .f32) (b : Fin 4) (l : Fin 2048) (c : Fin 3072) :
    NATURAL x w d (ix3 b l c) = conv x w d b l.val c := by
  pointwise [NATURAL, WROW0_at, WROW1_at, WROW2_at, BIAS_at, EDGED_at, conv]
  rw [Nat.add_comm 1, Nat.add_comm 2]

/-- The reference's result term. -/
def REF (x : FVec Ideal S4x2048x9216 .bf16) (w : FVec Ideal S3x3072 .f32) (d : FVec Ideal S1x3072 .f32) : FVec Ideal S4x2048x3072 .bf16 :=
  truncf .bf16 (shapeCast _ (transpose S4x2x1024x3072 [0, 2, 1, 3] (shapeCast _ (NATURAL x w d) shapeCasts_S4x2048x3072_S4x1024x2x3072)
    transposes_S4x1024x2x3072_S4x2x1024x3072_0_2_1_3) shapeCasts_S4x2x1024x3072_S4x2048x3072) bitsLt_bf16_f32

/-- The reference's result is `G` of the arguments. -/
theorem ref (x : FVec Ideal S4x2048x9216 .bf16) (w : FVec Ideal S3x3072 .f32) (d : FVec Ideal S1x3072 .f32) : REF x w d = G x w d := by
  funext y
  idx_vars y
  pointwise [REF, G, NATURAL_at]
  rw [Nat.mul_comm 2]

end Reference

open Cert.KernelConvIdeal Cert.KernelConvIdeal.Gen

variable (m : (ℓ : Loc nD τ sig) → Buf (Elt Ideal) ℓ)

/-- Which block of its array each window holds at grid point `t`: batch `t / 2`, column block `t % 2`. -/
theorem idx : ∀ t : Fin cfg0.N,
    win0_0.index t = ![t.val / 2, 0, t.val % 2] ∧ win0_1.index t = ![0, t.val % 2] ∧ win0_2.index t = ![0, t.val % 2] ∧
    win0_3.index t = ![t.val / 2, 0, t.val % 2] :=
  (by decide +kernel : ∀ t : Fin grid0.N, _)

/-- The batch of grid point `t`. -/
abbrev batch (t : Fin cfg0.N) : Fin 4 := ⟨t.val / 2, by have := lt_of_lt_of_eq t.isLt N_0; omega⟩

/-- The channel that column `k` of grid point `t`'s block is. -/
abbrev chan (t : Fin cfg0.N) (k : Fin 1536) : Fin 3072 := ⟨t.val % 2 * 1536 + k.val, by omega⟩

/-- Lane `l` of lane group `g`. -/
abbrev lane (g : Fin 12) (l : Fin 128) : Fin 1536 := ⟨g.val * 128 + l.val, by omega⟩

/-- Every lane group lies in the input block. -/
theorem inb_x : ∀ g : Fin 12, ∀ a, (![0, 0, g.val * 128] : Fin 3 → Nat) a + S1x2048x128.size a ≤ S1x2048x1536.size a := by decide

/-- Lane group `g` of the input block. -/
abbrev D (c : Dev nD) (t : Fin cfg0.N) (g : Fin 12) : Vec Ideal S1x2048x128 .bf16 :=
  View.ld (iblk m c 0 t) (Rect.unit (s := S1x2048x1536) ![0, 0, g.val * 128] S1x2048x128.size (inb_x g))

/-- A lane group's element, in the argument. -/
theorem D_at (c : Dev nD) (t : Fin cfg0.N) (g : Fin 12) (r : Fin 2048) (l : Fin 128) :
    rows (D m c t) g r l = (m ((c : Thread nD τ).loc main_arg0) : FVec Ideal S4x2048x9216 .bf16) (ix3 (batch t) r ⟨(chan t (lane g l)).val, by omega⟩) := by
  unfold rows D
  blk_point [iblk, V, idx t]

/-- A lane group of a row of the weights, in the argument. -/
theorem w_at (c : Dev nD) (t : Fin cfg0.N) (g : Fin 12) (k : Fin 3)
    (inb : ∀ a, (![k.val, g.val * 128] : Fin 2 → Nat) a + S1x128.size a ≤ S3x1536.size a) (l : Fin 128) :
    (View.ld (iblk m c 1 t) (Rect.unit (s := S3x1536) ![k.val, g.val * 128] S1x128.size inb) : Vec Ideal S1x128 .f32) (ix2 0 l)
      = (m ((c : Thread nD τ).loc main_arg1) : FVec Ideal S3x3072 .f32) (ix2 k (chan t (lane g l))) := by
  blk_point [iblk, V, idx t]

/-- A lane group of the bias, in the argument. -/
theorem b_at (c : Dev nD) (t : Fin cfg0.N) (g : Fin 12)
    (inb : ∀ a, (![0, g.val * 128] : Fin 2 → Nat) a + S1x128.size a ≤ S1x1536.size a) (l : Fin 128) :
    (View.ld (iblk m c 2 t) (Rect.unit (s := S1x1536) ![0, g.val * 128] S1x128.size inb) : Vec Ideal S1x128 .f32) (ix2 0 l)
      = (m ((c : Thread nD τ).loc main_arg2) : FVec Ideal S1x3072 .f32) (ix2 0 (chan t (lane g l))) := by
  blk_point [iblk, V, idx t]

/-- A row of the scratch is a tap of the convolution. -/
theorem tap_at (c : Dev nD) (t : Fin cfg0.N) (g : Fin 12) (o r : ℕ) (ho : o = 7 + r) (l : Fin 128) :
    padded (rows (D m c t)) g o l = tap (m ((c : Thread nD τ).loc main_arg0)) (batch t) r (chan t (lane g l)) := by
  unfold padded tap
  by_cases h : 1 ≤ r ∧ r < 2049
  · rw [dif_pos (by omega), dif_pos h, D_at]
    exact congrArg (fun r => (m ((c : Thread nD τ).loc main_arg0) : FVec Ideal S4x2048x9216 .bf16) (ix3 (batch t) r _)) (Fin.ext (show o - 8 = r - 1 by omega))
  · rw [dif_neg (by omega), dif_neg h]

section Payloads

/-- Three weighted taps and the bias, at one element of a lane group. -/
def taps (w0 w1 w2 d : Vec Ideal S1x128 .f32) (r0 r1 r2 : Vec Ideal S1x1024x128 .f32) (n : Fin 1024) (l : Fin 128) : EReal :=
  (w0 (ix2 0 l) : EReal) * r0 (ix3 0 n l) + w1 (ix2 0 l) * r1 (ix3 0 n l) + w2 (ix2 0 l) * r2 (ix3 0 n l) + d (ix2 0 l)

variable (w0 w1 w2 d : Vec Ideal S1x128 .f32) (r0 r1 r2 : Vec Ideal S1x1024x128 .f32)

/-- Lane group 0, even positions: the three weighted taps and the bias. -/
theorem even_0 (i : Fin 1) (n : Fin 1024) (l : Fin 128) : (k0_pay44 (F := Ideal) w0 w1 w2 d (k0_pay40 (F := Ideal) r0) (k0_pay41 (F := Ideal) r1) (k0_pay42 (F := Ideal) r2)) (ix3 i n l) = taps w0 w1 w2 d r0 r1 r2 n l := by
  pointwise [k0_pay44, k0_pay40, k0_pay41, k0_pay42, taps]

/-- Lane group 0, odd positions: the three weighted taps and the bias. -/
theorem odd_0 (i : Fin 1) (n : Fin 1024) (l : Fin 128) : (k0_pay45 (F := Ideal) w0 w1 w2 d (k0_pay41 (F := Ideal) r0) (k0_pay42 (F := Ideal) r1) (k0_pay43 (F := Ideal) r2)) (ix3 i n l) = taps w0 w1 w2 d r0 r1 r2 n l := by
  pointwise [k0_pay45, k0_pay41, k0_pay42, k0_pay43, taps]

/-- Lane group 1, even positions: the three weighted taps and the bias. -/
theorem even_1 (i : Fin 1) (n : Fin 1024) (l : Fin 128) : (k0_pay49 (F := Ideal) w0 w1 w2 d (k0_pay46 (F := Ideal) r0) (k0_pay47 (F := Ideal) r1) r2) (ix3 i n l) = taps w0 w1 w2 d r0 r1 r2 n l := by
  pointwise [k0_pay49, k0_pay46, k0_pay47, k0_pay48, taps]

/-- Lane group 1, odd positions: the three weighted taps and the bias. -/
theorem odd_1 (i : Fin 1) (n : Fin 1024) (l : Fin 128) : (k0_pay50 (F := Ideal) w0 w1 w2 d (k0_pay47 (F := Ideal) r0) r1 r2) (ix3 i n l) = taps w0 w1 w2 d r0 r1 r2 n l := by
  pointwise [k0_pay50, k0_pay47, k0_pay48, taps]

/-- Lane group 2, even positions: the three weighted taps and the bias. -/
theorem even_2 (i : Fin 1) (n : Fin 1024) (l : Fin 128) : (k0_pay53 (F := Ideal) w0 w1 w2 d r0 r1 r2) (ix3 i n l) = taps w0 w1 w2 d r0 r1 r2 n l := by
  pointwise [k0_pay53, k0_pay51, k0_pay52, taps]

/-- Lane group 2, odd positions: the three weighted taps and the bias. -/
theorem odd_2 (i : Fin 1) (n : Fin 1024) (l : Fin 128) : (k0_pay54 (F := Ideal) w0 w1 w2 d r0 r1 r2) (ix3 i n l) = taps w0 w1 w2 d r0 r1 r2 n l := by
  pointwise [k0_pay54, k0_pay51, k0_pay52, taps]

/-- Lane group 3, even positions: the three weighted taps and the bias. -/
theorem even_3 (i : Fin 1) (n : Fin 1024) (l : Fin 128) : (k0_pay57 (F := Ideal) w0 w1 w2 d r0 r1 r2) (ix3 i n l) = taps w0 w1 w2 d r0 r1 r2 n l := by
  pointwise [k0_pay57, k0_pay55, k0_pay56, taps]

/-- Lane group 3, odd positions: the three weighted taps and the bias. -/
theorem odd_3 (i : Fin 1) (n : Fin 1024) (l : Fin 128) : (k0_pay58 (F := Ideal) w0 w1 w2 d r0 r1 r2) (ix3 i n l) = taps w0 w1 w2 d r0 r1 r2 n l := by
  pointwise [k0_pay58, k0_pay55, k0_pay56, taps]

/-- Lane group 4, even positions: the three weighted taps and the bias. -/
theorem even_4 (i : Fin 1) (n : Fin 1024) (l : Fin 128) : (k0_pay61 (F := Ideal) w0 w1 w2 d r0 r1 r2) (ix3 i n l) = taps w0 w1 w2 d r0 r1 r2 n l := by
  pointwise [k0_pay61, k0_pay59, k0_pay60, taps]

/-- Lane group 4, odd positions: the three weighted taps and the bias. -/
theorem odd_4 (i : Fin 1) (n : Fin 1024) (l : Fin 128) : (k0_pay63 (F := Ideal) (k0_pay62 (F := Ideal) w0 w1 w2 d r0 r1 r2)) (ix3 i n l) = taps w0 w1 w2 d r0 r1 r2 n l := by
  pointwise [k0_pay63, k0_pay62, k0_pay59, k0_pay60, taps]

/-- Lane group 5, even positions: the three weighted taps and the bias. -/
theorem even_5 (i : Fin 1) (n : Fin 1024) (l : Fin 128) : (k0_pay67 (F := Ideal) w0 w1 w2 d r0 r1 r2) (ix3 i n l) = taps w0 w1 w2 d r0 r1 r2 n l := by
  pointwise [k0_pay67, k0_pay64, k0_pay65, taps]

/-- Lane group 5, odd positions: the three weighted taps and the bias. -/
theorem odd_5 (i : Fin 1) (n : Fin 1024) (l : Fin 128) : (k0_pay69 (F := Ideal) w1 w2 d (k0_pay65 (F := Ideal) r1) (k0_pay66 (F := Ideal) r2) (k0_pay68 (F := Ideal) w0 r0)) (ix3 i n l) = taps w0 w1 w2 d r0 r1 r2 n l := by
  pointwise [k0_pay69, k0_pay65, k0_pay66, k0_pay68, k0_pay64, taps]

/-- Lane group 6, even positions: the three weighted taps and the bias. -/
theorem even_6 (i : Fin 1) (n : Fin 1024) (l : Fin 128) : (k0_pay74 (F := Ideal) (k0_pay73 (F := Ideal) w0 w1 w2 d r0 r1 r2)) (ix3 i n l) = taps w0 w1 w2 d r0 r1 r2 n l := by
  pointwise [k0_pay74, k0_pay73, k0_pay70, k0_pay71, taps]

/-- Lane group 6, odd positions: the three weighted taps and the bias. -/
theorem odd_6 (i : Fin 1) (n : Fin 1024) (l : Fin 128) : (k0_pay75 (F := Ideal) w0 w1 w2 d (k0_pay70 (F := Ideal) r0) (k0_pay71 (F := Ideal) r1) (k0_pay72 (F := Ideal) r2)) (ix3 i n l) = taps w0 w1 w2 d r0 r1 r2 n l := by
  pointwise [k0_pay75, k0_pay70, k0_pay71, k0_pay72, taps]

/-- Lane group 7, even positions: the three weighted taps and the bias. -/
theorem even_7 (i : Fin 1) (n : Fin 1024) (l : Fin 128) : (k0_pay81 (F := Ideal) w2 d (k0_pay77 (F := Ideal) r2) (k0_pay79 (F := Ideal) w0 r0) (k0_pay80 (F := Ideal) w1 r1)) (ix3 i n l) = taps w0 w1 w2 d r0 r1 r2 n l := by
  pointwise [k0_pay81, k0_pay77, k0_pay79, k0_pay80, k0_pay76, taps]

/-- Lane group 7, odd positions: the three weighted taps and the bias. -/
theorem odd_7 (i : Fin 1) (n : Fin 1024) (l : Fin 128) : (k0_pay82 (F := Ideal) w0 w1 w2 d (k0_pay76 (F := Ideal) r0) (k0_pay77 (F := Ideal) r1) (k0_pay78 (F := Ideal) r2)) (ix3 i n l) = taps w0 w1 w2 d r0 r1 r2 n l := by
  pointwise [k0_pay82, k0_pay76, k0_pay77, k0_pay78, taps]

/-- Lane group 8, even positions: the three weighted taps and the bias. -/
theorem even_8 (i : Fin 1) (n : Fin 1024) (l : Fin 128) : (k0_pay86 (F := Ideal) w0 w1 w2 d (k0_pay83 (F := Ideal) r0) (k0_pay84 (F := Ideal) r1) (k0_pay85 (F := Ideal) r2)) (ix3 i n l) = taps w0 w1 w2 d r0 r1 r2 n l := by
  pointwise [k0_pay86, k0_pay83, k0_pay84, k0_pay85, taps]

/-- Lane group 8, odd positions: the three weighted taps and the bias. -/
theorem odd_8 (i : Fin 1) (n : Fin 1024) (l : Fin 128) : (k0_pay87 (F := Ideal) w0 w1 w2 d (k0_pay84 (F := Ideal) r0) (k0_pay85 (F := Ideal) r1) r2) (ix3 i n l) = taps w0 w1 w2 d r0 r1 r2 n l := by
  pointwise [k0_pay87, k0_pay84, k0_pay85, taps]

/-- Lane group 9, even positions: the three weighted taps and the bias. -/
theorem even_9 (i : Fin 1) (n : Fin 1024) (l : Fin 128) : (k0_pay91 (F := Ideal) w0 w1 w2 d (k0_pay88 (F := Ideal) r0) r1 r2) (ix3 i n l) = taps w0 w1 w2 d r0 r1 r2 n l := by
  pointwise [k0_pay91, k0_pay88, k0_pay89, k0_pay90, taps]

/-- Lane group 9, odd positions: the three weighted taps and the bias. -/
theorem odd_9 (i : Fin 1) (n : Fin 1024) (l : Fin 128) : (k0_pay92 (F := Ideal) w0 w1 w2 d r0 r1 r2) (ix3 i n l) = taps w0 w1 w2 d r0 r1 r2 n l := by
  pointwise [k0_pay92, k0_pay89, k0_pay90, taps]

/-- Lane group 10, even positions: the three weighted taps and the bias. -/
theorem even_10 (i : Fin 1) (n : Fin 1024) (l : Fin 128) : (k0_pay95 (F := Ideal) w0 w1 w2 d r0 r1 r2) (ix3 i n l) = taps w0 w1 w2 d r0 r1 r2 n l := by
  pointwise [k0_pay95, k0_pay93, k0_pay94, taps]

/-- Lane group 10, odd positions: the three weighted taps and the bias. -/
theorem odd_10 (i : Fin 1) (n : Fin 1024) (l : Fin 128) : (k0_pay96 (F := Ideal) w0 w1 w2 d r0 r1 r2) (ix3 i n l) = taps w0 w1 w2 d r0 r1 r2 n l := by
  pointwise [k0_pay96, k0_pay93, k0_pay94, taps]

/-- Lane group 11, even positions: the three weighted taps and the bias. -/
theorem even_11 (i : Fin 1) (n : Fin 1024) (l : Fin 128) : (k0_pay99 (F := Ideal) w0 w1 w2 d r0 r1 r2) (ix3 i n l) = taps w0 w1 w2 d r0 r1 r2 n l := by
  pointwise [k0_pay99, k0_pay97, k0_pay98, taps]

/-- Lane group 11, odd positions: the three weighted taps and the bias. -/
theorem odd_11 (i : Fin 1) (n : Fin 1024) (l : Fin 128) : (k0_pay1 (F := Ideal) (k0_pay100 (F := Ideal) w0 w1 w2 d r0 r1 r2)) (ix3 i n l) = taps w0 w1 w2 d r0 r1 r2 n l := by
  pointwise [k0_pay1, k0_pay100, k0_pay97, k0_pay98, taps]

end Payloads

/-- The taps of parity `p` at half-position `n` are the convolution where that position stands in the array. -/
theorem value (c : Dev nD) (t : Fin cfg0.N) (g : Fin 12) (p : ℕ) (hp : p < 2) (o0 o1 o2 : ℕ) (ho0 : o0 = 7 + p) (ho1 : o1 = 8 + p) (ho2 : o2 = 9 + p)
    (y : S1x2048x1536.Idx) (n : Fin 1024) (l : Fin 128) (h1 : (y 1).val = p * 1024 + n.val) (h2 : (y 2).val = g.val * 128 + l.val)
    (w0 w1 w2 d : Vec Ideal S1x128 .f32) (r0 r1 r2 : Vec Ideal S1x1024x128 .f32)
    (e0 : w0 (ix2 0 l) = (m ((c : Thread nD τ).loc main_arg1) : FVec Ideal S3x3072 .f32) (ix2 0 (chan t (lane g l))))
    (e1 : w1 (ix2 0 l) = (m ((c : Thread nD τ).loc main_arg1) : FVec Ideal S3x3072 .f32) (ix2 1 (chan t (lane g l))))
    (e2 : w2 (ix2 0 l) = (m ((c : Thread nD τ).loc main_arg1) : FVec Ideal S3x3072 .f32) (ix2 2 (chan t (lane g l))))
    (ed : d (ix2 0 l) = (m ((c : Thread nD τ).loc main_arg2) : FVec Ideal S1x3072 .f32) (ix2 0 (chan t (lane g l))))
    (f0 : r0 (ix3 0 n l) = padded (rows (D m c t)) g (o0 + 2 * n.val) l)
    (f1 : r1 (ix3 0 n l) = padded (rows (D m c t)) g (o1 + 2 * n.val) l)
    (f2 : r2 (ix3 0 n l) = padded (rows (D m c t)) g (o2 + 2 * n.val) l) :
    taps w0 w1 w2 d r0 r1 r2 n l = G (m ((c : Thread nD τ).loc main_arg0)) (m ((c : Thread nD τ).loc main_arg1)) (m ((c : Thread nD τ).loc main_arg2)) (ix3 (batch t) (y 1) (chan t (y 2))) := by
  have hy1 : 2 * ((y 1).val % 1024) + (y 1).val / 1024 = 2 * n.val + p := by rw [h1]; omega
  have hy2 : chan t (y 2) = chan t (lane g l) := Fin.ext (show t.val % 2 * 1536 + (y 2).val = t.val % 2 * 1536 + (g.val * 128 + l.val) by omega)
  unfold taps
  rw [e0, e1, e2, ed, f0, f1, f2, tap_at m c t g _ (2 * n.val + p) (by omega), tap_at m c t g _ (2 * n.val + p + 1) (by omega),
    tap_at m c t g _ (2 * n.val + p + 2) (by omega), hy2]
  show _ = conv _ _ _ (batch t) (2 * ((y 1).val % 1024) + (y 1).val / 1024) (chan t (lane g l))
  rw [hy1]
  rfl

set_option maxHeartbeats 2000000 in
/-- What grid point `t` leaves in the output block, at one element. -/
theorem point (c : Dev nD) (t : Fin cfg0.N) (y : S1x2048x1536.Idx) : outsAt0 m c t y = G (m ((c : Thread nD τ).loc main_arg0)) (m ((c : Thread nD τ).loc main_arg1)) (m ((c : Thread nD τ).loc main_arg2)) (ix3 (batch t) (y 1) (chan t (y 2))) := by
  unfold outsAt0
  frame_out
  canon_tiles x h
  case piece0 =>
    idx_vars x
    refine (odd_11 _ _ _ _ _ _ _ x0 x1 x2).trans ?_
    exact value m c t 11 1 (by decide) 8 9 10 rfl rfl rfl y x1 x2 (h1.trans (show 1024 + x1.val = 1 * 1024 + x1.val by omega)) (h2) _ _ _ _ _ _ _
      (w_at m c t 11 0 inb_S3x1536_S1x128_0_1408 x2) (w_at m c t 11 1 inb_S3x1536_S1x128_1_1408 x2) (w_at m c t 11 2 inb_S3x1536_S1x128_2_1408 x2) (b_at m c t 11 inb_S1x1536_S1x128_0_1408 x2)
      (slab (D m c t) _ 11 8 inb_S12x2064x128_S1x1024x128_11_8_0_s_1_2_1 x1 x2) (slab (D m c t) _ 11 9 inb_S12x2064x128_S1x1024x128_11_9_0_s_1_2_1 x1 x2) (slab (D m c t) _ 11 10 inb_S12x2064x128_S1x1024x128_11_10_0_s_1_2_1 x1 x2)
  case piece1 =>
    idx_vars x
    refine (even_11 _ _ _ _ _ _ _ x0 x1 x2).trans ?_
    exact value m c t 11 0 (by decide) 7 8 9 rfl rfl rfl y x1 x2 (h1.trans (show x1.val = 0 * 1024 + x1.val by omega)) (h2) _ _ _ _ _ _ _
      (w_at m c t 11 0 inb_S3x1536_S1x128_0_1408 x2) (w_at m c t 11 1 inb_S3x1536_S1x128_1_1408 x2) (w_at m c t 11 2 inb_S3x1536_S1x128_2_1408 x2) (b_at m c t 11 inb_S1x1536_S1x128_0_1408 x2)
      (slab (D m c t) _ 11 7 inb_S12x2064x128_S1x1024x128_11_7_0_s_1_2_1 x1 x2) (slab (D m c t) _ 11 8 inb_S12x2064x128_S1x1024x128_11_8_0_s_1_2_1 x1 x2) (slab (D m c t) _ 11 9 inb_S12x2064x128_S1x1024x128_11_9_0_s_1_2_1 x1 x2)
  case piece2 =>
    idx_vars x
    refine (odd_10 _ _ _ _ _ _ _ x0 x1 x2).trans ?_
    exact value m c t 10 1 (by decide) 8 9 10 rfl rfl rfl y x1 x2 (h1.trans (show 1024 + x1.val = 1 * 1024 + x1.val by omega)) (h2) _ _ _ _ _ _ _
      (w_at m c t 10 0 inb_S3x1536_S1x128_0_1280 x2) (w_at m c t 10 1 inb_S3x1536_S1x128_1_1280 x2) (w_at m c t 10 2 inb_S3x1536_S1x128_2_1280 x2) (b_at m c t 10 inb_S1x1536_S1x128_0_1280 x2)
      (slab (D m c t) _ 10 8 inb_S12x2064x128_S1x1024x128_10_8_0_s_1_2_1 x1 x2) (slab (D m c t) _ 10 9 inb_S12x2064x128_S1x1024x128_10_9_0_s_1_2_1 x1 x2) (slab (D m c t) _ 10 10 inb_S12x2064x128_S1x1024x128_10_10_0_s_1_2_1 x1 x2)
  case piece3 =>
    idx_vars x
    refine (even_10 _ _ _ _ _ _ _ x0 x1 x2).trans ?_
    exact value m c t 10 0 (by decide) 7 8 9 rfl rfl rfl y x1 x2 (h1.trans (show x1.val = 0 * 1024 + x1.val by omega)) (h2) _ _ _ _ _ _ _
      (w_at m c t 10 0 inb_S3x1536_S1x128_0_1280 x2) (w_at m c t 10 1 inb_S3x1536_S1x128_1_1280 x2) (w_at m c t 10 2 inb_S3x1536_S1x128_2_1280 x2) (b_at m c t 10 inb_S1x1536_S1x128_0_1280 x2)
      (slab (D m c t) _ 10 7 inb_S12x2064x128_S1x1024x128_10_7_0_s_1_2_1 x1 x2) (slab (D m c t) _ 10 8 inb_S12x2064x128_S1x1024x128_10_8_0_s_1_2_1 x1 x2) (slab (D m c t) _ 10 9 inb_S12x2064x128_S1x1024x128_10_9_0_s_1_2_1 x1 x2)
  case piece4 =>
    idx_vars x
    refine (odd_9 _ _ _ _ _ _ _ x0 x1 x2).trans ?_
    exact value m c t 9 1 (by decide) 8 9 10 rfl rfl rfl y x1 x2 (h1.trans (show 1024 + x1.val = 1 * 1024 + x1.val by omega)) (h2) _ _ _ _ _ _ _
      (w_at m c t 9 0 inb_S3x1536_S1x128_0_1152 x2) (w_at m c t 9 1 inb_S3x1536_S1x128_1_1152 x2) (w_at m c t 9 2 inb_S3x1536_S1x128_2_1152 x2) (b_at m c t 9 inb_S1x1536_S1x128_0_1152 x2)
      (slab (D m c t) _ 9 8 inb_S12x2064x128_S1x1024x128_9_8_0_s_1_2_1 x1 x2) (slab (D m c t) _ 9 9 inb_S12x2064x128_S1x1024x128_9_9_0_s_1_2_1 x1 x2) (slab (D m c t) _ 9 10 inb_S12x2064x128_S1x1024x128_9_10_0_s_1_2_1 x1 x2)
  case piece5 =>
    idx_vars x
    refine (even_9 _ _ _ _ _ _ _ x0 x1 x2).trans ?_
    exact value m c t 9 0 (by decide) 7 8 9 rfl rfl rfl y x1 x2 (h1.trans (show x1.val = 0 * 1024 + x1.val by omega)) (h2) _ _ _ _ _ _ _
      (w_at m c t 9 0 inb_S3x1536_S1x128_0_1152 x2) (w_at m c t 9 1 inb_S3x1536_S1x128_1_1152 x2) (w_at m c t 9 2 inb_S3x1536_S1x128_2_1152 x2) (b_at m c t 9 inb_S1x1536_S1x128_0_1152 x2)
      (slab (D m c t) _ 9 7 inb_S12x2064x128_S1x1024x128_9_7_0_s_1_2_1 x1 x2) (slab (D m c t) _ 9 8 inb_S12x2064x128_S1x1024x128_9_8_0_s_1_2_1 x1 x2) (slab (D m c t) _ 9 9 inb_S12x2064x128_S1x1024x128_9_9_0_s_1_2_1 x1 x2)
  case piece6 =>
    idx_vars x
    refine (odd_8 _ _ _ _ _ _ _ x0 x1 x2).trans ?_
    exact value m c t 8 1 (by decide) 8 9 10 rfl rfl rfl y x1 x2 (h1.trans (show 1024 + x1.val = 1 * 1024 + x1.val by omega)) (h2) _ _ _ _ _ _ _
      (w_at m c t 8 0 inb_S3x1536_S1x128_0_1024 x2) (w_at m c t 8 1 inb_S3x1536_S1x128_1_1024 x2) (w_at m c t 8 2 inb_S3x1536_S1x128_2_1024 x2) (b_at m c t 8 inb_S1x1536_S1x128_0_1024 x2)
      (slab (D m c t) _ 8 8 inb_S12x2064x128_S1x1024x128_8_8_0_s_1_2_1 x1 x2) (slab (D m c t) _ 8 9 inb_S12x2064x128_S1x1024x128_8_9_0_s_1_2_1 x1 x2) (slab (D m c t) _ 8 10 inb_S12x2064x128_S1x1024x128_8_10_0_s_1_2_1 x1 x2)
  case piece7 =>
    idx_vars x
    refine (even_8 _ _ _ _ _ _ _ x0 x1 x2).trans ?_
    exact value m c t 8 0 (by decide) 7 8 9 rfl rfl rfl y x1 x2 (h1.trans (show x1.val = 0 * 1024 + x1.val by omega)) (h2) _ _ _ _ _ _ _
      (w_at m c t 8 0 inb_S3x1536_S1x128_0_1024 x2) (w_at m c t 8 1 inb_S3x1536_S1x128_1_1024 x2) (w_at m c t 8 2 inb_S3x1536_S1x128_2_1024 x2) (b_at m c t 8 inb_S1x1536_S1x128_0_1024 x2)
      (slab (D m c t) _ 8 7 inb_S12x2064x128_S1x1024x128_8_7_0_s_1_2_1 x1 x2) (slab (D m c t) _ 8 8 inb_S12x2064x128_S1x1024x128_8_8_0_s_1_2_1 x1 x2) (slab (D m c t) _ 8 9 inb_S12x2064x128_S1x1024x128_8_9_0_s_1_2_1 x1 x2)
  case piece8 =>
    idx_vars x
    refine (odd_7 _ _ _ _ _ _ _ x0 x1 x2).trans ?_
    exact value m c t 7 1 (by decide) 8 9 10 rfl rfl rfl y x1 x2 (h1.trans (show 1024 + x1.val = 1 * 1024 + x1.val by omega)) (h2) _ _ _ _ _ _ _
      (w_at m c t 7 0 inb_S3x1536_S1x128_0_896 x2) (w_at m c t 7 1 inb_S3x1536_S1x128_1_896 x2) (w_at m c t 7 2 inb_S3x1536_S1x128_2_896 x2) (b_at m c t 7 inb_S1x1536_S1x128_0_896 x2)
      (slab (D m c t) _ 7 8 inb_S12x2064x128_S1x1024x128_7_8_0_s_1_2_1 x1 x2) (slab (D m c t) _ 7 9 inb_S12x2064x128_S1x1024x128_7_9_0_s_1_2_1 x1 x2) (slab (D m c t) _ 7 10 inb_S12x2064x128_S1x1024x128_7_10_0_s_1_2_1 x1 x2)
  case piece9 =>
    idx_vars x
    refine (even_7 _ _ _ _ _ _ _ x0 x1 x2).trans ?_
    exact value m c t 7 0 (by decide) 7 8 9 rfl rfl rfl y x1 x2 (h1.trans (show x1.val = 0 * 1024 + x1.val by omega)) (h2) _ _ _ _ _ _ _
      (w_at m c t 7 0 inb_S3x1536_S1x128_0_896 x2) (w_at m c t 7 1 inb_S3x1536_S1x128_1_896 x2) (w_at m c t 7 2 inb_S3x1536_S1x128_2_896 x2) (b_at m c t 7 inb_S1x1536_S1x128_0_896 x2)
      (slab (D m c t) _ 7 7 inb_S12x2064x128_S1x1024x128_7_7_0_s_1_2_1 x1 x2) (slab (D m c t) _ 7 8 inb_S12x2064x128_S1x1024x128_7_8_0_s_1_2_1 x1 x2) (slab (D m c t) _ 7 9 inb_S12x2064x128_S1x1024x128_7_9_0_s_1_2_1 x1 x2)
  case piece10 =>
    idx_vars x
    refine (odd_6 _ _ _ _ _ _ _ x0 x1 x2).trans ?_
    exact value m c t 6 1 (by decide) 8 9 10 rfl rfl rfl y x1 x2 (h1.trans (show 1024 + x1.val = 1 * 1024 + x1.val by omega)) (h2) _ _ _ _ _ _ _
      (w_at m c t 6 0 inb_S3x1536_S1x128_0_768 x2) (w_at m c t 6 1 inb_S3x1536_S1x128_1_768 x2) (w_at m c t 6 2 inb_S3x1536_S1x128_2_768 x2) (b_at m c t 6 inb_S1x1536_S1x128_0_768 x2)
      (slab (D m c t) _ 6 8 inb_S12x2064x128_S1x1024x128_6_8_0_s_1_2_1 x1 x2) (slab (D m c t) _ 6 9 inb_S12x2064x128_S1x1024x128_6_9_0_s_1_2_1 x1 x2) (slab (D m c t) _ 6 10 inb_S12x2064x128_S1x1024x128_6_10_0_s_1_2_1 x1 x2)
  case piece11 =>
    idx_vars x
    refine (even_6 _ _ _ _ _ _ _ x0 x1 x2).trans ?_
    exact value m c t 6 0 (by decide) 7 8 9 rfl rfl rfl y x1 x2 (h1.trans (show x1.val = 0 * 1024 + x1.val by omega)) (h2) _ _ _ _ _ _ _
      (w_at m c t 6 0 inb_S3x1536_S1x128_0_768 x2) (w_at m c t 6 1 inb_S3x1536_S1x128_1_768 x2) (w_at m c t 6 2 inb_S3x1536_S1x128_2_768 x2) (b_at m c t 6 inb_S1x1536_S1x128_0_768 x2)
      (slab (D m c t) _ 6 7 inb_S12x2064x128_S1x1024x128_6_7_0_s_1_2_1 x1 x2) (slab (D m c t) _ 6 8 inb_S12x2064x128_S1x1024x128_6_8_0_s_1_2_1 x1 x2) (slab (D m c t) _ 6 9 inb_S12x2064x128_S1x1024x128_6_9_0_s_1_2_1 x1 x2)
  case piece12 =>
    idx_vars x
    refine (odd_5 _ _ _ _ _ _ _ x0 x1 x2).trans ?_
    exact value m c t 5 1 (by decide) 8 9 10 rfl rfl rfl y x1 x2 (h1.trans (show 1024 + x1.val = 1 * 1024 + x1.val by omega)) (h2) _ _ _ _ _ _ _
      (w_at m c t 5 0 inb_S3x1536_S1x128_0_640 x2) (w_at m c t 5 1 inb_S3x1536_S1x128_1_640 x2) (w_at m c t 5 2 inb_S3x1536_S1x128_2_640 x2) (b_at m c t 5 inb_S1x1536_S1x128_0_640 x2)
      (slab (D m c t) _ 5 8 inb_S12x2064x128_S1x1024x128_5_8_0_s_1_2_1 x1 x2) (slab (D m c t) _ 5 9 inb_S12x2064x128_S1x1024x128_5_9_0_s_1_2_1 x1 x2) (slab (D m c t) _ 5 10 inb_S12x2064x128_S1x1024x128_5_10_0_s_1_2_1 x1 x2)
  case piece13 =>
    idx_vars x
    refine (even_5 _ _ _ _ _ _ _ x0 x1 x2).trans ?_
    exact value m c t 5 0 (by decide) 7 8 9 rfl rfl rfl y x1 x2 (h1.trans (show x1.val = 0 * 1024 + x1.val by omega)) (h2) _ _ _ _ _ _ _
      (w_at m c t 5 0 inb_S3x1536_S1x128_0_640 x2) (w_at m c t 5 1 inb_S3x1536_S1x128_1_640 x2) (w_at m c t 5 2 inb_S3x1536_S1x128_2_640 x2) (b_at m c t 5 inb_S1x1536_S1x128_0_640 x2)
      (slab (D m c t) _ 5 7 inb_S12x2064x128_S1x1024x128_5_7_0_s_1_2_1 x1 x2) (slab (D m c t) _ 5 8 inb_S12x2064x128_S1x1024x128_5_8_0_s_1_2_1 x1 x2) (slab (D m c t) _ 5 9 inb_S12x2064x128_S1x1024x128_5_9_0_s_1_2_1 x1 x2)
  case piece14 =>
    idx_vars x
    refine (odd_4 _ _ _ _ _ _ _ x0 x1 x2).trans ?_
    exact value m c t 4 1 (by decide) 8 9 10 rfl rfl rfl y x1 x2 (h1.trans (show 1024 + x1.val = 1 * 1024 + x1.val by omega)) (h2) _ _ _ _ _ _ _
      (w_at m c t 4 0 inb_S3x1536_S1x128_0_512 x2) (w_at m c t 4 1 inb_S3x1536_S1x128_1_512 x2) (w_at m c t 4 2 inb_S3x1536_S1x128_2_512 x2) (b_at m c t 4 inb_S1x1536_S1x128_0_512 x2)
      (slab (D m c t) _ 4 8 inb_S12x2064x128_S1x1024x128_4_8_0_s_1_2_1 x1 x2) (slab (D m c t) _ 4 9 inb_S12x2064x128_S1x1024x128_4_9_0_s_1_2_1 x1 x2) (slab (D m c t) _ 4 10 inb_S12x2064x128_S1x1024x128_4_10_0_s_1_2_1 x1 x2)
  case piece15 =>
    idx_vars x
    refine (even_4 _ _ _ _ _ _ _ x0 x1 x2).trans ?_
    exact value m c t 4 0 (by decide) 7 8 9 rfl rfl rfl y x1 x2 (h1.trans (show x1.val = 0 * 1024 + x1.val by omega)) (h2) _ _ _ _ _ _ _
      (w_at m c t 4 0 inb_S3x1536_S1x128_0_512 x2) (w_at m c t 4 1 inb_S3x1536_S1x128_1_512 x2) (w_at m c t 4 2 inb_S3x1536_S1x128_2_512 x2) (b_at m c t 4 inb_S1x1536_S1x128_0_512 x2)
      (slab (D m c t) _ 4 7 inb_S12x2064x128_S1x1024x128_4_7_0_s_1_2_1 x1 x2) (slab (D m c t) _ 4 8 inb_S12x2064x128_S1x1024x128_4_8_0_s_1_2_1 x1 x2) (slab (D m c t) _ 4 9 inb_S12x2064x128_S1x1024x128_4_9_0_s_1_2_1 x1 x2)
  case piece16 =>
    idx_vars x
    refine (odd_3 _ _ _ _ _ _ _ x0 x1 x2).trans ?_
    exact value m c t 3 1 (by decide) 8 9 10 rfl rfl rfl y x1 x2 (h1.trans (show 1024 + x1.val = 1 * 1024 + x1.val by omega)) (h2) _ _ _ _ _ _ _
      (w_at m c t 3 0 inb_S3x1536_S1x128_0_384 x2) (w_at m c t 3 1 inb_S3x1536_S1x128_1_384 x2) (w_at m c t 3 2 inb_S3x1536_S1x128_2_384 x2) (b_at m c t 3 inb_S1x1536_S1x128_0_384 x2)
      (slab (D m c t) _ 3 8 inb_S12x2064x128_S1x1024x128_3_8_0_s_1_2_1 x1 x2) (slab (D m c t) _ 3 9 inb_S12x2064x128_S1x1024x128_3_9_0_s_1_2_1 x1 x2) (slab (D m c t) _ 3 10 inb_S12x2064x128_S1x1024x128_3_10_0_s_1_2_1 x1 x2)
  case piece17 =>
    idx_vars x
    refine (even_3 _ _ _ _ _ _ _ x0 x1 x2).trans ?_
    exact value m c t 3 0 (by decide) 7 8 9 rfl rfl rfl y x1 x2 (h1.trans (show x1.val = 0 * 1024 + x1.val by omega)) (h2) _ _ _ _ _ _ _
      (w_at m c t 3 0 inb_S3x1536_S1x128_0_384 x2) (w_at m c t 3 1 inb_S3x1536_S1x128_1_384 x2) (w_at m c t 3 2 inb_S3x1536_S1x128_2_384 x2) (b_at m c t 3 inb_S1x1536_S1x128_0_384 x2)
      (slab (D m c t) _ 3 7 inb_S12x2064x128_S1x1024x128_3_7_0_s_1_2_1 x1 x2) (slab (D m c t) _ 3 8 inb_S12x2064x128_S1x1024x128_3_8_0_s_1_2_1 x1 x2) (slab (D m c t) _ 3 9 inb_S12x2064x128_S1x1024x128_3_9_0_s_1_2_1 x1 x2)
  case piece18 =>
    idx_vars x
    refine (odd_2 _ _ _ _ _ _ _ x0 x1 x2).trans ?_
    exact value m c t 2 1 (by decide) 8 9 10 rfl rfl rfl y x1 x2 (h1.trans (show 1024 + x1.val = 1 * 1024 + x1.val by omega)) (h2) _ _ _ _ _ _ _
      (w_at m c t 2 0 inb_S3x1536_S1x128_0_256 x2) (w_at m c t 2 1 inb_S3x1536_S1x128_1_256 x2) (w_at m c t 2 2 inb_S3x1536_S1x128_2_256 x2) (b_at m c t 2 inb_S1x1536_S1x128_0_256 x2)
      (slab (D m c t) _ 2 8 inb_S12x2064x128_S1x1024x128_2_8_0_s_1_2_1 x1 x2) (slab (D m c t) _ 2 9 inb_S12x2064x128_S1x1024x128_2_9_0_s_1_2_1 x1 x2) (slab (D m c t) _ 2 10 inb_S12x2064x128_S1x1024x128_2_10_0_s_1_2_1 x1 x2)
  case piece19 =>
    idx_vars x
    refine (even_2 _ _ _ _ _ _ _ x0 x1 x2).trans ?_
    exact value m c t 2 0 (by decide) 7 8 9 rfl rfl rfl y x1 x2 (h1.trans (show x1.val = 0 * 1024 + x1.val by omega)) (h2) _ _ _ _ _ _ _
      (w_at m c t 2 0 inb_S3x1536_S1x128_0_256 x2) (w_at m c t 2 1 inb_S3x1536_S1x128_1_256 x2) (w_at m c t 2 2 inb_S3x1536_S1x128_2_256 x2) (b_at m c t 2 inb_S1x1536_S1x128_0_256 x2)
      (slab (D m c t) _ 2 7 inb_S12x2064x128_S1x1024x128_2_7_0_s_1_2_1 x1 x2) (slab (D m c t) _ 2 8 inb_S12x2064x128_S1x1024x128_2_8_0_s_1_2_1 x1 x2) (slab (D m c t) _ 2 9 inb_S12x2064x128_S1x1024x128_2_9_0_s_1_2_1 x1 x2)
  case piece20 =>
    idx_vars x
    refine (odd_1 _ _ _ _ _ _ _ x0 x1 x2).trans ?_
    exact value m c t 1 1 (by decide) 8 9 10 rfl rfl rfl y x1 x2 (h1.trans (show 1024 + x1.val = 1 * 1024 + x1.val by omega)) (h2) _ _ _ _ _ _ _
      (w_at m c t 1 0 inb_S3x1536_S1x128_0_128 x2) (w_at m c t 1 1 inb_S3x1536_S1x128_1_128 x2) (w_at m c t 1 2 inb_S3x1536_S1x128_2_128 x2) (b_at m c t 1 inb_S1x1536_S1x128_0_128 x2)
      (slab (D m c t) _ 1 8 inb_S12x2064x128_S1x1024x128_1_8_0_s_1_2_1 x1 x2) (slab (D m c t) _ 1 9 inb_S12x2064x128_S1x1024x128_1_9_0_s_1_2_1 x1 x2) (slab (D m c t) _ 1 10 inb_S12x2064x128_S1x1024x128_1_10_0_s_1_2_1 x1 x2)
  case piece21 =>
    idx_vars x
    refine (even_1 _ _ _ _ _ _ _ x0 x1 x2).trans ?_
    exact value m c t 1 0 (by decide) 7 8 9 rfl rfl rfl y x1 x2 (h1.trans (show x1.val = 0 * 1024 + x1.val by omega)) (h2) _ _ _ _ _ _ _
      (w_at m c t 1 0 inb_S3x1536_S1x128_0_128 x2) (w_at m c t 1 1 inb_S3x1536_S1x128_1_128 x2) (w_at m c t 1 2 inb_S3x1536_S1x128_2_128 x2) (b_at m c t 1 inb_S1x1536_S1x128_0_128 x2)
      (slab (D m c t) _ 1 7 inb_S12x2064x128_S1x1024x128_1_7_0_s_1_2_1 x1 x2) (slab (D m c t) _ 1 8 inb_S12x2064x128_S1x1024x128_1_8_0_s_1_2_1 x1 x2) (slab (D m c t) _ 1 9 inb_S12x2064x128_S1x1024x128_1_9_0_s_1_2_1 x1 x2)
  case piece22 =>
    idx_vars x
    refine (odd_0 _ _ _ _ _ _ _ x0 x1 x2).trans ?_
    exact value m c t 0 1 (by decide) 8 9 10 rfl rfl rfl y x1 x2 (h1.trans (show 1024 + x1.val = 1 * 1024 + x1.val by omega)) (h2.trans (show x2.val = 0 * 128 + x2.val by omega)) _ _ _ _ _ _ _
      (w_at m c t 0 0 inb_S3x1536_S1x128_0_0 x2) (w_at m c t 0 1 inb_S3x1536_S1x128_1_0 x2) (w_at m c t 0 2 inb_S3x1536_S1x128_2_0 x2) (b_at m c t 0 inb_S1x1536_S1x128_0_0 x2)
      (slab (D m c t) _ 0 8 inb_S12x2064x128_S1x1024x128_0_8_0_s_1_2_1 x1 x2) (slab (D m c t) _ 0 9 inb_S12x2064x128_S1x1024x128_0_9_0_s_1_2_1 x1 x2) (slab (D m c t) _ 0 10 inb_S12x2064x128_S1x1024x128_0_10_0_s_1_2_1 x1 x2)
  case piece23 =>
    idx_vars x
    refine (even_0 _ _ _ _ _ _ _ x0 x1 x2).trans ?_
    exact value m c t 0 0 (by decide) 7 8 9 rfl rfl rfl y x1 x2 (h1.trans (show x1.val = 0 * 1024 + x1.val by omega)) (h2.trans (show x2.val = 0 * 128 + x2.val by omega)) _ _ _ _ _ _ _
      (w_at m c t 0 0 inb_S3x1536_S1x128_0_0 x2) (w_at m c t 0 1 inb_S3x1536_S1x128_1_0 x2) (w_at m c t 0 2 inb_S3x1536_S1x128_2_0 x2) (b_at m c t 0 inb_S1x1536_S1x128_0_0 x2)
      (slab (D m c t) _ 0 7 inb_S12x2064x128_S1x1024x128_0_7_0_s_1_2_1 x1 x2) (slab (D m c t) _ 0 8 inb_S12x2064x128_S1x1024x128_0_8_0_s_1_2_1 x1 x2) (slab (D m c t) _ 0 9 inb_S12x2064x128_S1x1024x128_0_9_0_s_1_2_1 x1 x2)

/-- The array the kernel leaves is `G` of its arguments. -/
theorem final (c : Dev nD) : (dats m 0 c).arrAt 3 (cfgs 0).N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have he : ((cfg0.win 3).blk t).view.emb y = (ix3 (batch t) (y 1) (chan t (y 2)) : S4x2048x3072.Idx) := by
    blk_ext [idx t]
    all_goals rfl
  rw [he]
  exact point m c t y

end Cert.Proof.Conv

end
-- ==== Proof.ConvClaims.lean ====
/- The claims about the short convolution (`KernelConv`): each program runs and leaves its arguments alone, idealizing changes nothing,
   and over the extended reals the kernel's result is the reference's. -/
module

public import proofs.«01_k».proof.Defs
public import proofs.«01_k».proof.Proof.Gen.KernelConv
public import proofs.«01_k».proof.Proof.Gen.KernelConv.Frame
public import proofs.«01_k».proof.Proof.Gen.KernelConvIdeal
public import proofs.«01_k».proof.Proof.Gen.KernelConvIdeal.Frame
public import proofs.«01_k».proof.Proof.Gen.ReferenceConvIdeal
public import proofs.«01_k».proof.Proof.Gen.ReferenceConvIdeal.Run
public import proofs.«01_k».proof.Proof.ConvValue
public import Idealize.ShloMosaic.Lib.Claim
public import Idealize.ShloMosaic.Adequacy
public import Idealize.ShloMosaic.Init

@[expose] public section

set_option maxRecDepth 16384

noncomputable section

namespace Cert.Proof.Conv

open Idealize.ShloMosaic Idealize.ShloMosaic.TcCoe Idealize.SL.Sem

/-- The bit-exact kernel runs, leaves its arguments unchanged and every counter at zero. -/
theorem frame_k : Cert.quiescent_KernelConv := fun m ρ _ => Cert.KernelConv.Gen.frame m ρ

/-- The idealized kernel runs, leaves its arguments unchanged and every counter at zero. -/
theorem frame_ki : Cert.quiescent_KernelConvIdeal := fun m ρ _ => Cert.KernelConvIdeal.Gen.frame m ρ

/-- The reference runs, leaves its arguments unchanged and every counter at zero: it declares no semaphore. -/
theorem frame_ri : Cert.quiescent_ReferenceConvIdeal := fun m ρ _ =>
  (θ_run Cert.ReferenceConvIdeal.defs _ _).mono
    (fun r h => ⟨fun c => (h c).2, Idealize.ShloMosaic.sem_eq_zero_of_no_sems (by decide) r.2⟩)
    (Cert.ReferenceConvIdeal.Value.run (F := Ideal) m ρ)

/-- Idealizing the kernel rewrites nothing. -/
theorem preserves : Cert.preserves_KernelConv_KernelConvIdeal := trivial

/-- The kernel's result and the reference's are equal at every index, from any arguments. -/
theorem algebraic : Cert.algebraic_KernelConvIdeal_ReferenceConvIdeal := by
  pair_intro
  · run_from Cert.KernelConvIdeal.Gen.run_main m g
  · run_from Cert.ReferenceConvIdeal.Value.run m' g'
    exact (ref _ _ _).trans (final m c).symm

end Cert.Proof.Conv

end
-- ==== Proof.Sigmoid.lean ====
/- The logistic function by the hyperbolic tangent, over the extended reals: the gate of the kernels is written
   `0.5 * tanh (0.5 * x) + 0.5`, the references write `1 / (1 + exp (-x))`. -/
module

public import Idealize.ShloMosaic.Lib.Pipeline.ValueKit

@[expose] public section

noncomputable section

namespace Cert.Proof

open Idealize.ShloMosaic

/-- The binary32 pattern `0x3F000000` is the real one half. -/
theorem half_f32 : Ideal.ofBits .f32 0x3F000000#32 = (((1 : ℝ) / 2 : ℝ) : EReal) := by
  simp [Ideal.ofBits, Ideal.ieee, -EReal.coe_mul]; norm_num

/-- On the reals, `tanh (x / 2) / 2 + 1 / 2` is the logistic function. -/
theorem half_tanh_real (r : ℝ) : (1 / 2) * Real.tanh ((1 / 2) * r) + 1 / 2 = (1 + Real.exp (-r))⁻¹ := by
  have hs : Real.exp (-r) = Real.exp (-((1 / 2) * r)) * Real.exp (-((1 / 2) * r)) := by
    rw [← Real.exp_add]; congr 1; ring
  have hp : Real.exp ((1 / 2) * r) * Real.exp (-((1 / 2) * r)) = 1 := by
    rw [← Real.exp_add]; simp
  have ha := Real.exp_pos ((1 / 2) * r)
  have hb := Real.exp_pos (-((1 / 2) * r))
  rw [Real.tanh_eq_sinh_div_cosh, Real.sinh_eq, Real.cosh_eq, hs]
  generalize Real.exp ((1 / 2) * r) = a at *
  generalize Real.exp (-((1 / 2) * r)) = b at *
  have h1 : a + b ≠ 0 := by positivity
  have h2 : 1 + b * b ≠ 0 := by positivity
  field_simp
  linear_combination (2 * b) * hp

/-- `0.5 * tanh (0.5 * x) + 0.5 = 1 / (1 + exp (-x))` at every extended real: at the infinities both sides are
    `0` and `1`. -/
theorem half_tanh (x : EReal) :
    Ideal.ofBits .f32 0x3F000000#32 * Ideal.tanh (Ideal.ofBits .f32 0x3F000000#32 * x)
      + Ideal.ofBits .f32 0x3F000000#32 = Ideal.div 1 (1 + Ideal.exp (-x)) := by
  show _ = Ideal.logistic x
  rw [half_f32]
  induction x using EReal.rec with
  | bot =>
    rw [EReal.coe_mul_bot_of_pos (by norm_num)]
    show ((1 / 2 : ℝ) : EReal) * (-1) + _ = _
    rw [Ideal.logistic_bot, show (-1 : EReal) = ((-1 : ℝ) : EReal) by norm_num, ← EReal.coe_mul, ← EReal.coe_add]
    norm_num
  | coe r =>
    rw [Ideal.logistic_coe, ← EReal.coe_mul]
    show ((1 / 2 : ℝ) : EReal) * ((Real.tanh _ : ℝ) : EReal) + _ = _
    rw [← EReal.coe_mul, ← EReal.coe_add, half_tanh_real]
  | top =>
    rw [EReal.coe_mul_top_of_pos (by norm_num)]
    show ((1 / 2 : ℝ) : EReal) * 1 + _ = _
    rw [Ideal.logistic_top, show (1 : EReal) = ((1 : ℝ) : EReal) by norm_num, ← EReal.coe_mul, ← EReal.coe_add]
    norm_num

end Cert.Proof

end
-- ==== Proof.RmsNorm.lean ====
/- The root-mean-square normalisation of one row of 2048 elements, over the extended reals, as the kernels and the
   references spell it. -/
module

public import Idealize.ShloMosaic.Lib.Pipeline.ValueKit

@[expose] public section

noncomputable section

namespace Cert.Proof

open Idealize.ShloMosaic

/-- The factor of a row `o`: the reciprocal square root of its mean square plus the layer's epsilon. -/
def rmsFactor (o : Fin 2048 → EReal) : EReal :=
  Ideal.rsqrt (Ideal.div (∑ k, o k * o k) (Ideal.ofBits .f32 0x45000000#32) + Ideal.ofBits .f32 0x358637BD#32)

end Cert.Proof

end
-- ==== Proof.Reads.lean ====
/- Reading part of a buffer back after one store that covered it. -/
module

public import Idealize.ShloMosaic.Lib.Pipeline.ValueKit
public import Idealize.ShloMosaic.Lib.Pipeline.ReadBack

@[expose] public section

noncomputable section

namespace Cert.Proof

open Idealize.ShloMosaic

/-- After one store of the whole buffer at `w`, a load of any rectangle reads `w` there. -/
theorem readCov_whole {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (w : S.Idx → Val e)
    (h : ∀ a, off a = 0) (r : Rect S) :
    v.readCov [(⟨Rect.unit off (no_index S.size) inb, w⟩ : View.Piece Val S e)] r.toLoadRect = View.ld w r := by
  rw [View.readCov_eq_canon_ld v _ r fun y => ⟨_, List.mem_singleton_self _, ?_⟩]
  · exact congrArg (fun z => View.ld z r) (View.canon_cons_unit_lit' inb w [] h)
  · rw [Rect.mem_set_unit]
    intro a
    rw [h a]
    exact ⟨Nat.zero_le _, by rw [Nat.zero_add]; exact (y a).isLt⟩

end Cert.Proof

end
-- ==== Proof.FfnValue.lean ====
/- The feed-forward layer (`KernelFfn`): the array the kernel leaves and the array the reference computes are one function
   of the arguments. The kernel walks the 5632 hidden channels in eleven blocks of 512 and adds each block's contribution
   into its output block. -/
module

public import proofs.«01_k».proof.Proof.Gen.KernelFfnIdeal.Value
public import proofs.«01_k».proof.Proof.Gen.ReferenceFfnIdeal.Run
public import proofs.«01_k».proof.Proof.Sigmoid
public import proofs.«01_k».proof.Proof.RmsNorm
public import proofs.«01_k».proof.Proof.Reads

@[expose] public section

set_option maxRecDepth 16384

noncomputable section

namespace Cert.Proof.Ffn

open Cert.KernelFfnIdeal Cert.KernelFfnIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`: eleven hidden blocks per row block. -/
theorem idx : ∀ t : Fin cfg0.N,
    win0_0.index t = ![t.val / 11, 0] ∧ win0_1.index t = ![0, 0] ∧ win0_2.index t = ![0, t.val % 11] ∧
    win0_3.index t = ![0, 11 + t.val % 11] ∧ win0_4.index t = ![t.val % 11, 0] ∧ win0_5.index t = ![0, 0] ∧
    win0_6.index t = ![t.val / 11, 0] :=
  (by decide +kernel : ∀ t : Fin grid0.N, _)

/-- The normalised row `i`, channel `k`. -/
def nrm (x : FVec Ideal S8192x2048 .f32) (g : FVec Ideal S1x2048 .f32) (i : Fin 8192) (k : Fin 2048) : EReal :=
  x (ix2 i k) * rmsFactor (fun k => x (ix2 i k)) * g (ix2 0 k)

/-- The hidden row `i` at channel `l` of the 11264: the normalised row against the weights. -/
def hid (x : FVec Ideal S8192x2048 .f32) (g : FVec Ideal S1x2048 .f32) (w : FVec Ideal S2048x11264 .bf16)
    (i : Fin 8192) (l : Fin 11264) : EReal :=
  ∑ k : Fin 2048, nrm x g i k * w (ix2 k l)

/-- The gated activation at hidden channel `l` of the 5632: the gate times its logistic function times the other half. -/
def act (x : FVec Ideal S8192x2048 .f32) (g : FVec Ideal S1x2048 .f32) (w : FVec Ideal S2048x11264 .bf16)
    (i : Fin 8192) (l : Fin 5632) : EReal :=
  hid x g w i ⟨l.val, by omega⟩ * Ideal.div 1 (1 + Ideal.exp (-(hid x g w i ⟨l.val, by omega⟩)))
    * hid x g w i ⟨5632 + l.val, by omega⟩

/-- Row `i` of the layer before its last normalisation. -/
def row (x : FVec Ideal S8192x2048 .f32) (g : FVec Ideal S1x2048 .f32) (w : FVec Ideal S2048x11264 .bf16)
    (wd : FVec Ideal S5632x2048 .bf16) (i : Fin 8192) (j : Fin 2048) : EReal :=
  ∑ l : Fin 5632, act x g w i l * wd (ix2 l j)

/-- The result: the residual plus the normalised row times the gain. -/
def G (x : FVec Ideal S8192x2048 .f32) (g : FVec Ideal S1x2048 .f32) (w : FVec Ideal S2048x11264 .bf16)
    (wd : FVec Ideal S5632x2048 .bf16) (gp : FVec Ideal S1x2048 .f32) : FVec Ideal S8192x2048 .f32 := fun y =>
  x (ix2 (y 0) (y 1)) + row x g w wd (y 0) (y 1) * rmsFactor (row x g w wd (y 0)) * gp (ix2 0 (y 1))

set_option maxHeartbeats 1000000 in
/-- The reference's composed term is `G` of its arguments. -/
theorem ref (m' : (ℓ : Loc Cert.ReferenceFfnIdeal.nD Cert.ReferenceFfnIdeal.τ Cert.ReferenceFfnIdeal.sig) → Buf (Elt Ideal) ℓ)
    (c : Dev nD) :
    (Cert.ReferenceFfnIdeal.Value.res_out0 m' c : FVec Ideal S8192x2048 .f32)
      = G (m' (c.tc.loc Cert.ReferenceFfnIdeal.main_arg0)) (m' (c.tc.loc Cert.ReferenceFfnIdeal.main_arg1))
          (m' (c.tc.loc Cert.ReferenceFfnIdeal.main_arg2)) (m' (c.tc.loc Cert.ReferenceFfnIdeal.main_arg3))
          (m' (c.tc.loc Cert.ReferenceFfnIdeal.main_arg4)) := by
  funext y
  idx_vars y
  pointwise [Cert.ReferenceFfnIdeal.Value.res_out0, Cert.ReferenceFfnIdeal.Value.res_main_v32, G, row, act, hid, nrm, rmsFactor]

/-- The first point of a row block leaves the normalised block in the scratch and the first contribution in the output. -/
theorem at_A (c : Dev nD) (t : Fin cfg0.N) (h0 : t.val % 11 = 0) (h1 : ¬ t.val % 11 = 10) :
    outsAt0 m c t.val t.isLt =
      (k0_pay3 (k0_pay1 (iblk m c 0 t) (iblk m c 1 t)) (iblk m c 2 t) (iblk m c 3 t) (k0_pay2 (F := Ideal)) (iblk m c 4 t),
       k0_pay1 (iblk m c 0 t) (iblk m c 1 t)) := by
  rw [outsAt0_A m c t h0 h1]
  frame_out

/-- A middle point keeps the scratch and adds its contribution to what the point before left. -/
theorem at_B (c : Dev nD) (t : Fin cfg0.N) (h0 : ¬ t.val % 11 = 0) (h1 : ¬ t.val % 11 = 10) (o : FVec Ideal S1024x2048 .f32)
    (s : FVec Ideal S1024x2048 .bf16) (hs : outsAt0 m c (t.val - 1) (Nat.lt_of_le_of_lt (Nat.sub_le _ _) t.isLt) = (o, s)) :
    outsAt0 m c t.val t.isLt = (k0_pay3 s (iblk m c 2 t) (iblk m c 3 t) o (iblk m c 4 t), s) := by
  rw [outsAt0_B m c t h0 h1, hs]
  frame_out
  rw [read_unread_whole]
  rfl

/-- The last point of a row block adds its contribution and then normalises the sum and adds the residual. -/
theorem at_C (c : Dev nD) (t : Fin cfg0.N) (h0 : ¬ t.val % 11 = 0) (h1 : t.val % 11 = 10) (o : FVec Ideal S1024x2048 .f32)
    (s : FVec Ideal S1024x2048 .bf16) (hs : outsAt0 m c (t.val - 1) (Nat.lt_of_le_of_lt (Nat.sub_le _ _) t.isLt) = (o, s)) :
    outsAt0 m c t.val t.isLt
      = (k0_pay4 (k0_pay3 s (iblk m c 2 t) (iblk m c 3 t) o (iblk m c 4 t)) (iblk m c 0 t) (iblk m c 5 t), s) := by
  rw [outsAt0_C m c t h0 h1, hs]
  frame_out
  rw [read_unread_whole]
  rfl

/-- The array row that row `r` of grid point `n`'s blocks is. -/
def arow (n : ℕ) (hn : n < cfg0.N) (r : Fin 1024) : Fin 8192 := ⟨n / 11 * 1024 + r.val, by
  have h : n < 88 := N_0 ▸ hn
  omega⟩

/-- The normalised block as the body computes it at a first point. -/
theorem pay1_at (c : Dev nD) (t : Fin cfg0.N) (r : Fin 1024) (k : Fin 2048) :
    k0_pay1 (iblk m c 0 t) (iblk m c 1 t) (ix2 r k)
      = nrm (m ((c : Thread nD τ).loc main_arg0)) (m ((c : Thread nD τ).loc main_arg1)) (arow t.val t.isLt r) k := by
  pointwise [k0_pay1, nrm, rmsFactor]
  blk_point [iblk, V, idx t]
  all_goals rfl

/-- The contribution of hidden block `q` to row `i`, channel `j`. -/
def part (x : FVec Ideal S8192x2048 .f32) (g : FVec Ideal S1x2048 .f32) (w : FVec Ideal S2048x11264 .bf16)
    (wd : FVec Ideal S5632x2048 .bf16) (i : Fin 8192) (j : Fin 2048) (q : ℕ) : EReal :=
  ∑ l : Fin 512, act x g w i ⟨q % 11 * 512 + l.val, by omega⟩ * wd (ix2 ⟨q % 11 * 512 + l.val, by omega⟩ j)

/-- The eleven contributions together are the whole row. -/
theorem sum_part (x : FVec Ideal S8192x2048 .f32) (g : FVec Ideal S1x2048 .f32) (w : FVec Ideal S2048x11264 .bf16)
    (wd : FVec Ideal S5632x2048 .bf16) (i : Fin 8192) (j : Fin 2048) :
    ∑ q ∈ Finset.range 11, part x g w wd i j q = row x g w wd i j := by
  rw [Finset.sum_range]
  refine Fin.sum_mul_add_congr fun q l hl => ?_
  have hq : q.val % 11 = q.val := Nat.mod_eq_of_lt q.isLt
  simp only [hq]

/-- One point's contribution, over a scratch whose rows are known. -/
theorem step (c : Dev nD) (t : Fin cfg0.N) (s : FVec Ideal S1024x2048 .bf16)
    (hs : ∀ r k, s (ix2 r k) = nrm (m ((c : Thread nD τ).loc main_arg0)) (m ((c : Thread nD τ).loc main_arg1)) (arow t.val t.isLt r) k)
    (o : FVec Ideal S1024x2048 .f32) (r : Fin 1024) (j : Fin 2048) :
    k0_pay3 s (iblk m c 2 t) (iblk m c 3 t) o (iblk m c 4 t) (ix2 r j)
      = o (ix2 r j) + part (m ((c : Thread nD τ).loc main_arg0)) (m ((c : Thread nD τ).loc main_arg1))
          (m ((c : Thread nD τ).loc main_arg2)) (m ((c : Thread nD τ).loc main_arg3)) (arow t.val t.isLt r) j t.val := by
  unfold part act hid
  pointwise [k0_pay3]
  simp only [hs, half_tanh]
  blk_point [iblk, V, idx t]
  all_goals rfl

/-- What every point before the last of a row block leaves: the normalised rows in the scratch, and in the output block the
    sum of the contributions so far. -/
theorem state (c : Dev nD) : ∀ (n : ℕ) (hn : n < cfg0.N),
    (∀ r k, (outsAt0 m c n hn).2 (ix2 r k)
      = nrm (m ((c : Thread nD τ).loc main_arg0)) (m ((c : Thread nD τ).loc main_arg1)) (arow n hn r) k) ∧
    (¬ n % 11 = 10 → ∀ r j, (outsAt0 m c n hn).1 (ix2 r j)
      = ∑ q ∈ Finset.range (n % 11 + 1), part (m ((c : Thread nD τ).loc main_arg0)) (m ((c : Thread nD τ).loc main_arg1))
          (m ((c : Thread nD τ).loc main_arg2)) (m ((c : Thread nD τ).loc main_arg3)) (arow n hn r) j q) := by
  intro n
  induction n with
  | zero =>
    intro hn
    have e := at_A m c ⟨0, hn⟩ rfl (show ¬ 0 % 11 = 10 by decide)
    rw [e]
    refine ⟨fun r k => pay1_at m c ⟨0, hn⟩ r k, fun _ r j => ?_⟩
    refine (step m c ⟨0, hn⟩ _ (fun r k => pay1_at m c ⟨0, hn⟩ r k) _ r j).trans ?_
    rw [show 0 % 11 + 1 = 1 from rfl, Finset.sum_range_one]
    pointwise [k0_pay2]
  | succ n ih =>
    intro hn
    obtain ⟨ihs, iho⟩ := ih (Nat.lt_of_succ_lt hn)
    by_cases h0 : (n + 1) % 11 = 0
    · have e := at_A m c ⟨n + 1, hn⟩ h0 (by simp only; omega)
      rw [e]
      refine ⟨fun r k => pay1_at m c ⟨n + 1, hn⟩ r k, fun _ r j => ?_⟩
      refine (step m c ⟨n + 1, hn⟩ _ (fun r k => pay1_at m c ⟨n + 1, hn⟩ r k) _ r j).trans ?_
      rw [h0, Finset.sum_range_one]
      unfold part
      simp only [h0, Nat.zero_mod]
      pointwise [k0_pay2]
    · have hrow : ∀ r, arow n (Nat.lt_of_succ_lt hn) r = arow (n + 1) hn r := fun r =>
        Fin.ext (by simp only [arow]; omega)
      have hmod : (n + 1) % 11 = n % 11 + 1 := by omega
      have hs : ∀ r k, (outsAt0 m c n (Nat.lt_of_succ_lt hn)).2 (ix2 r k)
          = nrm (m ((c : Thread nD τ).loc main_arg0)) (m ((c : Thread nD τ).loc main_arg1)) (arow (n + 1) hn r) k :=
        fun r k => (ihs r k).trans (by rw [hrow])
      by_cases h1 : (n + 1) % 11 = 10
      · have e := at_C m c ⟨n + 1, hn⟩ h0 h1 _ _ rfl
        rw [e]
        exact ⟨hs, fun h => absurd h1 h⟩
      · have e := at_B m c ⟨n + 1, hn⟩ h0 h1 _ _ rfl
        rw [e]
        refine ⟨hs, fun _ r j => ?_⟩
        refine (step m c ⟨n + 1, hn⟩ _ hs _ r j).trans ?_
        rw [Finset.sum_range_succ]
        refine congrArg₂ (· + ·) ?_ ?_
        · refine (iho (by omega) r j).trans ?_
          rw [hrow, ← hmod]
        · unfold part
          simp only [Nat.mod_mod]

/-- The finished output block at the last point of a row block. -/
theorem point (c : Dev nD) (t : Fin cfg0.N) (h : t.val % 11 = 10) (r : Fin 1024) (j : Fin 2048) :
    (outsAt0 m c t.val t.isLt).1 (ix2 r j)
      = G (m ((c : Thread nD τ).loc main_arg0)) (m ((c : Thread nD τ).loc main_arg1))
          (m ((c : Thread nD τ).loc main_arg2)) (m ((c : Thread nD τ).loc main_arg3))
          (m ((c : Thread nD τ).loc main_arg4)) (ix2 (arow t.val t.isLt r) j) := by
  have hn : t.val - 1 < cfg0.N := Nat.lt_of_le_of_lt (Nat.sub_le _ _) t.isLt
  obtain ⟨ihs, iho⟩ := state m c (t.val - 1) hn
  have hrow : ∀ r, arow (t.val - 1) hn r = arow t.val t.isLt r := fun r => Fin.ext (by simp only [arow]; omega)
  rw [at_C m c t (by omega) h _ _ rfl]
  have hsum : ∀ r j, k0_pay3 (outsAt0 m c (t.val - 1) hn).2 (iblk m c 2 t) (iblk m c 3 t) (outsAt0 m c (t.val - 1) hn).1
        (iblk m c 4 t) (ix2 r j)
      = row (m ((c : Thread nD τ).loc main_arg0)) (m ((c : Thread nD τ).loc main_arg1))
          (m ((c : Thread nD τ).loc main_arg2)) (m ((c : Thread nD τ).loc main_arg3)) (arow t.val t.isLt r) j := by
    intro r j
    rw [step m c t _ (fun r k => (ihs r k).trans (by rw [hrow])), iho (by omega), hrow, ← sum_part,
      Finset.sum_range_succ (n := 10), show (t.val - 1) % 11 + 1 = 10 by omega]
    refine congrArg₂ (· + ·) rfl ?_
    unfold part
    simp only [h]
  pointwise [k0_pay4, G, rmsFactor]
  simp only [hsum]
  blk_point [iblk, V, idx t]
  all_goals rfl

/-- What the kernel leaves in its result array, as one function of the arguments. -/
theorem final (c : Dev nD) :
    (dats m 0 c).arrAt 6 cfg0.N
      = G (m ((c : Thread nD τ).loc main_arg0)) (m ((c : Thread nD τ).loc main_arg1))
          (m ((c : Thread nD τ).loc main_arg2)) (m ((c : Thread nD τ).loc main_arg3))
          (m ((c : Thread nD τ).loc main_arg4)) := by
  refine (dats m 0 c).arrAt_eq_of_covers 6 _ (by decide +kernel) fun t hf y => ?_
  have hm : t.val % 11 = 10 := (flush0_6 t).mp hf
  blk_simp
  rw [after0_6]
  idx_vars y
  have he : ((cfg0.win 6).blk t).view.emb (ix2 y0 y1) = (ix2 (arow t.val t.isLt y0) y1 : S8192x2048.Idx) := by
    blk_ext [idx t]
    all_goals rfl
  rw [he]
  exact point m c t hm y0 y1

end Cert.Proof.Ffn

end
-- ==== Proof.FfnClaims.lean ====
/- The claims about the feed-forward layer (`KernelFfn`): each program runs and leaves its arguments alone, idealizing changes nothing,
   and over the extended reals the kernel's result is the reference's. -/
module

public import proofs.«01_k».proof.Defs
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.FfnValue
public import Idealize.ShloMosaic.Lib.Claim
public import Idealize.ShloMosaic.Adequacy
public import Idealize.ShloMosaic.Init

@[expose] public section

set_option maxRecDepth 16384

noncomputable section

namespace Cert.Proof.Ffn

open Idealize.ShloMosaic Idealize.ShloMosaic.TcCoe Idealize.SL.Sem

/-- The bit-exact kernel runs, leaves its arguments unchanged and every counter at zero. -/
theorem frame_k : Cert.quiescent_KernelFfn := fun m ρ _ => Cert.KernelFfn.Gen.frame m ρ

/-- The idealized kernel runs, leaves its arguments unchanged and every counter at zero. -/
theorem frame_ki : Cert.quiescent_KernelFfnIdeal := fun m ρ _ => Cert.KernelFfnIdeal.Gen.frame m ρ

/-- The reference runs, leaves its arguments unchanged and every counter at zero: it declares no semaphore. -/
theorem frame_ri : Cert.quiescent_ReferenceFfnIdeal := fun m ρ _ =>
  (θ_run Cert.ReferenceFfnIdeal.defs _ _).mono
    (fun r h => ⟨fun c => (h c).2, Idealize.ShloMosaic.sem_eq_zero_of_no_sems (by decide) r.2⟩)
    (Cert.ReferenceFfnIdeal.Value.run (F := Ideal) m ρ)

/-- Idealizing the kernel rewrites nothing. -/
theorem preserves : Cert.preserves_KernelFfn_KernelFfnIdeal := trivial

/-- The kernel's result and the reference's are equal at every index, from any arguments. -/
theorem algebraic : Cert.algebraic_KernelFfnIdeal_ReferenceFfnIdeal := by
  pair_intro
  · run_from Cert.KernelFfnIdeal.Gen.run_main m g
  · run_from Cert.ReferenceFfnIdeal.Value.run m' g'
    obtain ⟨h0, h1, h2, h3, h4⟩ := hagree c
    refine (ref m' c).trans ?_
    rw [h0, h1, h2, h3, h4]
    exact (final m c).symm

end Cert.Proof.Ffn

end
-- ==== Proof.RowZero.lean ====
/- Reading a select on "the row number is zero". -/
module

public import Idealize.ShloMosaic.Lib.Pipeline.ValueKit

@[expose] public section

noncomputable section

namespace Cert.Proof

open Idealize.ShloMosaic

/-- A select on "the row number is zero", read as an `if`. -/
theorem select_zero {α : Type} (k : Fin 1024) (a b : α) :
    Scalar.select (IntOp.cmpi CmpIPredicate.eq (BitVec.ofNat 32 k.val) 0#32) a b = if k.val = 0 then a else b := by
  have h : (BitVec.ofNat 32 k.val = 0#32) ↔ k.val = 0 := by
    constructor
    · intro h
      have := congrArg BitVec.toNat h
      simp at this
      omega
    · intro h; rw [h]
  by_cases hk : k.val = 0
  · simp [Scalar.select, IntOp.cmpi, h.2 hk, hk]
  · have hn : ¬ BitVec.ofNat 32 k.val = 0#32 := fun e => hk (h.1 e)
    have hb : (BitVec.ofNat 32 k.val == 0#32) = false := beq_eq_false_iff_ne.2 hn
    simp [Scalar.select, IntOp.cmpi, hb, hk]

end Cert.Proof

end
-- ==== Proof.FiltValue.lean ====
/- The filter's spectrum and the cast weights (`KernelFilt`): the two arrays the kernel leaves and the two the reference computes
   are the same functions of the arguments. -/
module

public import proofs.«01_k».proof.Proof.Gen.KernelFiltIdeal.Value
public import proofs.«01_k».proof.Proof.Gen.ReferenceFiltIdeal.Run
public import proofs.«01_k».proof.Proof.RowZero
public import Idealize.ShloMosaic.Lib.Pipeline.ValueKit

@[expose] public section

set_option maxRecDepth 16384

noncomputable section

namespace Cert.Proof.Filt

open Cert.KernelFiltIdeal Cert.KernelFiltIdeal.Gen
open Idealize.ShloMosaic Idealize.ShloMosaic.TcCoe Idealize.SL.Sem
open Idealize.ShloMosaic.Pipeline (Dat)

/-- Row `k` of a transform matrix against the first half of column `c`. -/
def lower (w : FVec Ideal S1024x1024 .bf16) (v : FVec Ideal S2048x2048 .bf16) (k : Fin 1024) (c : Fin 2048) : EReal :=
  ∑ n : Fin 1024, w (ix2 k n) * v (ix2 ⟨n.val, by omega⟩ c)

/-- Row `k` of a transform matrix against the second half of column `c`. -/
def upper (w : FVec Ideal S1024x1024 .bf16) (v : FVec Ideal S2048x2048 .bf16) (k : Fin 1024) (c : Fin 2048) : EReal :=
  ∑ n : Fin 1024, w (ix2 k n) * v (ix2 ⟨1024 + n.val, by omega⟩ c)

/-- How often the inverse transform counts a frequency, over twice the length. -/
def count (first : Prop) [Decidable first] : EReal :=
  (if first then (Scalar.ofBits .f32 0x3F800000#32 : Ideal .f32) else (Scalar.ofBits .f32 0x40000000#32 : Ideal .f32)) *
    (Scalar.ofBits .f32 0x39800000#32 : Ideal .f32)

/-- The four planes of the spectrum from the four transforms `pc qc ps qs` at one frequency. -/
def plane (first : Prop) [Decidable first] (pc qc ps qs : EReal) (q : ℕ) : EReal :=
  if q = 0 then (pc + qc) * count first
  else if q = 1 then if first then 0 else -(ps + qs) * count first
  else if q = 2 then (pc - qc) * count first
  else if first then 0 else (ps - qs) * count first

/-- The filter's spectrum, from the arguments. -/
def G (ce co se so : FVec Ideal S1024x1024 .bf16) (s d : FVec Ideal S2048x2048 .bf16) : FVec Ideal S4x1024x2048 .bf16 := fun y =>
  plane ((y 1).val = 0) (lower ce s (y 1) (y 2)) (upper co s (y 1) (y 2)) (lower se d (y 1) (y 2)) (upper so d (y 1) (y 2)) (y 0).val

/-- The first half of the weights. -/
def W (w : FVec Ideal S2048x9216 .f32) : FVec Ideal S1024x9216 .bf16 := fun y => w (ix2 ⟨(y 0).val, by have : (y 0).val < 1024 := (y 0).isLt; omega⟩ (y 1))

/-- The zero the reference masks with. -/
theorem const_zero (i : Cert.ReferenceFiltIdeal.S_.Idx) : (constant Cert.ReferenceFiltIdeal.S_ FTy.f32 0#32 : FVec Ideal Cert.ReferenceFiltIdeal.S_ .f32) i = 0 := by
  pointwise

/-- The weight the reference gives a frequency. -/
theorem count_at (k : Fin 1024) :
    (mulf (select (cmpi CmpIPredicate.eq (iotaInDim Cert.ReferenceFiltIdeal.S1024x1 32 0)
          (broadcastInDim Cert.ReferenceFiltIdeal.S1024x1 ![] Cert.ReferenceFiltIdeal.Gen.bcast_S_S1024x1 (constantI Cert.ReferenceFiltIdeal.S_ 32 0#32)))
        (broadcastInDim Cert.ReferenceFiltIdeal.S1024x1 ![] Cert.ReferenceFiltIdeal.Gen.bcast_S_S1024x1 (constant Cert.ReferenceFiltIdeal.S_ FTy.f32 0x3F800000#32))
        (broadcastInDim Cert.ReferenceFiltIdeal.S1024x1 ![] Cert.ReferenceFiltIdeal.Gen.bcast_S_S1024x1 (constant Cert.ReferenceFiltIdeal.S_ FTy.f32 0x40000000#32)))
      (broadcastInDim Cert.ReferenceFiltIdeal.S1024x1 ![] Cert.ReferenceFiltIdeal.Gen.bcast_S_S1024x1 (constant Cert.ReferenceFiltIdeal.S_ FTy.f32 0x39800000#32))
      : FVec Ideal Cert.ReferenceFiltIdeal.S1024x1 .f32) (ix2 k 0) = count (k.val = 0) := by
  pointwise [count]
  all_goals rw [select_zero]

set_option maxHeartbeats 1000000 in
/-- The reference's first result is `G` of the arguments. -/
theorem ref (m' : (ℓ : Loc Cert.ReferenceFiltIdeal.nD Cert.ReferenceFiltIdeal.τ Cert.ReferenceFiltIdeal.sig) → Buf (Elt Ideal) ℓ) (c : Dev nD) :
    (Cert.ReferenceFiltIdeal.Value.res_out0 m' c : FVec Ideal S4x1024x2048 .bf16)
      = G (m' (c.tc.loc Cert.ReferenceFiltIdeal.main_arg0)) (m' (c.tc.loc Cert.ReferenceFiltIdeal.main_arg1))
          (m' (c.tc.loc Cert.ReferenceFiltIdeal.main_arg2)) (m' (c.tc.loc Cert.ReferenceFiltIdeal.main_arg3))
          (m' (c.tc.loc Cert.ReferenceFiltIdeal.main_arg4)) (m' (c.tc.loc Cert.ReferenceFiltIdeal.main_arg5)) := by
  funext y
  idx_vars y
  have hq : y0.val = 0 ∨ y0.val = 1 ∨ y0.val = 2 ∨ y0.val = 3 := by omega
  pointwise [Cert.ReferenceFiltIdeal.Value.res_out0, Cert.ReferenceFiltIdeal.Value.res_main_v47, G]
  have hc := count_at y1
  simp only [id, select_zero]
  by_cases hk : y1.val = 0
  · simp only [hk, if_true, const_zero, zero_mul, Finset.sum_const_zero]
    rcases hq with hq | hq | hq | hq <;> simp [hq, plane, lower, upper]
    all_goals exact congrArg₂ HMul.hMul rfl (hc.trans (by simp only [hk]))
  · simp only [hk, if_false]
    rcases hq with hq | hq | hq | hq <;> simp [hq, plane, lower, upper]
    all_goals exact congrArg₂ HMul.hMul rfl (hc.trans (by simp only [hk]))

/-- The reference's second result is `W` of the weights. -/
theorem ref_w (h : Cert.ReferenceFiltIdeal.S2048x9216.Slices ![0, 0] Cert.ReferenceFiltIdeal.S1024x9216) (w : FVec Ideal S2048x9216 .f32) (hb) :
    (truncf .bf16 (extractStridedSlice Cert.ReferenceFiltIdeal.S1024x9216 ![0, 0] w h) hb : FVec Ideal S1024x9216 .bf16) = W w := by
  funext y
  idx_vars y
  pointwise [W]

variable (m : (ℓ : Loc nD τ sig) → Buf (Elt Ideal) ℓ)

/-- Which block of its array each window holds at grid point `t`: columns `t / 2`, frequency block `t % 2`, weight rows `t`. -/
theorem idx : ∀ t : Fin cfg0.N,
    win0_0.index t = ![0, 0] ∧ win0_1.index t = ![0, 0] ∧ win0_2.index t = ![0, 0] ∧ win0_3.index t = ![0, 0] ∧
    win0_4.index t = ![0, t.val / 2] ∧ win0_5.index t = ![0, t.val / 2] ∧ win0_6.index t = ![t.val, 0] ∧
    win0_7.index t = ![0, t.val % 2, t.val / 2] ∧ win0_8.index t = ![t.val, 0] :=
  (by decide +kernel : ∀ t : Fin grid0.N, _)

/-- The frequency row `r` of the row block is. -/
abbrev row (t : Fin cfg0.N) (r : Fin 512) : Fin 1024 := ⟨t.val % 2 * 512 + r.val, by omega⟩

/-- The column that column `k` of the column block is. -/
abbrev col (t : Fin cfg0.N) (k : Fin 512) : Fin 2048 := ⟨t.val / 2 * 512 + k.val, by have := lt_of_lt_of_eq t.isLt N_0; omega⟩

/-- Where the row block of grid point `t` begins. -/
theorem off : ∀ t : Fin cfg0.N, k0_off1 (grid0.coords t) = ![t.val % 2 * 512, 0] :=
  (by decide +kernel : ∀ t : Fin grid0.N, _)

/-- The second coordinate of a grid point. -/
theorem coord : ∀ t : Fin cfg0.N, (grid0.coords t 1).val = t.val % 2 :=
  (by decide +kernel : ∀ t : Fin grid0.N, _)

/-- The row number the kernel's mask compares with zero. -/
theorem mask_row (t : Fin cfg0.N) (r : Fin 512) :
    IntOp.addi (Scalar.muli (BitVec.ofNat 32 (grid0.coords t 1).val) 512#32) (BitVec.ofNat 32 r.val) = BitVec.ofNat 32 (row t r).val := by
  rw [coord]
  simp only [IntOp.addi, Scalar.muli, IntOp.muli, BitVec.ofNat_add, BitVec.ofNat_mul]

/-- The rows of a matrix that grid point `t` uses. -/
abbrev rM (t : Fin cfg0.N) : Rect S1024x1024 := Rect.unit (s := S1024x1024) (k0_off1 (grid0.coords t)) S512x1024.size (k0_off1_inb (grid0.coords t))
/-- The first half of a column block. -/
abbrev rL : Rect S2048x512 := Rect.unit (s := S2048x512) ![0, 0] S1024x512.size inb_S2048x512_S1024x512_0_0
/-- The second half of a column block. -/
abbrev rU : Rect S2048x512 := Rect.unit (s := S2048x512) ![1024, 0] S1024x512.size inb_S2048x512_S1024x512_1024_0

/-- The cosine transform of the first half, as the kernel forms it. -/
theorem pc_at (c : Dev nD) (t : Fin cfg0.N) (r k : Fin 512) :
    k0_pay7 (F := Ideal) (View.ld (iblk m c 0 t) (rM t)) (View.ld (iblk m c 4 t) rL) (ix2 r k)
      = lower (m ((c : Thread nD τ).loc main_arg0)) (m ((c : Thread nD τ).loc main_arg4)) (row t r) (col t k) := by
  pointwise [k0_pay7, lower]
  blk_point [iblk, V, idx t, off t]

/-- The cosine transform of the second half, as the kernel forms it. -/
theorem qc_at (c : Dev nD) (t : Fin cfg0.N) (r k : Fin 512) :
    k0_pay8 (F := Ideal) (View.ld (iblk m c 1 t) (rM t)) (View.ld (iblk m c 4 t) rU) (ix2 r k)
      = upper (m ((c : Thread nD τ).loc main_arg1)) (m ((c : Thread nD τ).loc main_arg4)) (row t r) (col t k) := by
  pointwise [k0_pay8, upper]
  blk_point [iblk, V, idx t, off t]

/-- The sine transform of the first half, as the kernel forms it. -/
theorem ps_at (c : Dev nD) (t : Fin cfg0.N) (r k : Fin 512) :
    k0_pay9 (F := Ideal) (View.ld (iblk m c 2 t) (rM t)) (View.ld (iblk m c 5 t) rL) (ix2 r k)
      = lower (m ((c : Thread nD τ).loc main_arg2)) (m ((c : Thread nD τ).loc main_arg5)) (row t r) (col t k) := by
  pointwise [k0_pay9, lower]
  blk_point [iblk, V, idx t, off t]

/-- The sine transform of the second half, as the kernel forms it. -/
theorem qs_at (c : Dev nD) (t : Fin cfg0.N) (r k : Fin 512) :
    k0_pay10 (F := Ideal) (View.ld (iblk m c 3 t) (rM t)) (View.ld (iblk m c 5 t) rU) (ix2 r k)
      = upper (m ((c : Thread nD τ).loc main_arg3)) (m ((c : Thread nD τ).loc main_arg5)) (row t r) (col t k) := by
  pointwise [k0_pay10, upper]
  blk_point [iblk, V, idx t, off t]

section Stores

variable (v8 v12 v16 v20 : FVec Ideal S512x512 .f32) (t : Fin cfg0.N) (a : Fin 1) (r k : Fin 512)

/-- The first of the four stores, at one element. -/
theorem store0 : k0_pay2 (F := Ideal) v8 v12 (k0_pay12 (grid0.coords t)) k0_pay13 (ix3 a r k)
    = plane ((row t r).val = 0) (v8 (ix2 r k)) (v12 (ix2 r k)) (v16 (ix2 r k)) (v20 (ix2 r k)) 0 := by
  pointwise [k0_pay2, k0_pay1, k0_pay11, k0_pay12, k0_pay13, plane, count]
  all_goals rw [mask_row, select_zero]

/-- The second of the four stores, at one element. -/
theorem store1 : k0_pay3 (F := Ideal) v16 v20 (k0_pay11 (grid0.coords t)) (k0_pay12 (grid0.coords t)) k0_pay13 (ix3 a r k)
    = plane ((row t r).val = 0) (v8 (ix2 r k)) (v12 (ix2 r k)) (v16 (ix2 r k)) (v20 (ix2 r k)) 1 := by
  pointwise [k0_pay3, k0_pay1, k0_pay11, k0_pay12, k0_pay13, plane, count]
  all_goals rw [mask_row, select_zero, select_zero, zero_sub]

/-- The third of the four stores, at one element. -/
theorem store2 : k0_pay4 (F := Ideal) v8 v12 (k0_pay12 (grid0.coords t)) k0_pay13 (ix3 a r k)
    = plane ((row t r).val = 0) (v8 (ix2 r k)) (v12 (ix2 r k)) (v16 (ix2 r k)) (v20 (ix2 r k)) 2 := by
  pointwise [k0_pay4, k0_pay1, k0_pay11, k0_pay12, k0_pay13, plane, count]
  all_goals rw [mask_row, select_zero]

/-- The fourth of the four stores, at one element. -/
theorem store3 : k0_pay5 (F := Ideal) v16 v20 (k0_pay11 (grid0.coords t)) (k0_pay12 (grid0.coords t)) k0_pay13 (ix3 a r k)
    = plane ((row t r).val = 0) (v8 (ix2 r k)) (v12 (ix2 r k)) (v16 (ix2 r k)) (v20 (ix2 r k)) 3 := by
  pointwise [k0_pay5, k0_pay1, k0_pay11, k0_pay12, k0_pay13, plane, count]
  all_goals rw [mask_row, select_zero, select_zero]

end Stores

/-- What a store writes, its four operands the launch's, is `G` of the arguments. -/
theorem value (c : Dev nD) (t : Fin cfg0.N) (r k : Fin 512) (q : Fin 4) :
    plane ((row t r).val = 0) (k0_pay7 (F := Ideal) (View.ld (iblk m c 0 t) (rM t)) (View.ld (iblk m c 4 t) rL) (ix2 r k))
      (k0_pay8 (F := Ideal) (View.ld (iblk m c 1 t) (rM t)) (View.ld (iblk m c 4 t) rU) (ix2 r k))
      (k0_pay9 (F := Ideal) (View.ld (iblk m c 2 t) (rM t)) (View.ld (iblk m c 5 t) rL) (ix2 r k))
      (k0_pay10 (F := Ideal) (View.ld (iblk m c 3 t) (rM t)) (View.ld (iblk m c 5 t) rU) (ix2 r k)) q.val
    = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix3 q (row t r) (col t k)) := by
  rw [pc_at, qc_at, ps_at, qs_at]
  rfl

/-- The element of the array that element `y` of the block is, from the store's own index `x`. -/
theorem place (t : Fin cfg0.N) (y : S4x512x512.Idx) (x : S1x512x512.Idx) (q : Fin 4) (h0 : (y 0).val = q.val)
    (h1 : (y 1).val = (x 1).val) (h2 : (y 2).val = (x 2).val) :
    (ix3 (y 0) (row t (y 1)) (col t (y 2)) : S4x1024x2048.Idx) = ix3 q (row t (x 1)) (col t (x 2)) := by
  have e0 : y 0 = q := Fin.ext h0
  have e1 : y 1 = x 1 := Fin.ext h1
  have e2 : y 2 = x 2 := Fin.ext h2
  rw [e0, e1, e2]

set_option maxHeartbeats 400000 in
/-- What grid point `t` leaves in the spectrum's block, at one element. -/
theorem point (c : Dev nD) (t : Fin cfg0.N) (y : S4x512x512.Idx) :
    (outsAt0 m c t).1 y = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix3 (y 0) (row t (y 1)) (col t (y 2))) := by
  unfold outsAt0
  dsimp only
  frame_out
  canon_tiles x h
  case piece0 =>
    rw [place t y x 3 (by show (y 0).val = 3; omega) h1 h2]
    idx_vars x
    exact (store3 (k0_pay7 (View.ld (iblk m c 0 t) (rM t)) (View.ld (iblk m c 4 t) rL)) (k0_pay8 (View.ld (iblk m c 1 t) (rM t)) (View.ld (iblk m c 4 t) rU))
      (k0_pay9 (View.ld (iblk m c 2 t) (rM t)) (View.ld (iblk m c 5 t) rL)) (k0_pay10 (View.ld (iblk m c 3 t) (rM t)) (View.ld (iblk m c 5 t) rU)) t _ _ _).trans (value m c t _ _ 3)
  case piece1 =>
    rw [place t y x 2 (by show (y 0).val = 2; omega) h1 h2]
    idx_vars x
    exact (store2 (k0_pay7 (View.ld (iblk m c 0 t) (rM t)) (View.ld (iblk m c 4 t) rL)) (k0_pay8 (View.ld (iblk m c 1 t) (rM t)) (View.ld (iblk m c 4 t) rU))
      (k0_pay9 (View.ld (iblk m c 2 t) (rM t)) (View.ld (iblk m c 5 t) rL)) (k0_pay10 (View.ld (iblk m c 3 t) (rM t)) (View.ld (iblk m c 5 t) rU)) t _ _ _).trans (value m c t _ _ 2)
  case piece2 =>
    rw [place t y x 1 (by show (y 0).val = 1; omega) h1 h2]
    idx_vars x
    exact (store1 (k0_pay7 (View.ld (iblk m c 0 t) (rM t)) (View.ld (iblk m c 4 t) rL)) (k0_pay8 (View.ld (iblk m c 1 t) (rM t)) (View.ld (iblk m c 4 t) rU))
      (k0_pay9 (View.ld (iblk m c 2 t) (rM t)) (View.ld (iblk m c 5 t) rL)) (k0_pay10 (View.ld (iblk m c 3 t) (rM t)) (View.ld (iblk m c 5 t) rU)) t _ _ _).trans (value m c t _ _ 1)
  case piece3 =>
    rw [place t y x 0 (by show (y 0).val = 0; omega) h1 h2]
    idx_vars x
    exact (store0 (k0_pay7 (View.ld (iblk m c 0 t) (rM t)) (View.ld (iblk m c 4 t) rL)) (k0_pay8 (View.ld (iblk m c 1 t) (rM t)) (View.ld (iblk m c 4 t) rU))
      (k0_pay9 (View.ld (iblk m c 2 t) (rM t)) (View.ld (iblk m c 5 t) rL)) (k0_pay10 (View.ld (iblk m c 3 t) (rM t)) (View.ld (iblk m c 5 t) rU)) t _ _ _).trans (value m c t _ _ 0)

/-- The spectrum the kernel leaves is `G` of its arguments. -/
theorem final (c : Dev nD) : (dats m 0 c).arrAt 7 (cfgs 0).N = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 7 _ (by decide +kernel) fun t hf y => ?_
  blk_simp
  rw [after0_7]
  have he : ((cfg0.win 7).blk t).view.emb y = (ix3 (y 0) (row t (y 1)) (col t (y 2)) : S4x1024x2048.Idx) := by
    blk_ext [idx t]
    all_goals rfl
  rw [he]
  exact point m c t y

/-- The row of the weights that row `r` of grid point `t`'s block is. -/
abbrev wrow (t : Fin cfg0.N) (r : Fin 128) : Fin 1024 := ⟨t.val * 128 + r.val, by have := lt_of_lt_of_eq t.isLt N_0; omega⟩

/-- What grid point `t` leaves in the weights' block, at one element. -/
theorem point_w (c : Dev nD) (t : Fin cfg0.N) (y : S128x9216.Idx) :
    (outsAt0 m c t).2 y = W (m ((c : Thread nD τ).loc main_arg6)) (ix2 (wrow t (y 0)) (y 1)) := by
  unfold outsAt0
  dsimp only
  frame_out
  idx_vars y
  pointwise [k0_pay6, W]
  blk_point [iblk, V, idx t]

/-- The weights the kernel leaves are the cast first half of its own. -/
theorem final_w (c : Dev nD) : (dats m 0 c).arrAt 8 (cfgs 0).N = W (m ((c : Thread nD τ).loc main_arg6)) := by
  refine (dats m 0 c).arrAt_eq_of_covers 8 _ (by decide +kernel) fun t hf y => ?_
  blk_simp
  rw [after0_8]
  have he : ((cfg0.win 8).blk t).view.emb y = (ix2 (wrow t (y 0)) (y 1) : S1024x9216.Idx) := by
    blk_ext [idx t]
    all_goals rfl
  rw [he]
  exact point_w m c t y

end Cert.Proof.Filt

end
-- ==== Proof.FiltClaims.lean ====
/- The claims about the filter's spectrum (`KernelFilt`): each program runs and leaves its arguments alone, idealizing changes nothing,
   and over the extended reals the kernel's result is the reference's. -/
module

public import proofs.«01_k».proof.Defs
public import proofs.«01_k».proof.Proof.Gen.KernelFilt
public import proofs.«01_k».proof.Proof.Gen.KernelFilt.Frame
public import proofs.«01_k».proof.Proof.Gen.KernelFiltIdeal
public import proofs.«01_k».proof.Proof.Gen.KernelFiltIdeal.Frame
public import proofs.«01_k».proof.Proof.Gen.ReferenceFiltIdeal
public import proofs.«01_k».proof.Proof.Gen.ReferenceFiltIdeal.Run
public import proofs.«01_k».proof.Proof.FiltValue
public import Idealize.ShloMosaic.Lib.Claim
public import Idealize.ShloMosaic.Adequacy
public import Idealize.ShloMosaic.Init

@[expose] public section

set_option maxRecDepth 16384

noncomputable section

namespace Cert.Proof.Filt

open Idealize.ShloMosaic Idealize.ShloMosaic.TcCoe Idealize.SL.Sem

/-- The bit-exact kernel runs, leaves its arguments unchanged and every counter at zero. -/
theorem frame_k : Cert.quiescent_KernelFilt := fun m ρ _ => Cert.KernelFilt.Gen.frame m ρ

/-- The idealized kernel runs, leaves its arguments unchanged and every counter at zero. -/
theorem frame_ki : Cert.quiescent_KernelFiltIdeal := fun m ρ _ => Cert.KernelFiltIdeal.Gen.frame m ρ

/-- The reference runs, leaves its arguments unchanged and every counter at zero: it declares no semaphore. -/
theorem frame_ri : Cert.quiescent_ReferenceFiltIdeal := fun m ρ _ =>
  (θ_run Cert.ReferenceFiltIdeal.defs _ _).mono
    (fun r h => ⟨fun c => (h c).2.2, Idealize.ShloMosaic.sem_eq_zero_of_no_sems (by decide) r.2⟩)
    (Cert.ReferenceFiltIdeal.Value.run (F := Ideal) m ρ)

/-- Idealizing the kernel rewrites nothing. -/
theorem preserves : Cert.preserves_KernelFilt_KernelFiltIdeal := trivial

/-- The kernel's two results and the reference's are equal at every index, from any arguments. -/
theorem algebraic : Cert.algebraic_KernelFiltIdeal_ReferenceFiltIdeal := by
  pair_intro
  · run_from Cert.KernelFiltIdeal.Gen.run_main m g
  · run_from Cert.ReferenceFiltIdeal.Value.run m' g'
    · obtain ⟨h0, h1, h2, h3, h4, h5, h6⟩ := hagree c
      refine (ref m' c).trans ?_
      rw [h0, h1, h2, h3, h4, h5]
      exact (final m c).symm
    · exact (ref_w _ _ _).trans (final_w m c).symm

end Cert.Proof.Filt

end
-- ==== Proof.FwdValue.lean ====
/- The forward transform of the long convolution (`Kernel`): the array the kernel leaves and the array the reference computes
   are one function of the arguments, where the filter's spectrum is real at frequencies 0 and L. -/
module

public import proofs.«01_k».proof.Proof.Gen.KernelIdeal.Value
public import proofs.«01_k».proof.Proof.Gen.ReferenceIdeal.Run
public import proofs.«01_k».proof.Pre_sine_rows_zero
public import proofs.«01_k».proof.Proof.RowZero
public import Idealize.ShloMosaic.Lib.Pipeline.ValueKit

@[expose] public section

set_option maxRecDepth 16384

noncomputable section

namespace Cert.Proof.Fwd

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`: batch `t / 2`, frequency block `t % 2`. -/
theorem idx : ∀ t : Fin cfg0.N,
    win0_0.index t = ![0, 0] ∧ win0_1.index t = ![0, 0] ∧ win0_2.index t = ![0, 0] ∧ win0_3.index t = ![0, 0] ∧
    win0_4.index t = ![t.val / 2, 0, 0] ∧ win0_5.index t = ![0, t.val % 2, 0] ∧ win0_6.index t = ![0, 0] ∧
    win0_7.index t = ![t.val / 2, 0, t.val % 2, 0] :=
  (by decide +kernel : ∀ t : Fin grid0.N, _)

/-- Row `k` of a transform matrix against the even positions of channel `c` of batch `b`. -/
def evens (w : FVec Ideal S1024x1024 .bf16) (u : FVec Ideal S4x2048x3072 .bf16) (b : Fin 4) (k c : Fin 1024) : EReal :=
  ∑ n : Fin 1024, w (ix2 k n) * u (ix3 b ⟨n.val, by omega⟩ ⟨c.val, by omega⟩)

/-- Row `k` of a transform matrix against the odd positions, which stand in the second half. -/
def odds (w : FVec Ideal S1024x1024 .bf16) (u : FVec Ideal S4x2048x3072 .bf16) (b : Fin 4) (k c : Fin 1024) : EReal :=
  ∑ n : Fin 1024, w (ix2 k n) * u (ix3 b ⟨1024 + n.val, by omega⟩ ⟨c.val, by omega⟩)

/-- The filter's row `q` at frequency `k`, channel `c`. -/
def filt (tt : FVec Ideal S4x1024x2048 .bf16) (q : Fin 4) (k c : Fin 1024) : EReal := tt (ix3 q k ⟨c.val, by omega⟩)

/-- The filter's middle frequency at channel `c`. -/
def mid (tm : FVec Ideal S2x2048 .f32) (q : Fin 2) (c : Fin 1024) : EReal := tm (ix2 q ⟨c.val, by omega⟩)

/-- The four planes of the result from the four transforms `pc qc ps qs` at one frequency, the filter's four values and the
    middle frequency's two. -/
def plane (first : Prop) [Decidable first] (pc qc ps qs t0 t1 t2 t3 m0 m1 : EReal) (q : ℕ) : EReal :=
  if q = 0 then ((pc + qc) * t0 + (ps + qs) * t1) + ((pc - qc) * t2 + (qs - ps) * t3)
  else if q = 1 then ((pc + qc) * t0 + (ps + qs) * t1) - ((pc - qc) * t2 + (qs - ps) * t3)
  else if q = 2 then
    if first then ps * m0 + qs * m1 else ((ps + qs) * t0 - (pc + qc) * t1) - ((qs - ps) * t2 - (pc - qc) * t3)
  else if first then qs * m0 - ps * m1 else ((ps + qs) * t0 - (pc + qc) * t1) + ((qs - ps) * t2 - (pc - qc) * t3)

/-- The spectrum of the convolution, from the arguments. -/
def G (ce co se so : FVec Ideal S1024x1024 .bf16) (u : FVec Ideal S4x2048x3072 .bf16) (tt : FVec Ideal S4x1024x2048 .bf16)
    (tm : FVec Ideal S2x2048 .f32) : FVec Ideal S4x4x1024x1024 .bf16 := fun y =>
  plane ((y 2).val = 0) (evens ce u (y 0) (y 2) (y 3)) (odds co u (y 0) (y 2) (y 3)) (evens se u (y 0) (y 2) (y 3))
    (odds so u (y 0) (y 2) (y 3)) (filt tt 0 (y 2) (y 3)) (filt tt 1 (y 2) (y 3)) (filt tt 2 (y 2) (y 3))
    (filt tt 3 (y 2) (y 3)) (mid tm 0 (y 3)) (mid tm 1 (y 3)) (y 1).val

/-- `evens` with its products written the other way round. -/
theorem evens_comm (w : FVec Ideal S1024x1024 .bf16) (u : FVec Ideal S4x2048x3072 .bf16) (b : Fin 4) (k c : Fin 1024) :
    (∑ n : Fin 1024, u (ix3 b ⟨n.val, by omega⟩ ⟨c.val, by omega⟩) * w (ix2 k n)) = evens w u b k c :=
  Finset.sum_congr rfl fun n _ => mul_comm _ _

/-- `odds` with its products written the other way round. -/
theorem odds_comm (w : FVec Ideal S1024x1024 .bf16) (u : FVec Ideal S4x2048x3072 .bf16) (b : Fin 4) (k c : Fin 1024) :
    (∑ n : Fin 1024, u (ix3 b ⟨1024 + n.val, by omega⟩ ⟨c.val, by omega⟩) * w (ix2 k n)) = odds w u b k c :=
  Finset.sum_congr rfl fun n _ => mul_comm _ _

/-- The zero the reference masks with. -/
theorem const_zero (i : Cert.ReferenceIdeal.S_.Idx) : (constant Cert.ReferenceIdeal.S_ FTy.f32 0#32 : FVec Ideal Cert.ReferenceIdeal.S_ .f32) i = 0 := by
  pointwise

/-- What the precondition says: the filter's two odd rows are zero at frequency 0, on the first 1024 channels. -/
theorem pre [hP : Cert.Pre_sine_rows_zero.Facts] (a0 a1 a2 a3 : FVec Ideal S1024x1024 .bf16) (u : FVec Ideal S4x2048x3072 .bf16)
    (tt : FVec Ideal S4x1024x2048 .bf16) (tm : FVec Ideal S2x2048 .f32)
    (h : Cert.Pre_sine_rows_zero.fn (F := Ideal) a0 a1 a2 a3 u tt tm = fun _ => 1#1) (c : Fin 1024) :
    filt tt 1 0 c = 0 ∧ filt tt 3 0 c = 0 := by
  have h1 := congrFun h (ix1 c)
  have e : Cert.Pre_sine_rows_zero.fn (F := Ideal) a0 a1 a2 a3 u tt tm (ix1 c)
      = IntOp.andi (BitVec.ofBool (decide (filt tt 1 0 c = 0))) (BitVec.ofBool (decide (filt tt 3 0 c = 0))) := by
    pointwise [Cert.Pre_sine_rows_zero.fn]
    rfl
  rw [e] at h1
  by_cases p : filt tt 1 0 c = 0
  · by_cases q : filt tt 3 0 c = 0
    · exact ⟨p, q⟩
    · simp [p, q, IntOp.andi] at h1
  · simp [p, IntOp.andi] at h1

set_option maxHeartbeats 2000000 in
/-- The reference's result, read at one element, is `G` of the arguments, the precondition given. -/
theorem ref [hP : Cert.Pre_sine_rows_zero.Facts]
    (m' : (ℓ : Loc Cert.ReferenceIdeal.nD Cert.ReferenceIdeal.τ Cert.ReferenceIdeal.sig) → Buf (Elt Ideal) ℓ)
    (c : Dev nD)
    (hz : ∀ x : Fin 1024, filt (m' (c.tc.loc Cert.ReferenceIdeal.main_arg5)) 1 0 x = 0 ∧
      filt (m' (c.tc.loc Cert.ReferenceIdeal.main_arg5)) 3 0 x = 0) :
    (Cert.ReferenceIdeal.Value.res_out0 m' c : FVec Ideal S4x4x1024x1024 .bf16)
      = G (m' (c.tc.loc Cert.ReferenceIdeal.main_arg0)) (m' (c.tc.loc Cert.ReferenceIdeal.main_arg1))
          (m' (c.tc.loc Cert.ReferenceIdeal.main_arg2)) (m' (c.tc.loc Cert.ReferenceIdeal.main_arg3))
          (m' (c.tc.loc Cert.ReferenceIdeal.main_arg4)) (m' (c.tc.loc Cert.ReferenceIdeal.main_arg5))
          (m' (c.tc.loc Cert.ReferenceIdeal.main_arg6)) := by
  funext y
  idx_vars y
  have hq : y1.val = 0 ∨ y1.val = 1 ∨ y1.val = 2 ∨ y1.val = 3 := by omega
  have z1 := (hz y3).1
  have z3 := (hz y3).2
  pointwise [Cert.ReferenceIdeal.Value.res_out0, Cert.ReferenceIdeal.Value.res_main_v110, G]
  have he := fun w k => evens_comm w (m' (c.tc.loc Cert.ReferenceIdeal.main_arg4)) y0 k y3
  have ho := fun w k => odds_comm w (m' (c.tc.loc Cert.ReferenceIdeal.main_arg4)) y0 k y3
  have hf : ∀ q k, m' (c.tc.loc Cert.ReferenceIdeal.main_arg5) (ix3 q k ⟨y3.val, by omega⟩)
      = filt (m' (c.tc.loc Cert.ReferenceIdeal.main_arg5)) q k y3 := fun _ _ => rfl
  have hm : ∀ q, m' (c.tc.loc Cert.ReferenceIdeal.main_arg6) (ix2 q ⟨y3.val, by omega⟩)
      = mid (m' (c.tc.loc Cert.ReferenceIdeal.main_arg6)) q y3 := fun _ => rfl
  by_cases hk : y2.val = 0
  · simp only [select_zero]
    simp only [hk, if_true, id, const_zero, mul_zero, Finset.sum_const_zero]
    have hy : y2 = 0 := Fin.ext hk
    subst hy
    simp only [he, ho, hf, hm, z1, z3, plane, if_true, zero_add, add_zero, mul_zero]
    rcases hq with hq | hq | hq | hq <;> simp [hq]
  · simp only [select_zero, hk, if_false]
    simp only [he, ho, hf, hm, plane]
    rcases hq with hq | hq | hq | hq <;> simp [hq]

/-- The axis every row of the launch's row block is read on. -/
abbrev row (t : Fin cfg0.N) (r : Fin 512) : Fin 1024 := ⟨t.val % 2 * 512 + r.val, by omega⟩

/-- The batch of grid point `t`. -/
abbrev batch (t : Fin cfg0.N) : Fin 4 := ⟨t.val / 2, by have := lt_of_lt_of_eq t.isLt N_0; omega⟩

/-- Where the row block of grid point `t` begins. -/
theorem off : ∀ t : Fin cfg0.N, k0_off1 (grid0.coords t) = ![t.val % 2 * 512, 0] :=
  (by decide +kernel : ∀ t : Fin grid0.N, _)

/-- The even positions of the input block. -/
abbrev rE : Rect S1x2048x1024 := Rect.unit (s := S1x2048x1024) ![0, 0, 0] S1x1024x1024.size inb_S1x2048x1024_S1x1024x1024_0_0_0
/-- The odd positions of the input block. -/
abbrev rO : Rect S1x2048x1024 := Rect.unit (s := S1x2048x1024) ![0, 1024, 0] S1x1024x1024.size inb_S1x2048x1024_S1x1024x1024_0_1024_0
/-- The rows of a matrix that grid point `t` uses. -/
abbrev rM (t : Fin cfg0.N) : Rect S1024x1024 := Rect.unit (s := S1024x1024) (k0_off1 (grid0.coords t)) S512x1024.size (k0_off1_inb (grid0.coords t))

/-- The cosine transform of the even positions, as the kernel forms it. -/
theorem pc_at (c : Dev nD) (t : Fin cfg0.N) (r : Fin 512) (k : Fin 1024) :
    k0_pay5 (F := Ideal) (View.ld (iblk m c 4 t) rE) (View.ld (iblk m c 0 t) (rM t)) (ix2 r k)
      = evens (m ((c : Thread nD τ).loc main_arg0)) (m ((c : Thread nD τ).loc main_arg4)) (batch t) (row t r) k := by
  pointwise [k0_pay5, evens]
  blk_point [iblk, V, idx t, off t]

/-- The cosine transform of the odd positions, as the kernel forms it. -/
theorem qc_at (c : Dev nD) (t : Fin cfg0.N) (r : Fin 512) (k : Fin 1024) :
    k0_pay6 (F := Ideal) (View.ld (iblk m c 4 t) rO) (View.ld (iblk m c 1 t) (rM t)) (ix2 r k)
      = odds (m ((c : Thread nD τ).loc main_arg1)) (m ((c : Thread nD τ).loc main_arg4)) (batch t) (row t r) k := by
  pointwise [k0_pay6, odds]
  blk_point [iblk, V, idx t, off t]

/-- The sine transform of the even positions, as the kernel forms it. -/
theorem ps_at (c : Dev nD) (t : Fin cfg0.N) (r : Fin 512) (k : Fin 1024) :
    k0_pay7 (F := Ideal) (View.ld (iblk m c 4 t) rE) (View.ld (iblk m c 2 t) (rM t)) (ix2 r k)
      = evens (m ((c : Thread nD τ).loc main_arg2)) (m ((c : Thread nD τ).loc main_arg4)) (batch t) (row t r) k := by
  pointwise [k0_pay7, evens]
  blk_point [iblk, V, idx t, off t]

/-- The sine transform of the odd positions, as the kernel forms it. -/
theorem qs_at (c : Dev nD) (t : Fin cfg0.N) (r : Fin 512) (k : Fin 1024) :
    k0_pay8 (F := Ideal) (View.ld (iblk m c 4 t) rO) (View.ld (iblk m c 3 t) (rM t)) (ix2 r k)
      = odds (m ((c : Thread nD τ).loc main_arg3)) (m ((c : Thread nD τ).loc main_arg4)) (batch t) (row t r) k := by
  pointwise [k0_pay8, odds]
  blk_point [iblk, V, idx t, off t]

/-- Row 0 of the filter's block. -/
abbrev rT0 : Rect S4x512x1024 := Rect.unit (s := S4x512x1024) ![0, 0, 0] S1x512x1024.size inb_S4x512x1024_S1x512x1024_0_0_0
/-- Row 1 of the filter's block. -/
abbrev rT1 : Rect S4x512x1024 := Rect.unit (s := S4x512x1024) ![1, 0, 0] S1x512x1024.size inb_S4x512x1024_S1x512x1024_1_0_0
/-- Row 2 of the filter's block. -/
abbrev rT2 : Rect S4x512x1024 := Rect.unit (s := S4x512x1024) ![2, 0, 0] S1x512x1024.size inb_S4x512x1024_S1x512x1024_2_0_0
/-- Row 3 of the filter's block. -/
abbrev rT3 : Rect S4x512x1024 := Rect.unit (s := S4x512x1024) ![3, 0, 0] S1x512x1024.size inb_S4x512x1024_S1x512x1024_3_0_0
/-- Row 0 of the middle frequency's block. -/
abbrev rN0 : Rect S2x1024 := Rect.unit (s := S2x1024) ![0, 0] S1x1024.size inb_S2x1024_S1x1024_0_0
/-- Row 1 of the middle frequency's block. -/
abbrev rN1 : Rect S2x1024 := Rect.unit (s := S2x1024) ![1, 0] S1x1024.size inb_S2x1024_S1x1024_1_0
/-- The block's row 0 is the filter's row 0 at the block's frequencies. -/
theorem t0_at (c : Dev nD) (t : Fin cfg0.N) (r : Fin 512) (k : Fin 1024) :
    (View.ld (iblk m c 5 t) rT0 : Vec Ideal S1x512x1024 .bf16) (ix3 0 r k)
      = filt (m ((c : Thread nD τ).loc main_arg5)) 0 (row t r) k := by
  unfold filt
  blk_point [iblk, V, idx t]

/-- The block's row 1 is the filter's row 1 at the block's frequencies. -/
theorem t1_at (c : Dev nD) (t : Fin cfg0.N) (r : Fin 512) (k : Fin 1024) :
    (View.ld (iblk m c 5 t) rT1 : Vec Ideal S1x512x1024 .bf16) (ix3 0 r k)
      = filt (m ((c : Thread nD τ).loc main_arg5)) 1 (row t r) k := by
  unfold filt
  blk_point [iblk, V, idx t]

/-- The block's row 2 is the filter's row 2 at the block's frequencies. -/
theorem t2_at (c : Dev nD) (t : Fin cfg0.N) (r : Fin 512) (k : Fin 1024) :
    (View.ld (iblk m c 5 t) rT2 : Vec Ideal S1x512x1024 .bf16) (ix3 0 r k)
      = filt (m ((c : Thread nD τ).loc main_arg5)) 2 (row t r) k := by
  unfold filt
  blk_point [iblk, V, idx t]

/-- The block's row 3 is the filter's row 3 at the block's frequencies. -/
theorem t3_at (c : Dev nD) (t : Fin cfg0.N) (r : Fin 512) (k : Fin 1024) :
    (View.ld (iblk m c 5 t) rT3 : Vec Ideal S1x512x1024 .bf16) (ix3 0 r k)
      = filt (m ((c : Thread nD τ).loc main_arg5)) 3 (row t r) k := by
  unfold filt
  blk_point [iblk, V, idx t]

/-- The block's row 0 is the middle frequency's row 0. -/
theorem m0_at (c : Dev nD) (t : Fin cfg0.N) (k : Fin 1024) :
    (View.ld (iblk m c 6 t) rN0 : Vec Ideal S1x1024 .f32) (ix2 0 k)
      = mid (m ((c : Thread nD τ).loc main_arg6)) 0 k := by
  unfold mid
  blk_point [iblk, V, idx t]

/-- The block's row 1 is the middle frequency's row 1. -/
theorem m1_at (c : Dev nD) (t : Fin cfg0.N) (k : Fin 1024) :
    (View.ld (iblk m c 6 t) rN1 : Vec Ideal S1x1024 .f32) (ix2 0 k)
      = mid (m ((c : Thread nD τ).loc main_arg6)) 1 k := by
  unfold mid
  blk_point [iblk, V, idx t]

/-- The second coordinate of a grid point. -/
theorem coord : ∀ t : Fin cfg0.N, (grid0.coords t 1).val = t.val % 2 :=
  (by decide +kernel : ∀ t : Fin grid0.N, _)

/-- The row number the kernel's mask compares with zero. -/
theorem mask_row (t : Fin cfg0.N) (r : Fin 512) :
    IntOp.addi (Scalar.muli (BitVec.ofNat 32 (grid0.coords t 1).val) 512#32) (BitVec.ofNat 32 r.val) = BitVec.ofNat 32 (row t r).val := by
  rw [coord]
  simp only [IntOp.addi, Scalar.muli, IntOp.muli, BitVec.ofNat_add, BitVec.ofNat_mul]

section Stores

variable (v8 v11 v14 v17 : FVec Ideal S512x1024 .f32) (v24 v27 v30 v33 : Vec Ideal S1x512x1024 .bf16) (v52 v53 : Vec Ideal S1x1024 .f32)
variable (t : Fin cfg0.N) (a b : Fin 1) (r : Fin 512) (k : Fin 1024)

/-- The first of the four stores, at one element. -/
theorem store0 : k0_pay23 (F := Ideal) v8 v11 v14 v17 (k0_pay10 v24) (k0_pay11 v27) (k0_pay12 v30) v33 (ix4 a b r k)
    = plane ((row t r).val = 0) (v8 (ix2 r k)) (v11 (ix2 r k)) (v14 (ix2 r k)) (v17 (ix2 r k)) (v24 (ix3 0 r k)) (v27 (ix3 0 r k))
        (v30 (ix3 0 r k)) (v33 (ix3 0 r k)) (v52 (ix2 0 k)) (v53 (ix2 0 k)) 0 := by
  pointwise [k0_pay23, plane, k0_pay10, k0_pay11, k0_pay12, k0_pay13, k0_pay14, k0_pay15, k0_pay16, k0_pay17, k0_pay18, k0_pay19, k0_pay20, k0_pay21, k0_pay22]
  all_goals rfl
/-- The second of the four stores, at one element. -/
theorem store1 : k0_pay24 (F := Ideal) v8 v11 v14 v17 (k0_pay10 v24) (k0_pay11 v27) (k0_pay12 v30) v33 (ix4 a b r k)
    = plane ((row t r).val = 0) (v8 (ix2 r k)) (v11 (ix2 r k)) (v14 (ix2 r k)) (v17 (ix2 r k)) (v24 (ix3 0 r k)) (v27 (ix3 0 r k))
        (v30 (ix3 0 r k)) (v33 (ix3 0 r k)) (v52 (ix2 0 k)) (v53 (ix2 0 k)) 1 := by
  pointwise [k0_pay24, plane, k0_pay10, k0_pay11, k0_pay12, k0_pay13, k0_pay14, k0_pay15, k0_pay16, k0_pay17, k0_pay18, k0_pay19, k0_pay20, k0_pay21, k0_pay22]
  all_goals rfl
/-- The third of the four stores, at one element. -/
theorem store2 : k0_pay1 (k0_pay25 (F := Ideal) v8 v11 v14 v17 (k0_pay9 (grid0.coords t)) (k0_pay10 v24) (k0_pay11 v27) (k0_pay12 v30) v33 v52 v53) (ix4 a b r k)
    = plane ((row t r).val = 0) (v8 (ix2 r k)) (v11 (ix2 r k)) (v14 (ix2 r k)) (v17 (ix2 r k)) (v24 (ix3 0 r k)) (v27 (ix3 0 r k))
        (v30 (ix3 0 r k)) (v33 (ix3 0 r k)) (v52 (ix2 0 k)) (v53 (ix2 0 k)) 2 := by
  pointwise [k0_pay1, k0_pay25, k0_pay9, plane, k0_pay10, k0_pay11, k0_pay12, k0_pay13, k0_pay14, k0_pay15, k0_pay16, k0_pay17, k0_pay18, k0_pay19, k0_pay20, k0_pay21, k0_pay22]
  all_goals rw [mask_row, select_zero]
/-- The fourth of the four stores, at one element. -/
theorem store3 : k0_pay2 (F := Ideal) v14 v17 (k0_pay9 (grid0.coords t)) (k0_pay20 v8 v11 v14 v17 (k0_pay10 v24) (k0_pay11 v27)) (k0_pay22 v8 v11 v14 v17 (k0_pay12 v30) v33) v52 v53 (ix4 a b r k)
    = plane ((row t r).val = 0) (v8 (ix2 r k)) (v11 (ix2 r k)) (v14 (ix2 r k)) (v17 (ix2 r k)) (v24 (ix3 0 r k)) (v27 (ix3 0 r k))
        (v30 (ix3 0 r k)) (v33 (ix3 0 r k)) (v52 (ix2 0 k)) (v53 (ix2 0 k)) 3 := by
  pointwise [k0_pay2, k0_pay9, plane, k0_pay10, k0_pay11, k0_pay12, k0_pay13, k0_pay14, k0_pay15, k0_pay16, k0_pay17, k0_pay18, k0_pay19, k0_pay20, k0_pay21, k0_pay22]
  all_goals rw [mask_row, select_zero]
end Stores

/-- What a store writes, its ten operands the launch's, is `G` of the arguments. -/
theorem value (c : Dev nD) (t : Fin cfg0.N) (r : Fin 512) (k : Fin 1024) (q : Fin 4) :
    plane ((row t r).val = 0) (k0_pay5 (F := Ideal) (View.ld (iblk m c 4 t) rE) (View.ld (iblk m c 0 t) (rM t)) (ix2 r k))
      (k0_pay6 (F := Ideal) (View.ld (iblk m c 4 t) rO) (View.ld (iblk m c 1 t) (rM t)) (ix2 r k))
      (k0_pay7 (F := Ideal) (View.ld (iblk m c 4 t) rE) (View.ld (iblk m c 2 t) (rM t)) (ix2 r k))
      (k0_pay8 (F := Ideal) (View.ld (iblk m c 4 t) rO) (View.ld (iblk m c 3 t) (rM t)) (ix2 r k))
      ((View.ld (iblk m c 5 t) rT0 : Vec Ideal S1x512x1024 .bf16) (ix3 0 r k)) ((View.ld (iblk m c 5 t) rT1 : Vec Ideal S1x512x1024 .bf16) (ix3 0 r k))
      ((View.ld (iblk m c 5 t) rT2 : Vec Ideal S1x512x1024 .bf16) (ix3 0 r k)) ((View.ld (iblk m c 5 t) rT3 : Vec Ideal S1x512x1024 .bf16) (ix3 0 r k))
      ((View.ld (iblk m c 6 t) rN0 : Vec Ideal S1x1024 .f32) (ix2 0 k)) ((View.ld (iblk m c 6 t) rN1 : Vec Ideal S1x1024 .f32) (ix2 0 k)) q.val
    = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix4 (batch t) q (row t r) k) := by
  rw [pc_at, qc_at, ps_at, qs_at, t0_at, t1_at, t2_at, t3_at, m0_at, m1_at]
  rfl

/-- The element of the array that element `y` of the block is, from the store's own index `x`. -/
theorem place (t : Fin cfg0.N) (y : S1x4x512x1024.Idx) (x : S1x1x512x1024.Idx) (q : Fin 4) (h1 : (y 1).val = q.val)
    (h2 : (y 2).val = (x 2).val) (h3 : (y 3).val = (x 3).val) :
    (ix4 (batch t) (y 1) (row t (y 2)) (y 3) : S4x4x1024x1024.Idx) = ix4 (batch t) q (row t (x 2)) (x 3) := by
  have e1 : y 1 = q := Fin.ext h1
  have e2 : y 2 = x 2 := Fin.ext h2
  have e3 : y 3 = x 3 := Fin.ext h3
  rw [e1, e2, e3]
  rfl

set_option maxHeartbeats 400000 in
/-- What grid point `t` leaves in the output block, at one element. -/
theorem point (c : Dev nD) (t : Fin cfg0.N) (y : S1x4x512x1024.Idx) :
    outsAt0 m c t y = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix4 (batch t) (y 1) (row t (y 2)) (y 3)) := by
  unfold outsAt0
  frame_out
  canon_tiles x h
  case piece0 =>
    have hy := place t y x 3 (by show (y 1).val = 3; omega) h2 h3
    rw [hy]
    idx_vars x
    exact (store3 (k0_pay5 (View.ld (iblk m c 4 t) rE) (View.ld (iblk m c 0 t) (rM t)))
      (k0_pay6 (View.ld (iblk m c 4 t) rO) (View.ld (iblk m c 1 t) (rM t))) (k0_pay7 (View.ld (iblk m c 4 t) rE) (View.ld (iblk m c 2 t) (rM t)))
      (k0_pay8 (View.ld (iblk m c 4 t) rO) (View.ld (iblk m c 3 t) (rM t))) (View.ld (iblk m c 5 t) rT0) (View.ld (iblk m c 5 t) rT1)
      (View.ld (iblk m c 5 t) rT2) (View.ld (iblk m c 5 t) rT3) (View.ld (iblk m c 6 t) rN0) (View.ld (iblk m c 6 t) rN1) t _ _ _ _).trans (value m c t _ _ 3)
  case piece1 =>
    have hy := place t y x 2 (by show (y 1).val = 2; omega) h2 h3
    rw [hy]
    idx_vars x
    exact (store2 (k0_pay5 (View.ld (iblk m c 4 t) rE) (View.ld (iblk m c 0 t) (rM t)))
      (k0_pay6 (View.ld (iblk m c 4 t) rO) (View.ld (iblk m c 1 t) (rM t))) (k0_pay7 (View.ld (iblk m c 4 t) rE) (View.ld (iblk m c 2 t) (rM t)))
      (k0_pay8 (View.ld (iblk m c 4 t) rO) (View.ld (iblk m c 3 t) (rM t))) (View.ld (iblk m c 5 t) rT0) (View.ld (iblk m c 5 t) rT1)
      (View.ld (iblk m c 5 t) rT2) (View.ld (iblk m c 5 t) rT3) (View.ld (iblk m c 6 t) rN0) (View.ld (iblk m c 6 t) rN1) t _ _ _ _).trans (value m c t _ _ 2)
  case piece2 =>
    have hy := place t y x 1 (by show (y 1).val = 1; omega) h2 h3
    rw [hy]
    idx_vars x
    exact (store1 (k0_pay5 (View.ld (iblk m c 4 t) rE) (View.ld (iblk m c 0 t) (rM t)))
      (k0_pay6 (View.ld (iblk m c 4 t) rO) (View.ld (iblk m c 1 t) (rM t))) (k0_pay7 (View.ld (iblk m c 4 t) rE) (View.ld (iblk m c 2 t) (rM t)))
      (k0_pay8 (View.ld (iblk m c 4 t) rO) (View.ld (iblk m c 3 t) (rM t))) (View.ld (iblk m c 5 t) rT0) (View.ld (iblk m c 5 t) rT1)
      (View.ld (iblk m c 5 t) rT2) (View.ld (iblk m c 5 t) rT3) (View.ld (iblk m c 6 t) rN0) (View.ld (iblk m c 6 t) rN1) t _ _ _ _).trans (value m c t _ _ 1)
  case piece3 =>
    have hy := place t y x 0 (by show (y 1).val = 0; omega) h2 h3
    rw [hy]
    idx_vars x
    exact (store0 (k0_pay5 (View.ld (iblk m c 4 t) rE) (View.ld (iblk m c 0 t) (rM t)))
      (k0_pay6 (View.ld (iblk m c 4 t) rO) (View.ld (iblk m c 1 t) (rM t))) (k0_pay7 (View.ld (iblk m c 4 t) rE) (View.ld (iblk m c 2 t) (rM t)))
      (k0_pay8 (View.ld (iblk m c 4 t) rO) (View.ld (iblk m c 3 t) (rM t))) (View.ld (iblk m c 5 t) rT0) (View.ld (iblk m c 5 t) rT1)
      (View.ld (iblk m c 5 t) rT2) (View.ld (iblk m c 5 t) rT3) (View.ld (iblk m c 6 t) rN0) (View.ld (iblk m c 6 t) rN1) t _ _ _ _).trans (value m c t _ _ 0)

/-- The array the kernel leaves is `G` of its arguments. -/
theorem final (c : Dev nD) : (dats m 0 c).arrAt 7 (cfgs 0).N = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t hf y => ?_
  blk_simp
  rw [after0_7]
  have he : ((cfg0.win 7).blk t).view.emb y = (ix4 (batch t) (y 1) (row t (y 2)) (y 3) : S4x4x1024x1024.Idx) := by
    blk_ext [idx t]
    all_goals rfl
  rw [he]
  exact point m c t y

end Cert.Proof.Fwd

end
-- ==== Proof.FwdClaims.lean ====
/- The claims about the forward transform of the long convolution (`Kernel`): each program runs and leaves its arguments alone, idealizing changes nothing,
   and over the extended reals the kernel's result is the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sine_rows_zero
public import proofs.«01_k».proof.Proof.FwdValue
public import Idealize.ShloMosaic.Lib.Claim
public import Idealize.ShloMosaic.Adequacy
public import Idealize.ShloMosaic.Init

@[expose] public section

set_option maxRecDepth 16384

noncomputable section

namespace Cert.Proof.Fwd

open Idealize.ShloMosaic Idealize.ShloMosaic.TcCoe Idealize.SL.Sem

/-- The bit-exact kernel runs, leaves its arguments unchanged and every counter at zero. -/
theorem frame_k : Cert.quiescent_Kernel := fun m ρ _ => Cert.Kernel.Gen.frame m ρ

/-- The idealized kernel runs, leaves its arguments unchanged and every counter at zero. -/
theorem frame_ki : Cert.quiescent_KernelIdeal := fun m ρ _ => Cert.KernelIdeal.Gen.frame m ρ

/-- The same from memories that satisfy the precondition. -/
theorem frame_ki_pre : Cert.quiescent_KernelIdeal_pre_sine_rows_zero := fun m ρ _ => Cert.KernelIdeal.Gen.frame m ρ

/-- The reference runs, leaves its arguments unchanged and every counter at zero: it declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from memories that satisfy the precondition. -/
theorem frame_ri_pre : Cert.quiescent_ReferenceIdeal_pre_sine_rows_zero := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Idealizing the kernel rewrites nothing. -/
theorem preserves : Cert.preserves_Kernel_KernelIdeal := trivial

/-- The kernel's result and the reference's are equal at every index, where the filter's spectrum is real at frequencies 0 and L. -/
theorem algebraic : Cert.algebraic_KernelIdeal_ReferenceIdeal_pre_sine_rows_zero := by
  pair_intro
  · run_from Cert.KernelIdeal.Gen.run_main m g
  · run_from Cert.ReferenceIdeal.Value.run m' g'
    obtain ⟨h0, h1, h2, h3, h4, h5, h6⟩ := hagree c
    have hz := pre _ _ _ _ _ _ _ (hpre c)
    rw [← h5] at hz
    refine (ref m' c hz).trans ?_
    rw [h0, h1, h2, h3, h4, h5, h6]
    exact (final m c).symm

end Cert.Proof.Fwd

end
-- ==== Proof.InValue.lean ====
/- The input projection (`KernelIn`): the array the kernel leaves and the array the reference computes are one function of
   the arguments. -/
module

public import proofs.«01_k».proof.Proof.Gen.KernelInIdeal.Value
public import proofs.«01_k».proof.Proof.Gen.ReferenceInIdeal.Run
public import proofs.«01_k».proof.Proof.RmsNorm
public import proofs.«01_k».proof.Proof.Reads

@[expose] public section

set_option maxRecDepth 16384

noncomputable section

namespace Cert.Proof.In

open Cert.KernelInIdeal Cert.KernelInIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`: four column blocks per row block. -/
theorem idx : ∀ t : Fin cfg0.N,
    win0_0.index t = ![t.val / 4, 0] ∧ win0_1.index t = ![0, 0] ∧ win0_2.index t = ![0, t.val % 4] ∧
    win0_3.index t = ![0, t.val % 4] ∧ win0_4.index t = ![t.val / 4, t.val % 4] :=
  (by decide +kernel : ∀ t : Fin grid0.N, _)

/-- The normalised row `i`, channel `k`. -/
def nrm (x : FVec Ideal S8192x2048 .f32) (g : FVec Ideal S1x2048 .f32) (i : Fin 8192) (k : Fin 2048) : EReal :=
  x (ix2 i k) * rmsFactor (fun k => x (ix2 i k)) * g (ix2 0 k)

/-- The result: the normalised rows against the weights, whose upper and lower 1024 rows are two arguments. -/
def G (x : FVec Ideal S8192x2048 .f32) (g : FVec Ideal S1x2048 .f32) (wa wb : FVec Ideal S1024x9216 .bf16) :
    FVec Ideal S8192x9216 .bf16 := fun y =>
  ∑ k : Fin 1024, nrm x g (y 0) ⟨k.val, by omega⟩ * wa (ix2 k (y 1))
  + ∑ k : Fin 1024, nrm x g (y 0) ⟨1024 + k.val, by omega⟩ * wb (ix2 k (y 1))

/-- The reference's composed term: the normalised rows against the stacked weights. -/
abbrev REF (x : FVec Ideal S8192x2048 .f32) (g : FVec Ideal S1x2048 .f32) (wa wb : FVec Ideal S1024x9216 .bf16) :
    FVec Ideal S8192x9216 .bf16 :=
  truncf .bf16 (Host.dotGeneral Cert.ReferenceInIdeal.dot_S8192x2048_S2048x9216_S8192x9216_1_0_0_1_n_n none
    (mulf (mulf x (broadcastInDim Cert.ReferenceInIdeal.S8192x2048 ![0, 1] Cert.ReferenceInIdeal.Gen.bcast_S8192x1_S8192x2048_0_1
      (Host.rsqrt (addf (Host.divf (broadcastInDim Cert.ReferenceInIdeal.S8192x1 ![0] Cert.ReferenceInIdeal.Gen.bcast_S8192_S8192x1_0
          (Host.reduceAdd (mulf x x) (constant Cert.ReferenceInIdeal.S_ .f32 0x00000000#32)
            Cert.ReferenceInIdeal.Gen.reducesTo_S8192x2048_S8192_d1 Cert.ReferenceInIdeal.Gen.h_S_))
          (broadcastInDim Cert.ReferenceInIdeal.S8192x1 ![] Cert.ReferenceInIdeal.Gen.bcast_S_S8192x1
            (constant Cert.ReferenceInIdeal.S_ .f32 0x45000000#32)))
        (broadcastInDim Cert.ReferenceInIdeal.S8192x1 ![] Cert.ReferenceInIdeal.Gen.bcast_S_S8192x1
          (constant Cert.ReferenceInIdeal.S_ .f32 0x358637BD#32))))))
      (broadcastInDim Cert.ReferenceInIdeal.S8192x2048 ![0, 1] Cert.ReferenceInIdeal.Gen.bcast_S1x2048_S8192x2048_0_1 g))
    (extf .f32 (concatenate Cert.ReferenceInIdeal.S2048x9216 0 [⟨Cert.ReferenceInIdeal.S1024x9216, wa⟩, ⟨Cert.ReferenceInIdeal.S1024x9216, wb⟩]
      Cert.ReferenceInIdeal.Gen.concatenates_S1024x9216_S1024x9216_S2048x9216_d0) Cert.ReferenceInIdeal.Gen.bitsLt_bf16_f32))
    Cert.ReferenceInIdeal.Gen.bitsLt_bf16_f32

/-- The reference's composed term is `G` of its arguments. -/
theorem ref (x : FVec Ideal S8192x2048 .f32) (g : FVec Ideal S1x2048 .f32) (wa wb : FVec Ideal S1024x9216 .bf16) :
    REF x g wa wb = G x g wa wb := by
  funext y
  idx_vars y
  pointwise [REF, G, nrm, rmsFactor]

/-- The left 1024 columns of the scratch. -/
abbrev lo : Rect S1024x2048 := Rect.unit (s := S1024x2048) ![0, 0] S1024x1024.size inb_S1024x2048_S1024x1024_0_0
/-- The right 1024 columns of the scratch. -/
abbrev hi : Rect S1024x2048 := Rect.unit (s := S1024x2048) ![0, 1024] S1024x1024.size inb_S1024x2048_S1024x1024_0_1024

/-- What a reset point leaves: the scratch at the normalised block and the output at its projection. -/
theorem at_A (c : Dev nD) (t : Fin cfg0.N) (h0 : t.val % 4 = 0) :
    outsAt0 m c t.val t.isLt =
      (k0_pay2 (View.ld (k0_pay1 (iblk m c 0 t) (iblk m c 1 t)) lo)
          (iblk m c 2 t)
          (View.ld (k0_pay1 (iblk m c 0 t) (iblk m c 1 t)) hi)
          (iblk m c 3 t),
       k0_pay1 (iblk m c 0 t) (iblk m c 1 t)) := by
  rw [outsAt0_A m c t h0]
  frame_out
  simp (disch := decide) only [readCov_whole]

/-- What any other point leaves: the scratch as the point before left it and the output at its projection. -/
theorem at_B (c : Dev nD) (t : Fin cfg0.N) (h0 : ¬ t.val % 4 = 0) (s : FVec Ideal S1024x2048 .bf16)
    (hs : (outsAt0 m c (t.val - 1) (Nat.lt_of_le_of_lt (Nat.sub_le _ _) t.isLt)).2 = s) :
    outsAt0 m c t.val t.isLt =
      (k0_pay2 (View.ld s lo) (iblk m c 2 t)
          (View.ld s hi) (iblk m c 3 t), s) := by
  rw [outsAt0_B m c t h0]
  frame_out
  rw [read_unread_whole, hs]
  rfl

/-- The array row that row `r` of grid point `n`'s blocks is. -/
def arow (n : ℕ) (hn : n < cfg0.N) (r : Fin 1024) : Fin 8192 := ⟨n / 4 * 1024 + r.val, by
  have h : n < 32 := N_0 ▸ hn
  omega⟩

/-- The normalised block as the body computes it at a reset point. -/
theorem pay1_at (c : Dev nD) (t : Fin cfg0.N) (r : Fin 1024) (k : Fin 2048) :
    k0_pay1 (iblk m c 0 t) (iblk m c 1 t) (ix2 r k)
      = nrm (m ((c : Thread nD τ).loc main_arg0)) (m ((c : Thread nD τ).loc main_arg1)) (arow t.val t.isLt r) k := by
  pointwise [k0_pay1, nrm, rmsFactor]
  blk_point [iblk, V, idx t]
  all_goals rfl

/-- After every point the scratch holds the normalised rows of the point's row block. -/
theorem scratch (c : Dev nD) (n : ℕ) : ∀ (hn : n < cfg0.N) (r : Fin 1024) (k : Fin 2048),
    (outsAt0 m c n hn).2 (ix2 r k)
      = nrm (m ((c : Thread nD τ).loc main_arg0)) (m ((c : Thread nD τ).loc main_arg1)) (arow n hn r) k := by
  induction n with
  | zero =>
    intro hn r k
    rw [at_A m c ⟨0, hn⟩ rfl]
    exact pay1_at m c ⟨0, hn⟩ r k
  | succ n ih =>
    intro hn r k
    by_cases h0 : (n + 1) % 4 = 0
    · rw [at_A m c ⟨n + 1, hn⟩ h0]
      exact pay1_at m c ⟨n + 1, hn⟩ r k
    · rw [at_B m c ⟨n + 1, hn⟩ h0 _ rfl]
      refine (ih (Nat.lt_of_succ_lt hn) r k).trans (congrArg (fun i => nrm _ _ i k) (Fin.ext ?_))
      show n / 4 * 1024 + r.val = (n + 1) / 4 * 1024 + r.val
      omega

/-- At every point the output block is the projection of the scratch the point leaves. -/
theorem out_eq (c : Dev nD) (t : Fin cfg0.N) :
    (outsAt0 m c t.val t.isLt).1 =
      k0_pay2 (View.ld (outsAt0 m c t.val t.isLt).2 lo) (iblk m c 2 t)
          (View.ld (outsAt0 m c t.val t.isLt).2 hi) (iblk m c 3 t) := by
  by_cases h0 : t.val % 4 = 0
  · rw [at_A m c t h0]
  · rw [at_B m c t h0 _ rfl]

/-- The projection of a block whose rows are known, at grid point `t`. -/
theorem point (c : Dev nD) (t : Fin cfg0.N) (s : FVec Ideal S1024x2048 .bf16)
    (hs : ∀ r k, s (ix2 r k) = nrm (m ((c : Thread nD τ).loc main_arg0)) (m ((c : Thread nD τ).loc main_arg1)) (arow t.val t.isLt r) k)
    (y : S1024x2304.Idx) :
    k0_pay2 (View.ld s lo) (iblk m c 2 t)
          (View.ld s hi) (iblk m c 3 t) y
      = G (m ((c : Thread nD τ).loc main_arg0)) (m ((c : Thread nD τ).loc main_arg1)) (m ((c : Thread nD τ).loc main_arg2))
          (m ((c : Thread nD τ).loc main_arg3)) (((cfg0.win 4).blk t).view.emb y) := by
  idx_vars y
  have he : ((cfg0.win 4).blk t).view.emb (ix2 y0 y1)
      = (ix2 (arow t.val t.isLt y0) ⟨t.val % 4 * 2304 + y1.val, by omega⟩ : S8192x9216.Idx) := by
    blk_ext [idx t]
    all_goals rfl
  rw [he]
  unfold G
  pointwise [k0_pay2]
  simp only [hs]
  blk_point [iblk, V, idx t]
  all_goals rfl

/-- The array after the run is `G` of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, out_eq]
  exact point m c t _ (scratch m c t.val t.isLt) y

end Cert.Proof.In

end
-- ==== Proof.InClaims.lean ====
/- The claims about the normalised input projection (`KernelIn`): each program runs and leaves its arguments alone, idealizing changes nothing,
   and over the extended reals the kernel's result is the reference's. -/
module

public import proofs.«01_k».proof.Defs
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.InValue
public import Idealize.ShloMosaic.Lib.Claim
public import Idealize.ShloMosaic.Adequacy
public import Idealize.ShloMosaic.Init

@[expose] public section

set_option maxRecDepth 16384

noncomputable section

namespace Cert.Proof.In

open Idealize.ShloMosaic Idealize.ShloMosaic.TcCoe Idealize.SL.Sem

/-- The bit-exact kernel runs, leaves its arguments unchanged and every counter at zero. -/
theorem frame_k : Cert.quiescent_KernelIn := fun m ρ _ => Cert.KernelIn.Gen.frame m ρ

/-- The idealized kernel runs, leaves its arguments unchanged and every counter at zero. -/
theorem frame_ki : Cert.quiescent_KernelInIdeal := fun m ρ _ => Cert.KernelInIdeal.Gen.frame m ρ

/-- The reference runs, leaves its arguments unchanged and every counter at zero: it declares no semaphore. -/
theorem frame_ri : Cert.quiescent_ReferenceInIdeal := fun m ρ _ =>
  (θ_run Cert.ReferenceInIdeal.defs _ _).mono
    (fun r h => ⟨fun c => (h c).2, Idealize.ShloMosaic.sem_eq_zero_of_no_sems (by decide) r.2⟩)
    (Cert.ReferenceInIdeal.Value.run (F := Ideal) m ρ)

/-- Idealizing the kernel rewrites nothing. -/
theorem preserves : Cert.preserves_KernelIn_KernelInIdeal := trivial

/-- The kernel's result and the reference's are equal at every index, from any arguments. -/
theorem algebraic : Cert.algebraic_KernelInIdeal_ReferenceInIdeal := by
  pair_intro
  · run_from Cert.KernelInIdeal.Gen.run_main m g
  · run_from Cert.ReferenceInIdeal.Value.run m' g'
    obtain ⟨h0, h1, h2, h3⟩ := hagree c
    refine Eq.trans (b := REF (m (c.tc.loc Cert.KernelInIdeal.main_arg0)) (m (c.tc.loc Cert.KernelInIdeal.main_arg1))
      (m' (c.tc.loc Cert.ReferenceInIdeal.main_arg2)) (m' (c.tc.loc Cert.ReferenceInIdeal.main_arg3))) rfl ?_
    rw [h2, h3]
    exact (ref _ _ _ _).trans (final m c).symm

end Cert.Proof.In

end
-- ==== Proof.InvRef.lean ====
/- The inverse transform of the second long convolution (`KernelInv`), its skip and its gate, in natural order: the array the
   kernel leaves and the array the reference computes are one function of the arguments. -/
module

public import proofs.«01_k».proof.Proof.Gen.ReferenceInvIdeal.Run
public import Idealize.ShloMosaic.Lib.Pipeline.ValueKit

@[expose] public section

set_option maxRecDepth 16384

noncomputable section

namespace Cert.Proof.Inv

open Cert.ReferenceInvIdeal Cert.ReferenceInvIdeal.Gen
open Cert.ReferenceInvIdeal.Facts
open Idealize.ShloMosaic Idealize.ShloMosaic.TcCoe Idealize.SL.Sem

/-- Even positions before odd ones, put in natural order. -/
def NAT (a : FVec Ideal S4x2x1024x1024 .f32) : FVec Ideal S4x2048x1024 .f32 :=
  shapeCast _ (transpose S4x1024x2x1024 [0, 2, 1, 3] a transposes_S4x2x1024x1024_S4x1024x2x1024_0_2_1_3) shapeCasts_S4x1024x2x1024_S4x2048x1024

/-- Position `l` in natural order is half-position `l / 2` of parity `l % 2`. -/
theorem NAT_at (a : FVec Ideal S4x2x1024x1024 .f32) (b : Fin 4) (l : Fin 2048) (c : Fin 1024) :
    NAT a (ix3 b l c) = a (ix4 b ⟨l.val % 2, by omega⟩ ⟨l.val / 2, by omega⟩ c) := by
  pointwise [NAT]

/-- One parity's inverse transform: the two matrices side by side against the two planes one under the other. -/
def IDFT (p q : Fin 4 → ℕ) (hp : S4x4x1024x1024.Slices p S4x1x1024x1024) (hq : S4x4x1024x1024.Slices q S4x1x1024x1024)
    (a b : FVec Ideal S1024x1024 .bf16) (w : FVec Ideal S4x4x1024x1024 .bf16) : FVec Ideal S4x1024x1024 .f32 :=
  transpose S4x1024x1024 [0, 2, 1] (Host.dotGeneral dot_S4x2048x1024_S1024x2048_S4x1024x1024_1_1_02_0_n_n none
    (concatenate S4x2048x1024 1 [⟨S4x1024x1024, (shapeCast _ (extractStridedSlice S4x1x1024x1024 p (extf .f32 w bitsLt_bf16_f32) hp) shapeCasts_S4x1x1024x1024_S4x1024x1024)⟩,
      ⟨S4x1024x1024, (shapeCast _ (extractStridedSlice S4x1x1024x1024 q (extf .f32 w bitsLt_bf16_f32) hq) shapeCasts_S4x1x1024x1024_S4x1024x1024)⟩]
      concatenates_S4x1024x1024_S4x1024x1024_S4x2048x1024_d1)
    (extf .f32 (concatenate S1024x2048 1 [⟨S1024x1024, a⟩, ⟨S1024x1024, b⟩] concatenates_S1024x1024_S1024x1024_S1024x2048_d1) bitsLt_bf16_f32))
    transposes_S4x1024x1024_S4x1024x1024_0_2_1

/-- One half-position of one parity: `Σ a n k · w p k + Σ b n k · w q k`. -/
def plane (a b : FVec Ideal S1024x1024 .bf16) (w : FVec Ideal S4x4x1024x1024 .bf16) (b4 : Fin 4) (p q : Fin 4) (n c : Fin 1024) : EReal :=
  (∑ k : Fin 1024, a (ix2 n k) * w (ix4 b4 p k c)) + ∑ k : Fin 1024, b (ix2 n k) * w (ix4 b4 q k c)

/-- `plane` with its products written the other way round. -/
theorem plane_comm (a b : FVec Ideal S1024x1024 .bf16) (w : FVec Ideal S4x4x1024x1024 .bf16) (b4 : Fin 4) (p q : Fin 4) (n c : Fin 1024) :
    (∑ k : Fin 1024, w (ix4 b4 p k c) * a (ix2 n k)) + (∑ k : Fin 1024, w (ix4 b4 q k c) * b (ix2 n k)) = plane a b w b4 p q n c :=
  congrArg₂ (· + ·) (Finset.sum_congr rfl fun k _ => mul_comm _ _) (Finset.sum_congr rfl fun k _ => mul_comm _ _)

/-- The even positions' transform at one element. -/
theorem even_at (a b : FVec Ideal S1024x1024 .bf16) (w : FVec Ideal S4x4x1024x1024 .bf16) (b4 : Fin 4) (n c : Fin 1024) :
    IDFT _ _ slices_S4x4x1024x1024_S4x1x1024x1024_0_0_0_0 slices_S4x4x1024x1024_S4x1x1024x1024_0_2_0_0 a b w (ix3 b4 n c) = plane a b w b4 0 2 n c := by
  refine Eq.trans ?_ (plane_comm a b w b4 0 2 n c)
  pointwise [IDFT]

/-- The odd positions' transform at one element. -/
theorem odd_at (a b : FVec Ideal S1024x1024 .bf16) (w : FVec Ideal S4x4x1024x1024 .bf16) (b4 : Fin 4) (n c : Fin 1024) :
    IDFT _ _ slices_S4x4x1024x1024_S4x1x1024x1024_0_1_0_0 slices_S4x4x1024x1024_S4x1x1024x1024_0_3_0_0 a b w (ix3 b4 n c) = plane a b w b4 1 3 n c := by
  refine Eq.trans ?_ (plane_comm a b w b4 1 3 n c)
  pointwise [IDFT]

/-- The two parities stacked. -/
def STACK (e o : FVec Ideal S4x1024x1024 .f32) : FVec Ideal S4x2x1024x1024 .f32 :=
  concatenate S4x2x1024x1024 1 [⟨S4x1x1024x1024, (broadcastInDim S4x1x1024x1024 ![0, 2, 3] bcast_S4x1024x1024_S4x1x1024x1024_0_2_3 e)⟩,
    ⟨S4x1x1024x1024, (broadcastInDim S4x1x1024x1024 ![0, 2, 3] bcast_S4x1024x1024_S4x1x1024x1024_0_2_3 o)⟩]
    concatenates_S4x1x1024x1024_S4x1x1024x1024_S4x2x1024x1024_d1

/-- The stack at one element. -/
theorem STACK_at (e o : FVec Ideal S4x1024x1024 .f32) (b : Fin 4) (p : Fin 2) (n c : Fin 1024) :
    STACK e o (ix4 b p n c) = if p.val = 0 then e (ix3 b n c) else o (ix3 b n c) := by
  pointwise [STACK]
  by_cases h : p.val = 0
  · rw [dif_pos (by omega), if_pos h]
  · rw [dif_neg (by omega), if_neg h]

/-- The bias's second row, everywhere. -/
def BIAS (bias : FVec Ideal S2x1024 .f32) : FVec Ideal S4x2048x1024 .f32 :=
  broadcastInDim S4x2048x1024 ![0, 1, 2] bcast_S1x1x1024_S4x2048x1024_0_1_2 (broadcastInDim S1x1x1024 ![2] bcast_S1024_S1x1x1024_2
    (shapeCast _ (extractStridedSlice S1x1024 ![1, 0] bias slices_S2x1024_S1x1024_1_0) shapeCasts_S1x1024_S1024))

/-- The bias at one element. -/
theorem BIAS_at (bias : FVec Ideal S2x1024 .f32) (b : Fin 4) (l : Fin 2048) (c : Fin 1024) : BIAS bias (ix3 b l c) = bias (ix2 1 c) := by
  pointwise [BIAS]

/-- The reference's result term. -/
def REF (ce se co so : FVec Ideal S1024x1024 .bf16) (w : FVec Ideal S4x4x1024x1024 .bf16) (g : FVec Ideal S4x2x1024x3072 .bf16)
    (z : FVec Ideal S4x2x1024x1024 .bf16) (bias : FVec Ideal S2x1024 .f32) : FVec Ideal S4x2048x1024 .bf16 :=
  truncf .bf16 (mulf (NAT (extf .f32 (extractStridedSlice S4x2x1024x1024 ![0, 0, 0, 2048] g slices_S4x2x1024x3072_S4x2x1024x1024_0_0_0_2048) bitsLt_bf16_f32))
    (addf (NAT (STACK (IDFT _ _ slices_S4x4x1024x1024_S4x1x1024x1024_0_0_0_0 slices_S4x4x1024x1024_S4x1x1024x1024_0_2_0_0 ce se w)
        (IDFT _ _ slices_S4x4x1024x1024_S4x1x1024x1024_0_1_0_0 slices_S4x4x1024x1024_S4x1x1024x1024_0_3_0_0 co so w)))
      (mulf (NAT (extf .f32 z bitsLt_bf16_f32)) (BIAS bias)))) bitsLt_bf16_f32

/-- The gated output at half-position `n` of parity `p`. -/
def gated (ce se co so : FVec Ideal S1024x1024 .bf16) (w : FVec Ideal S4x4x1024x1024 .bf16) (g : FVec Ideal S4x2x1024x3072 .bf16)
    (z : FVec Ideal S4x2x1024x1024 .bf16) (bias : FVec Ideal S2x1024 .f32) (b : Fin 4) (p : Fin 2) (n c : Fin 1024) : EReal :=
  g (ix4 b p n ⟨2048 + c.val, by omega⟩) *
    ((if p.val = 0 then plane ce se w b 0 2 n c else plane co so w b 1 3 n c) + z (ix4 b p n c) * bias (ix2 1 c))

/-- The result: position `l` is half-position `l / 2` of parity `l % 2`. -/
def G (ce se co so : FVec Ideal S1024x1024 .bf16) (w : FVec Ideal S4x4x1024x1024 .bf16) (g : FVec Ideal S4x2x1024x3072 .bf16)
    (z : FVec Ideal S4x2x1024x1024 .bf16) (bias : FVec Ideal S2x1024 .f32) : FVec Ideal S4x2048x1024 .bf16 := fun y =>
  gated ce se co so w g z bias (y 0) ⟨(y 1).val % 2, by omega⟩ ⟨(y 1).val / 2, by have : (y 1).val < 2048 := (y 1).isLt; omega⟩ (y 2)

/-- The reference's result is `G` of the arguments. -/
theorem ref (ce se co so : FVec Ideal S1024x1024 .bf16) (w : FVec Ideal S4x4x1024x1024 .bf16) (g : FVec Ideal S4x2x1024x3072 .bf16)
    (z : FVec Ideal S4x2x1024x1024 .bf16) (bias : FVec Ideal S2x1024 .f32) : REF ce se co so w g z bias = G ce se co so w g z bias := by
  funext y
  idx_vars y
  pointwise [REF, G, gated, NAT_at, STACK_at, BIAS_at]
  all_goals simp only [even_at, odd_at]

end Cert.Proof.Inv

end
-- ==== Proof.InvScratch.lean ====
/- What the inverse transform's scratch holds when it is read: the sixteen strided stores interleave the two parities, so a read of
   one lane group, all its rows, holds the two parities' rows in turn. -/
module

public import proofs.«01_k».proof.Proof.Gen.KernelInvIdeal.Value
public import Idealize.ShloMosaic.Lib.Pipeline.ValueKit
public import Idealize.ShloMosaic.Lib.Pipeline.StridedRows

@[expose] public section

set_option maxRecDepth 16384

noncomputable section

namespace Cert.Proof.Inv

open Cert.KernelInvIdeal Cert.KernelInvIdeal.Gen
open Idealize.ShloMosaic Idealize.ShloMosaic.TcCoe Idealize.SL.Sem
open Idealize.ShloMosaic.StridedRows

variable (Z : Fin 2 → Fin 512 → Fin 1024 → EReal)

/-- The value meant for row `n` of parity `p` in lane group `s`, lane `l`. -/
def lane (s : Fin 8) (p : Fin 2) (n : Fin 512) (l : Fin 128) : EReal := Z p n ⟨s.val * 128 + l.val, by omega⟩

/-- The scratch as one function of its index. -/
def held (y : S8x1024x128.Idx) : EReal := planeValue (Val := Elt Ideal) (e := .f32) (C := 8) (N := 512) (DP := 2) (D := 2) (L := 128) (lane Z) y

/-- A strided store whose payload is parity `p` of lane group `s` agrees with `held` where it stores. -/
theorem row_good (s : Fin 8) (p : Fin 2) (w : FVec Ideal S1x512x128 .f32) (hw : ∀ (r : Fin 512) (l : Fin 128), w (ix3 0 r l) = lane Z s p r l)
    (x : S1x512x128.Idx) : w x = held Z ((rowRect (C := 8) (N := 512) (DP := 2) (D := 2) (L := 128) (le_refl 2) s p).emb x) :=
  rowRect_payload_eq_planeValue (Val := Elt Ideal) (e := .f32) (C := 8) (N := 512) (DP := 2) (D := 2) (L := 128) (lane Z) (le_refl 2) s p w
    (fun x => by
      have : x = ix3 0 (x 1) (x 2) := by
        idx_vars x
        exact congrArg (fun a => ix3 a _ _) (Subsingleton.elim _ _)
      exact (congrArg w this).trans (hw _ _)) x

/-- The scratch's stores, newest first, their payloads functions of the values the kernel computed before them. -/
abbrev pieces (v12 v23 : FVec Ideal S512x1024 .f32) (v24 : Vec Ideal S1x1024 .f32) (v26 : FVec Ideal S512x1024 .bf16)
    (v28 v35 v38 : Vec Ideal S1x1x512x1024 .bf16) : List (View.Piece (Elt Ideal) S8x1024x128 .f32) :=
  [⟨⟨⟨![7, 1, 0], S1x512x128.size, ![1, 2, 1], inb_S8x1024x128_S1x512x128_7_1_0_s_1_2_1⟩, spos_1_2_1⟩, k0_pay25 (k0_pay7 v23 v24 v35 v38)⟩,
    ⟨⟨⟨![7, 0, 0], S1x512x128.size, ![1, 2, 1], inb_S8x1024x128_S1x512x128_7_0_0_s_1_2_1⟩, spos_1_2_1⟩, k0_pay24 (k0_pay6 v12 v24 v26 v28)⟩,
    ⟨⟨⟨![6, 1, 0], S1x512x128.size, ![1, 2, 1], inb_S8x1024x128_S1x512x128_6_1_0_s_1_2_1⟩, spos_1_2_1⟩, k0_pay23 (k0_pay7 v23 v24 v35 v38)⟩,
    ⟨⟨⟨![6, 0, 0], S1x512x128.size, ![1, 2, 1], inb_S8x1024x128_S1x512x128_6_0_0_s_1_2_1⟩, spos_1_2_1⟩, k0_pay22 (k0_pay6 v12 v24 v26 v28)⟩,
    ⟨⟨⟨![5, 1, 0], S1x512x128.size, ![1, 2, 1], inb_S8x1024x128_S1x512x128_5_1_0_s_1_2_1⟩, spos_1_2_1⟩, k0_pay21 (k0_pay20 (k0_pay7 v23 v24 v35 v38))⟩,
    ⟨⟨⟨![5, 0, 0], S1x512x128.size, ![1, 2, 1], inb_S8x1024x128_S1x512x128_5_0_0_s_1_2_1⟩, spos_1_2_1⟩, k0_pay19 (k0_pay6 v12 v24 v26 v28)⟩,
    ⟨⟨⟨![4, 1, 0], S1x512x128.size, ![1, 2, 1], inb_S8x1024x128_S1x512x128_4_1_0_s_1_2_1⟩, spos_1_2_1⟩, k0_pay18 (k0_pay7 v23 v24 v35 v38)⟩,
    ⟨⟨⟨![4, 0, 0], S1x512x128.size, ![1, 2, 1], inb_S8x1024x128_S1x512x128_4_0_0_s_1_2_1⟩, spos_1_2_1⟩, k0_pay17 (k0_pay6 v12 v24 v26 v28)⟩,
    ⟨⟨⟨![3, 1, 0], S1x512x128.size, ![1, 2, 1], inb_S8x1024x128_S1x512x128_3_1_0_s_1_2_1⟩, spos_1_2_1⟩, k0_pay16 (k0_pay7 v23 v24 v35 v38)⟩,
    ⟨⟨⟨![3, 0, 0], S1x512x128.size, ![1, 2, 1], inb_S8x1024x128_S1x512x128_3_0_0_s_1_2_1⟩, spos_1_2_1⟩, k0_pay15 (k0_pay6 v12 v24 v26 v28)⟩,
    ⟨⟨⟨![2, 1, 0], S1x512x128.size, ![1, 2, 1], inb_S8x1024x128_S1x512x128_2_1_0_s_1_2_1⟩, spos_1_2_1⟩, k0_pay14 (k0_pay7 v23 v24 v35 v38)⟩,
    ⟨⟨⟨![2, 0, 0], S1x512x128.size, ![1, 2, 1], inb_S8x1024x128_S1x512x128_2_0_0_s_1_2_1⟩, spos_1_2_1⟩, k0_pay13 (k0_pay6 v12 v24 v26 v28)⟩,
    ⟨⟨⟨![1, 1, 0], S1x512x128.size, ![1, 2, 1], inb_S8x1024x128_S1x512x128_1_1_0_s_1_2_1⟩, spos_1_2_1⟩, k0_pay12 (k0_pay11 v23 v24 v35 v38)⟩,
    ⟨⟨⟨![1, 0, 0], S1x512x128.size, ![1, 2, 1], inb_S8x1024x128_S1x512x128_1_0_0_s_1_2_1⟩, spos_1_2_1⟩, k0_pay10 v12 v24 v26 v28⟩,
    ⟨⟨⟨![0, 1, 0], S1x512x128.size, ![1, 2, 1], inb_S8x1024x128_S1x512x128_0_1_0_s_1_2_1⟩, spos_1_2_1⟩, k0_pay9 v23 v24 v35 v38⟩,
    ⟨⟨⟨![0, 0, 0], S1x512x128.size, ![1, 2, 1], inb_S8x1024x128_S1x512x128_0_0_0_s_1_2_1⟩, spos_1_2_1⟩, k0_pay8 v12 v24 v26 v28⟩]

variable (v12 v23 : FVec Ideal S512x1024 .f32) (v24 : Vec Ideal S1x1024 .f32) (v26 : FVec Ideal S512x1024 .bf16)
  (v28 v35 v38 : Vec Ideal S1x1x512x1024 .bf16)

/-- Every store agrees with `held`, the two parities' values given. -/
theorem pieces_good (h0 : ∀ r k, k0_pay6 v12 v24 v26 v28 (ix2 r k) = Z 0 r k) (h1 : ∀ r k, k0_pay7 v23 v24 v35 v38 (ix2 r k) = Z 1 r k) :
    ∀ p ∈ pieces v12 v23 v24 v26 v28 v35 v38, ∀ x : p.1.shape.Idx, p.2 x = held Z (p.1.emb x) := by
  refine List.forall_mem_cons.2 ⟨row_good Z 7 1 _ (fun r l => by pointwise [k0_pay25]; exact h1 r _), ?_⟩
  refine List.forall_mem_cons.2 ⟨row_good Z 7 0 _ (fun r l => by pointwise [k0_pay24]; exact h0 r _), ?_⟩
  refine List.forall_mem_cons.2 ⟨row_good Z 6 1 _ (fun r l => by pointwise [k0_pay23]; exact h1 r _), ?_⟩
  refine List.forall_mem_cons.2 ⟨row_good Z 6 0 _ (fun r l => by pointwise [k0_pay22]; exact h0 r _), ?_⟩
  refine List.forall_mem_cons.2 ⟨row_good Z 5 1 _ (fun r l => by pointwise [k0_pay21, k0_pay20]; exact h1 r _), ?_⟩
  refine List.forall_mem_cons.2 ⟨row_good Z 5 0 _ (fun r l => by pointwise [k0_pay19]; exact h0 r _), ?_⟩
  refine List.forall_mem_cons.2 ⟨row_good Z 4 1 _ (fun r l => by pointwise [k0_pay18]; exact h1 r _), ?_⟩
  refine List.forall_mem_cons.2 ⟨row_good Z 4 0 _ (fun r l => by pointwise [k0_pay17]; exact h0 r _), ?_⟩
  refine List.forall_mem_cons.2 ⟨row_good Z 3 1 _ (fun r l => by pointwise [k0_pay16]; exact h1 r _), ?_⟩
  refine List.forall_mem_cons.2 ⟨row_good Z 3 0 _ (fun r l => by pointwise [k0_pay15]; exact h0 r _), ?_⟩
  refine List.forall_mem_cons.2 ⟨row_good Z 2 1 _ (fun r l => by pointwise [k0_pay14]; exact h1 r _), ?_⟩
  refine List.forall_mem_cons.2 ⟨row_good Z 2 0 _ (fun r l => by pointwise [k0_pay13]; exact h0 r _), ?_⟩
  refine List.forall_mem_cons.2 ⟨row_good Z 1 1 _ (fun r l => by pointwise [k0_pay12, k0_pay11]; exact h1 r _), ?_⟩
  refine List.forall_mem_cons.2 ⟨row_good Z 1 0 _ (fun r l => by pointwise [k0_pay10]; exact h0 r _), ?_⟩
  refine List.forall_mem_cons.2 ⟨row_good Z 0 1 _ (fun r l => by
    pointwise [k0_pay9]
    exact (h1 r _).trans (congrArg (Z 1 r) (Fin.ext (show l.val = 0 * 128 + l.val by omega)))), ?_⟩
  refine List.forall_mem_cons.2 ⟨row_good Z 0 0 _ (fun r l => by
    pointwise [k0_pay8]
    exact (h0 r _).trans (congrArg (Z 0 r) (Fin.ext (show l.val = 0 * 128 + l.val by omega)))), ?_⟩
  intro p hp
  exact absurd hp (List.not_mem_nil)

/-- Where a whole lane group's read stands in the scratch. -/
theorem held_at (s : Fin 8) (y : S8x1024x128.Idx) (n : Fin 1024) (l : Fin 128) (h0 : (y 0).val = s.val) (h1 : (y 1).val = n.val)
    (h2 : (y 2).val = l.val) : held Z y = lane Z s ⟨n.val % 2, by omega⟩ ⟨n.val / 2, by omega⟩ l := by
  have e0 : y 0 = s := Fin.ext h0
  have e2 : y 2 = l := Fin.ext h2
  have hP : (y 1).val % 2 < 2 ∧ (y 1).val / 2 < 512 := ⟨by omega, by omega⟩
  unfold held planeValue
  rw [dif_pos hP, e0, e2]
  congr 1
  · exact Fin.ext (by show (y 1).val % 2 = _; rw [h1])
  · exact Fin.ext (by show (y 1).val / 2 = _; rw [h1])

/-- An element of lane group `s` lies in the store of its parity. -/
theorem mem_row (s : Fin 8) (y : S8x1024x128.Idx) (p : Fin 2) (h0 : (y 0).val = s.val) (h1 : (y 1).val % 2 = p.val) :
    y ∈ (rowRect (C := 8) (N := 512) (DP := 2) (D := 2) (L := 128) (le_refl 2) s p).set := by
  have b1 : (y 1).val < 1024 := (y 1).isLt
  have b2 : (y 2).val < 128 := (y 2).isLt
  rw [LoadRect.mem_set]
  intro a
  match a with
  | ⟨0, _⟩ => exact ⟨0, Nat.one_pos, show (y 0).val = s.val + 1 * 0 by omega⟩
  | ⟨1, _⟩ => exact ⟨(y 1).val / 2, show (y 1).val / 2 < 512 by omega, show (y 1).val = p.val + 2 * ((y 1).val / 2) by omega⟩
  | ⟨2, _⟩ => exact ⟨(y 2).val, b2, show (y 2).val = 0 + 1 * (y 2).val by omega⟩

/-- Every element of the scratch is stored. -/
theorem pieces_cover (s : Fin 8) (y : S8x1024x128.Idx) (h0 : (y 0).val = s.val) :
    ∃ p ∈ pieces v12 v23 v24 v26 v28 v35 v38, y ∈ p.1.set := by
  match s with
  | ⟨0, _⟩ =>
    by_cases hp : (y 1).val % 2 = 0
    · exact ⟨_, List.getElem_mem (l := pieces v12 v23 v24 v26 v28 v35 v38) (n := 15) (show 15 < 16 by decide), mem_row 0 y 0 h0 hp⟩
    · exact ⟨_, List.getElem_mem (l := pieces v12 v23 v24 v26 v28 v35 v38) (n := 14) (show 14 < 16 by decide), mem_row 0 y 1 h0 (by show _ = 1; omega)⟩
  | ⟨1, _⟩ =>
    by_cases hp : (y 1).val % 2 = 0
    · exact ⟨_, List.getElem_mem (l := pieces v12 v23 v24 v26 v28 v35 v38) (n := 13) (show 13 < 16 by decide), mem_row 1 y 0 h0 hp⟩
    · exact ⟨_, List.getElem_mem (l := pieces v12 v23 v24 v26 v28 v35 v38) (n := 12) (show 12 < 16 by decide), mem_row 1 y 1 h0 (by show _ = 1; omega)⟩
  | ⟨2, _⟩ =>
    by_cases hp : (y 1).val % 2 = 0
    · exact ⟨_, List.getElem_mem (l := pieces v12 v23 v24 v26 v28 v35 v38) (n := 11) (show 11 < 16 by decide), mem_row 2 y 0 h0 hp⟩
    · exact ⟨_, List.getElem_mem (l := pieces v12 v23 v24 v26 v28 v35 v38) (n := 10) (show 10 < 16 by decide), mem_row 2 y 1 h0 (by show _ = 1; omega)⟩
  | ⟨3, _⟩ =>
    by_cases hp : (y 1).val % 2 = 0
    · exact ⟨_, List.getElem_mem (l := pieces v12 v23 v24 v26 v28 v35 v38) (n := 9) (show 9 < 16 by decide), mem_row 3 y 0 h0 hp⟩
    · exact ⟨_, List.getElem_mem (l := pieces v12 v23 v24 v26 v28 v35 v38) (n := 8) (show 8 < 16 by decide), mem_row 3 y 1 h0 (by show _ = 1; omega)⟩
  | ⟨4, _⟩ =>
    by_cases hp : (y 1).val % 2 = 0
    · exact ⟨_, List.getElem_mem (l := pieces v12 v23 v24 v26 v28 v35 v38) (n := 7) (show 7 < 16 by decide), mem_row 4 y 0 h0 hp⟩
    · exact ⟨_, List.getElem_mem (l := pieces v12 v23 v24 v26 v28 v35 v38) (n := 6) (show 6 < 16 by decide), mem_row 4 y 1 h0 (by show _ = 1; omega)⟩
  | ⟨5, _⟩ =>
    by_cases hp : (y 1).val % 2 = 0
    · exact ⟨_, List.getElem_mem (l := pieces v12 v23 v24 v26 v28 v35 v38) (n := 5) (show 5 < 16 by decide), mem_row 5 y 0 h0 hp⟩
    · exact ⟨_, List.getElem_mem (l := pieces v12 v23 v24 v26 v28 v35 v38) (n := 4) (show 4 < 16 by decide), mem_row 5 y 1 h0 (by show _ = 1; omega)⟩
  | ⟨6, _⟩ =>
    by_cases hp : (y 1).val % 2 = 0
    · exact ⟨_, List.getElem_mem (l := pieces v12 v23 v24 v26 v28 v35 v38) (n := 3) (show 3 < 16 by decide), mem_row 6 y 0 h0 hp⟩
    · exact ⟨_, List.getElem_mem (l := pieces v12 v23 v24 v26 v28 v35 v38) (n := 2) (show 2 < 16 by decide), mem_row 6 y 1 h0 (by show _ = 1; omega)⟩
  | ⟨7, _⟩ =>
    by_cases hp : (y 1).val % 2 = 0
    · exact ⟨_, List.getElem_mem (l := pieces v12 v23 v24 v26 v28 v35 v38) (n := 1) (show 1 < 16 by decide), mem_row 7 y 0 h0 hp⟩
    · exact ⟨_, List.getElem_mem (l := pieces v12 v23 v24 v26 v28 v35 v38) (n := 0) (show 0 < 16 by decide), mem_row 7 y 1 h0 (by show _ = 1; omega)⟩

/-- A read of one lane group, all its rows, after the sixteen stores: row `n` is row `n / 2` of parity `n % 2`. -/
theorem slab {sig' : RefSig} {κ : Kind} {sp : Space} (v : View sig' κ sp S8x1024x128 .f32)
    (h0 : ∀ r k, k0_pay6 v12 v24 v26 v28 (ix2 r k) = Z 0 r k) (h1 : ∀ r k, k0_pay7 v23 v24 v35 v38 (ix2 r k) = Z 1 r k) (s : Fin 8)
    (inb : ∀ a, (![s.val, 0, 0] : Fin 3 → Nat) a + S1x1024x128.size a ≤ S8x1024x128.size a) (n : Fin 1024) (l : Fin 128) :
    v.readCov (pieces v12 v23 v24 v26 v28 v35 v38) (Rect.unit (s := S8x1024x128) ![s.val, 0, 0] S1x1024x128.size inb).toLoadRect (ix3 0 n l : S1x1024x128.Idx)
      = lane Z s ⟨n.val % 2, by omega⟩ ⟨n.val / 2, by omega⟩ l := by
  rw [View.readCov_eq_canon']
  have c0 : (((Rect.unit (s := S8x1024x128) ![s.val, 0, 0] S1x1024x128.size inb).toLoadRect.idx (ix3 0 n l : S1x1024x128.Idx)) 0).val = s.val := rfl
  have c1 : (((Rect.unit (s := S8x1024x128) ![s.val, 0, 0] S1x1024x128.size inb).toLoadRect.idx (ix3 0 n l : S1x1024x128.Idx)) 1).val = n.val :=
    show 0 + 1 * n.val = n.val by omega
  have c2 : (((Rect.unit (s := S8x1024x128) ![s.val, 0, 0] S1x1024x128.size inb).toLoadRect.idx (ix3 0 n l : S1x1024x128.Idx)) 2).val = l.val :=
    show 0 + 1 * l.val = l.val by omega
  exact (View.canon_apply_of_pieces (held Z) _ (pieces_good Z v12 v23 v24 v26 v28 v35 v38 h0 h1) _
    (pieces_cover v12 v23 v24 v26 v28 v35 v38 s _ c0)).trans (held_at Z s _ n l c0 c1 c2)

end Cert.Proof.Inv

end
-- ==== Proof.InvValue.lean ====
/- The inverse transform of the second long convolution (`KernelInv`), its skip and its gate, in natural order: the array the
   kernel leaves is the function of its arguments that the reference computes (`InvRef`). -/
module

public import proofs.«01_k».proof.Proof.Gen.KernelInvIdeal.Value
public import proofs.«01_k».proof.Proof.InvRef
public import proofs.«01_k».proof.Proof.InvScratch
public import Idealize.ShloMosaic.Lib.Pipeline.ValueKit

@[expose] public section

set_option maxRecDepth 16384

noncomputable section

namespace Cert.Proof.Inv

open Cert.KernelInvIdeal Cert.KernelInvIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`: batch `t / 2`, row block `t % 2`. -/
theorem idx : ∀ t : Fin cfg0.N,
    win0_0.index t = ![0, 0] ∧ win0_1.index t = ![0, 0] ∧ win0_2.index t = ![0, 0] ∧ win0_3.index t = ![0, 0] ∧
    win0_4.index t = ![t.val / 2, 0, 0, 0] ∧ win0_5.index t = ![t.val / 2, 0, t.val % 2, 2] ∧
    win0_6.index t = ![t.val / 2, 0, t.val % 2, 0] ∧ win0_7.index t = ![0, 0] ∧ win0_8.index t = ![t.val / 2, t.val % 2, 0] :=
  (by decide +kernel : ∀ t : Fin grid0.N, _)

/-- The half-position row `r` of the row block is. -/
abbrev row (t : Fin cfg0.N) (r : Fin 512) : Fin 1024 := ⟨t.val % 2 * 512 + r.val, by omega⟩

/-- The batch of grid point `t`. -/
abbrev batch (t : Fin cfg0.N) : Fin 4 := ⟨t.val / 2, by have := lt_of_lt_of_eq t.isLt N_0; omega⟩

/-- The position row `n` of the output block is. -/
abbrev pos (t : Fin cfg0.N) (n : Fin 1024) : Fin 2048 := ⟨t.val % 2 * 1024 + n.val, by omega⟩

/-- Where the row block of grid point `t` begins. -/
theorem off : ∀ t : Fin cfg0.N, k0_off1 (grid0.coords t) = ![t.val % 2 * 512, 0] :=
  (by decide +kernel : ∀ t : Fin grid0.N, _)

/-- The rows of a matrix that grid point `t` uses. -/
abbrev rM (t : Fin cfg0.N) : Rect S1024x1024 := Rect.unit (s := S1024x1024) (k0_off1 (grid0.coords t)) S512x1024.size (k0_off1_inb (grid0.coords t))
/-- Plane 0 of the spectrum's block. -/
abbrev rY0 : Rect S1x4x1024x1024 := Rect.unit (s := S1x4x1024x1024) ![0, 0, 0, 0] S1x1x1024x1024.size inb_S1x4x1024x1024_S1x1x1024x1024_0_0_0_0
/-- Plane 1 of the spectrum's block. -/
abbrev rY1 : Rect S1x4x1024x1024 := Rect.unit (s := S1x4x1024x1024) ![0, 1, 0, 0] S1x1x1024x1024.size inb_S1x4x1024x1024_S1x1x1024x1024_0_1_0_0
/-- Plane 2 of the spectrum's block. -/
abbrev rY2 : Rect S1x4x1024x1024 := Rect.unit (s := S1x4x1024x1024) ![0, 2, 0, 0] S1x1x1024x1024.size inb_S1x4x1024x1024_S1x1x1024x1024_0_2_0_0
/-- Plane 3 of the spectrum's block. -/
abbrev rY3 : Rect S1x4x1024x1024 := Rect.unit (s := S1x4x1024x1024) ![0, 3, 0, 0] S1x1x1024x1024.size inb_S1x4x1024x1024_S1x1x1024x1024_0_3_0_0
/-- The even positions of a gate's or a skip's block. -/
abbrev rG0 : Rect S1x2x512x1024 := Rect.unit (s := S1x2x512x1024) ![0, 0, 0, 0] S1x1x512x1024.size inb_S1x2x512x1024_S1x1x512x1024_0_0_0_0
/-- The odd positions of a gate's or a skip's block. -/
abbrev rG1 : Rect S1x2x512x1024 := Rect.unit (s := S1x2x512x1024) ![0, 1, 0, 0] S1x1x512x1024.size inb_S1x2x512x1024_S1x1x512x1024_0_1_0_0
/-- The bias's second row. -/
abbrev rB : Rect S2x1024 := Rect.unit (s := S2x1024) ![1, 0] S1x1024.size inb_S2x1024_S1x1024_1_0

/-- What grid point `t` computes at parity `p`, row `n`, channel `k`. -/
def Z (c : Dev nD) (t : Fin cfg0.N) (p : Fin 2) (n : Fin 512) (k : Fin 1024) : EReal :=
  gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t) p (row t n) k

/-- The two products of the even positions, as the kernel forms them. -/
theorem even_plane (c : Dev nD) (t : Fin cfg0.N) (r : Fin 512) (k : Fin 1024) :
    k0_pay3 (F := Ideal) (View.ld (iblk m c 0 t) (rM t)) (View.ld (iblk m c 4 t) rY0) (View.ld (iblk m c 1 t) (rM t)) (View.ld (iblk m c 4 t) rY2) (ix2 r k)
      = plane (m ((c : Thread nD τ).loc main_arg0)) (m ((c : Thread nD τ).loc main_arg1)) (m ((c : Thread nD τ).loc main_arg4)) (batch t) 0 2 (row t r) k := by
  pointwise [k0_pay3, plane]
  blk_point [iblk, V, idx t, off t]

/-- The two products of the odd positions, as the kernel forms them. -/
theorem odd_plane (c : Dev nD) (t : Fin cfg0.N) (r : Fin 512) (k : Fin 1024) :
    k0_pay4 (F := Ideal) (View.ld (iblk m c 2 t) (rM t)) (View.ld (iblk m c 4 t) rY1) (View.ld (iblk m c 3 t) (rM t)) (View.ld (iblk m c 4 t) rY3) (ix2 r k)
      = plane (m ((c : Thread nD τ).loc main_arg2)) (m ((c : Thread nD τ).loc main_arg3)) (m ((c : Thread nD τ).loc main_arg4)) (batch t) 1 3 (row t r) k := by
  pointwise [k0_pay4, plane]
  blk_point [iblk, V, idx t, off t]

/-- The even positions' gated rows, as the kernel forms them. -/
theorem even_rows (c : Dev nD) (t : Fin cfg0.N) (r : Fin 512) (k : Fin 1024) :
    k0_pay6 (F := Ideal) (k0_pay3 (View.ld (iblk m c 0 t) (rM t)) (View.ld (iblk m c 4 t) rY0) (View.ld (iblk m c 1 t) (rM t)) (View.ld (iblk m c 4 t) rY2))
      (View.ld (iblk m c 7 t) rB) (k0_pay5 (View.ld (iblk m c 5 t) rG0)) (View.ld (iblk m c 6 t) rG0) (ix2 r k) = Z m c t 0 r k := by
  pointwise [k0_pay6, k0_pay5, Z, gated]
  rw [even_plane]
  blk_point [iblk, V, idx t]

/-- The odd positions' gated rows, as the kernel forms them. -/
theorem odd_rows (c : Dev nD) (t : Fin cfg0.N) (r : Fin 512) (k : Fin 1024) :
    k0_pay7 (F := Ideal) (k0_pay4 (View.ld (iblk m c 2 t) (rM t)) (View.ld (iblk m c 4 t) rY1) (View.ld (iblk m c 3 t) (rM t)) (View.ld (iblk m c 4 t) rY3))
      (View.ld (iblk m c 7 t) rB) (View.ld (iblk m c 5 t) rG1) (View.ld (iblk m c 6 t) rG1) (ix2 r k) = Z m c t 1 r k := by
  pointwise [k0_pay7, Z, gated]
  rw [odd_plane]
  blk_point [iblk, V, idx t]

/-- Row `n` of lane group `s` of the output block is `G` where that row stands in the array. -/
theorem value (c : Dev nD) (t : Fin cfg0.N) (s : Fin 8) (y : S1x1024x1024.Idx) (n : Fin 1024) (l : Fin 128) (h1 : (y 1).val = n.val)
    (h2 : (y 2).val = s.val * 128 + l.val) :
    lane (Z m c t) s ⟨n.val % 2, by omega⟩ ⟨n.val / 2, by omega⟩ l
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batch t) (pos t (y 1)) (y 2)) := by
  have e1 : y 1 = n := Fin.ext h1
  have e2 : y 2 = ⟨s.val * 128 + l.val, by omega⟩ := Fin.ext h2
  rw [e1, e2]
  unfold lane Z G
  have a : (⟨n.val % 2, by omega⟩ : Fin 2) = ⟨(pos t n).val % 2, by omega⟩ := Fin.ext (by show n.val % 2 = (t.val % 2 * 1024 + n.val) % 2; omega)
  have b : row t ⟨n.val / 2, by omega⟩ = ⟨(pos t n).val / 2, by omega⟩ := Fin.ext (by show t.val % 2 * 512 + n.val / 2 = (t.val % 2 * 1024 + n.val) / 2; omega)
  rw [a, b]
  rfl

set_option maxHeartbeats 400000 in
/-- What grid point `t` leaves in the output block, at one element. -/
theorem point (c : Dev nD) (t : Fin cfg0.N) (y : S1x1024x1024.Idx) :
    outsAt0 m c t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batch t) (pos t (y 1)) (y 2)) := by
  unfold outsAt0
  frame_out
  canon_tiles x h
  case piece0 =>
    idx_vars x
    refine Eq.trans (?_ : k0_pay2 _ (ix3 x0 x1 x2) = _) (value m c t 7 y x1 x2 h1 h2)
    pointwise [k0_pay2]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 7 inb_S8x1024x128_S1x1024x128_7_0_0 x1 x2
  case piece1 =>
    idx_vars x
    refine Eq.trans (?_ : k0_pay1 _ (ix3 x0 x1 x2) = _) (value m c t 6 y x1 x2 h1 h2)
    pointwise [k0_pay1]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 6 inb_S8x1024x128_S1x1024x128_6_0_0 x1 x2
  case piece2 =>
    idx_vars x
    refine Eq.trans (?_ : k0_pay32 _ (ix3 x0 x1 x2) = _) (value m c t 5 y x1 x2 h1 h2)
    pointwise [k0_pay32]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 5 inb_S8x1024x128_S1x1024x128_5_0_0 x1 x2
  case piece3 =>
    idx_vars x
    refine Eq.trans (?_ : k0_pay31 _ (ix3 x0 x1 x2) = _) (value m c t 4 y x1 x2 h1 h2)
    pointwise [k0_pay31]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 4 inb_S8x1024x128_S1x1024x128_4_0_0 x1 x2
  case piece4 =>
    idx_vars x
    refine Eq.trans (?_ : k0_pay30 _ (ix3 x0 x1 x2) = _) (value m c t 3 y x1 x2 h1 h2)
    pointwise [k0_pay30]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 3 inb_S8x1024x128_S1x1024x128_3_0_0 x1 x2
  case piece5 =>
    idx_vars x
    refine Eq.trans (?_ : k0_pay29 _ (ix3 x0 x1 x2) = _) (value m c t 2 y x1 x2 h1 h2)
    pointwise [k0_pay29]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 2 inb_S8x1024x128_S1x1024x128_2_0_0 x1 x2
  case piece6 =>
    idx_vars x
    refine Eq.trans (?_ : k0_pay28 (k0_pay27 _) (ix3 x0 x1 x2) = _) (value m c t 1 y x1 x2 h1 h2)
    pointwise [k0_pay28, k0_pay27]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 1 inb_S8x1024x128_S1x1024x128_1_0_0 x1 x2
  case piece7 =>
    idx_vars x
    refine Eq.trans (?_ : k0_pay26 _ (ix3 x0 x1 x2) = _) (value m c t 0 y x1 x2 h1 (h2.trans (show x2.val = 0 * 128 + x2.val by omega)))
    pointwise [k0_pay26]
    exact slab (Z m c t) (k0_pay3 (View.ld (iblk m c 0 t) (rM t)) (View.ld (iblk m c 4 t) rY0) (View.ld (iblk m c 1 t) (rM t)) (View.ld (iblk m c 4 t) rY2))
      (k0_pay4 (View.ld (iblk m c 2 t) (rM t)) (View.ld (iblk m c 4 t) rY1) (View.ld (iblk m c 3 t) (rM t)) (View.ld (iblk m c 4 t) rY3))
      (View.ld (iblk m c 7 t) rB) (k0_pay5 (View.ld (iblk m c 5 t) rG0)) (View.ld (iblk m c 6 t) rG0) (View.ld (iblk m c 5 t) rG1) (View.ld (iblk m c 6 t) rG1) _ (even_rows m c t) (odd_rows m c t) 0 inb_S8x1024x128_S1x1024x128_0_0_0 x1 x2

/-- The array the kernel leaves is `G` of its arguments. -/
theorem final (c : Dev nD) : (dats m 0 c).arrAt 8 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have he : ((cfg0.win 8).blk t).view.emb y = (ix3 (batch t) (pos t (y 1)) (y 2) : S4x2048x1024.Idx) := by
    blk_ext [idx t]
    all_goals rfl
  rw [he]
  exact point m c t y

end Cert.Proof.Inv

end
-- ==== Proof.InvClaims.lean ====
/- The claims about the second inverse transform (`KernelInv`): each program runs and leaves its arguments alone, idealizing changes nothing,
   and over the extended reals the kernel's result is the reference's. -/
module

public import proofs.«01_k».proof.Defs
public import proofs.«01_k».proof.Proof.Gen.KernelInv
public import proofs.«01_k».proof.Proof.Gen.KernelInv.Frame
public import proofs.«01_k».proof.Proof.Gen.KernelInvIdeal
public import proofs.«01_k».proof.Proof.Gen.KernelInvIdeal.Frame
public import proofs.«01_k».proof.Proof.Gen.ReferenceInvIdeal
public import proofs.«01_k».proof.Proof.Gen.ReferenceInvIdeal.Run
public import proofs.«01_k».proof.Proof.InvValue
public import Idealize.ShloMosaic.Lib.Claim
public import Idealize.ShloMosaic.Adequacy
public import Idealize.ShloMosaic.Init

@[expose] public section

set_option maxRecDepth 16384

noncomputable section

namespace Cert.Proof.Inv

open Idealize.ShloMosaic Idealize.ShloMosaic.TcCoe Idealize.SL.Sem

/-- The bit-exact kernel runs, leaves its arguments unchanged and every counter at zero. -/
theorem frame_k : Cert.quiescent_KernelInv := fun m ρ _ => Cert.KernelInv.Gen.frame m ρ

/-- The idealized kernel runs, leaves its arguments unchanged and every counter at zero. -/
theorem frame_ki : Cert.quiescent_KernelInvIdeal := fun m ρ _ => Cert.KernelInvIdeal.Gen.frame m ρ

/-- The reference runs, leaves its arguments unchanged and every counter at zero: it declares no semaphore. -/
theorem frame_ri : Cert.quiescent_ReferenceInvIdeal := fun m ρ _ =>
  (θ_run Cert.ReferenceInvIdeal.defs _ _).mono
    (fun r h => ⟨fun c => (h c).2, Idealize.ShloMosaic.sem_eq_zero_of_no_sems (by decide) r.2⟩)
    (Cert.ReferenceInvIdeal.Value.run (F := Ideal) m ρ)

/-- Idealizing the kernel rewrites nothing. -/
theorem preserves : Cert.preserves_KernelInv_KernelInvIdeal := trivial

/-- The kernel's result and the reference's are equal at every index, from any arguments. -/
theorem algebraic : Cert.algebraic_KernelInvIdeal_ReferenceInvIdeal := by
  pair_intro
  · run_from Cert.KernelInvIdeal.Gen.run_main m g
  · run_from Cert.ReferenceInvIdeal.Value.run m' g'
    obtain ⟨h0, h1, h2, h3, h4, h5, h6, h7⟩ := hagree c
    refine (ref _ _ _ _ _ _ _ _).trans ?_
    rw [h4]
    exact (final m c).symm

end Cert.Proof.Inv

end
-- ==== Proof.MergeValue.lean ====
/- The merge of the two branches and the output projection (`KernelMerge`): the array the kernel leaves and the array
   the reference computes are one function of the arguments. -/
module

public import proofs.«01_k».proof.Proof.Gen.KernelMergeIdeal.Value
public import proofs.«01_k».proof.Proof.Gen.ReferenceMergeIdeal.Run
public import proofs.«01_k».proof.Proof.Sigmoid
public import proofs.«01_k».proof.Proof.RmsNorm

@[expose] public section

set_option maxRecDepth 16384

noncomputable section

namespace Cert.Proof.Merge

open Cert.KernelMergeIdeal Cert.KernelMergeIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`. -/
theorem idx : ∀ t : Fin cfg0.N,
    win0_0.index t = ![t.val, 0] ∧ win0_1.index t = ![t.val, 0] ∧
    win0_2.index t = ![t.val, 5] ∧ win0_3.index t = ![t.val, 6] ∧
    win0_4.index t = ![t.val, 7] ∧ win0_5.index t = ![t.val, 8] ∧
    win0_6.index t = ![t.val, 0] ∧ win0_7.index t = ![0, 0] ∧ win0_8.index t = ![0, 0] ∧
    win0_9.index t = ![0, 0] ∧ win0_10.index t = ![0, 0] ∧ win0_11.index t = ![t.val, 0] :=
  (by decide +kernel : ∀ t : Fin grid0.N, _)

/-- The gated sum of the two branches at row `i`, channel `k`: each branch through its own projection, times the
    logistic function of its gate (the gates are channels 5120 … 7167 and 7168 … 9215 of the input projection). -/
def mrg (ya yb : FVec Ideal S8192x1024 .bf16) (pr : FVec Ideal S8192x9216 .bf16)
    (pa pb : FVec Ideal S1024x2048 .bf16) (i : Fin 8192) (k : Fin 2048) : EReal :=
  Ideal.div 1 (1 + Ideal.exp (-(pr (ix2 i ⟨5120 + k.val, by omega⟩)))) * (∑ l : Fin 1024, ya (ix2 i l) * pa (ix2 l k))
  + Ideal.div 1 (1 + Ideal.exp (-(pr (ix2 i ⟨7168 + k.val, by omega⟩)))) * (∑ l : Fin 1024, yb (ix2 i l) * pb (ix2 l k))

/-- Row `i` of the output projection of the gated sum. -/
def row (ya yb : FVec Ideal S8192x1024 .bf16) (pr : FVec Ideal S8192x9216 .bf16)
    (pa pb : FVec Ideal S1024x2048 .bf16) (wo : FVec Ideal S2048x2048 .bf16) (i : Fin 8192) (j : Fin 2048) : EReal :=
  ∑ k : Fin 2048, mrg ya yb pr pa pb i k * wo (ix2 k j)

/-- The result: the residual plus the normalised row times the gain. -/
def G (ya yb : FVec Ideal S8192x1024 .bf16) (pr : FVec Ideal S8192x9216 .bf16) (x : FVec Ideal S8192x2048 .f32)
    (pa pb : FVec Ideal S1024x2048 .bf16) (wo : FVec Ideal S2048x2048 .bf16) (g : FVec Ideal S1x2048 .f32) :
    FVec Ideal S8192x2048 .f32 := fun y =>
  x (ix2 (y 0) (y 1)) + row ya yb pr pa pb wo (y 0) (y 1) * rmsFactor (row ya yb pr pa pb wo (y 0)) * g (ix2 0 (y 1))

/-- The reference's composed term is `G` of its arguments. -/
theorem ref (m' : (ℓ : Loc Cert.ReferenceMergeIdeal.nD Cert.ReferenceMergeIdeal.τ Cert.ReferenceMergeIdeal.sig) → Buf (Elt Ideal) ℓ)
    (c : Dev nD) :
    (Cert.ReferenceMergeIdeal.Value.res_out0 m' c : FVec Ideal S8192x2048 .f32)
      = G (m' (c.tc.loc Cert.ReferenceMergeIdeal.main_arg0)) (m' (c.tc.loc Cert.ReferenceMergeIdeal.main_arg1))
          (m' (c.tc.loc Cert.ReferenceMergeIdeal.main_arg2)) (m' (c.tc.loc Cert.ReferenceMergeIdeal.main_arg3))
          (m' (c.tc.loc Cert.ReferenceMergeIdeal.main_arg4)) (m' (c.tc.loc Cert.ReferenceMergeIdeal.main_arg5))
          (m' (c.tc.loc Cert.ReferenceMergeIdeal.main_arg6)) (m' (c.tc.loc Cert.ReferenceMergeIdeal.main_arg7)) := by
  funext y
  idx_vars y
  pointwise [Cert.ReferenceMergeIdeal.Value.res_out0, Cert.ReferenceMergeIdeal.Value.res_main_v38, G, row, mrg, rmsFactor]

/-- The row the kernel's body normalises, from the two branches' projections and the gates read off the blocks. -/
def blkRow (v2 v5 : FVec Ideal S256x2048 .f32) (v28 v33 v34 : FVec Ideal S256x1024 .f32) (v40 : FVec Ideal S256x1024 .bf16)
    (v53 v56 : FVec Ideal S1024x2048 .bf16) (r : Fin 256) (j : Fin 2048) : EReal :=
  ∑ x : Fin 1024, v28 (ix2 r x) * v53 (ix2 x j)
  + ∑ x : Fin 1024, ((v34 (ix2 r x) * v33 (ix2 r x) + Ideal.ofBits .f32 0x3F000000#32) * v2 (ix2 r ⟨1024 + x.val, by omega⟩)
      + (Ideal.ofBits .f32 0x3F000000#32 * Ideal.tanh (Ideal.ofBits .f32 0x3F000000#32 * v40 (ix2 r x)) + Ideal.ofBits .f32 0x3F000000#32)
        * v5 (ix2 r ⟨1024 + x.val, by omega⟩)) * v56 (ix2 x j)

/-- The body's last payload in terms of that row. -/
theorem pay6_eq (v2 v5 : FVec Ideal S256x2048 .f32) (v28 v33 v34 : FVec Ideal S256x1024 .f32) (v40 : FVec Ideal S256x1024 .bf16)
    (v53 v56 : FVec Ideal S1024x2048 .bf16) (v59 : FVec Ideal S256x2048 .f32) (v70 : FVec Ideal S1x2048 .f32)
    (r : Fin 256) (j : Fin 2048) :
    k0_pay6 v2 v5 v28 v33 v34 v40 v53 v56 v59 v70 (ix2 r j)
      = v59 (ix2 r j) + blkRow v2 v5 v28 v33 v34 v40 v53 v56 r j
          * rmsFactor (blkRow v2 v5 v28 v33 v34 v40 v53 v56 r) * v70 (ix2 0 j) := by
  pointwise [k0_pay6, blkRow, rmsFactor]

/-- The array row that row `r` of grid point `t`'s blocks is. -/
def arow (t : Fin cfg0.N) (r : Fin 256) : Fin 8192 := ⟨t.val * 256 + r.val, by
  have h : t.val < 32 := N_0 ▸ t.isLt
  omega⟩

/-- The body's row at point `t` is the row of `G`. -/
theorem row_at (c : Dev nD) (t : Fin cfg0.N) (r : Fin 256) (j : Fin 2048) :
    blkRow (k0_pay1 (iblk m c 0 t) (iblk m c 7 t)) (k0_pay2 (iblk m c 1 t) (iblk m c 8 t))
      (k0_pay3 (iblk m c 0 t) (iblk m c 7 t) (iblk m c 1 t) (iblk m c 8 t) (iblk m c 2 t) (iblk m c 4 t))
      (k0_pay4 (iblk m c 3 t)) (k0_pay5 (F := Ideal)) (iblk m c 5 t) (View.ld (iblk m c 9 t) r0_2) (View.ld (iblk m c 9 t) r0_3) r j
    = row (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (arow t r) j := by
  unfold row
  rw [Fin.sum_univ_two_halves 1024 1024 rfl]
  pointwise [blkRow, mrg, k0_pay1, k0_pay2, k0_pay3, k0_pay4, k0_pay5]
  simp only [half_tanh]
  blk_point [iblk, V, idx t]
  all_goals rfl

/-- What the body stores at block index `y` of grid point `t` is `G` at the array index `y` sits at. -/
theorem point (c : Dev nD) (t : Fin cfg0.N) (y : S256x2048.Idx) :
    k0_pay6 (k0_pay1 (iblk m c 0 t) (iblk m c 7 t)) (k0_pay2 (iblk m c 1 t) (iblk m c 8 t))
      (k0_pay3 (iblk m c 0 t) (iblk m c 7 t) (iblk m c 1 t) (iblk m c 8 t) (iblk m c 2 t) (iblk m c 4 t))
      (k0_pay4 (iblk m c 3 t)) (k0_pay5 (F := Ideal)) (iblk m c 5 t) (View.ld (iblk m c 9 t) r0_2) (View.ld (iblk m c 9 t) r0_3)
      (iblk m c 6 t) (iblk m c 10 t) y
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 11).blk t).view.emb y) := by
  idx_vars y
  rw [pay6_eq, funext (row_at m c t y0)]
  have he : ((cfg0.win 11).blk t).view.emb (ix2 y0 y1) = (ix2 (arow t y0) y1 : S8192x2048.Idx) := by
    blk_ext [idx t]
    all_goals rfl
  rw [he]
  unfold G
  pointwise
  blk_point [iblk, V, idx t]
  all_goals rfl

/-- The array after the run is `G` of the arguments. -/
theorem final (c : Dev nD) : (dats m 0 c).arrAt 11 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t hf y => ?_
  blk_simp
  rw [after0_11]
  frame_out
  exact point m c t y

end Cert.Proof.Merge

end
-- ==== Proof.MergeClaims.lean ====
/- The claims about the branch merge and residual (`KernelMerge`): each program runs and leaves its arguments alone, idealizing changes nothing,
   and over the extended reals the kernel's result is the reference's. -/
module

public import proofs.«01_k».proof.Defs
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.MergeValue
public import Idealize.ShloMosaic.Lib.Claim
public import Idealize.ShloMosaic.Adequacy
public import Idealize.ShloMosaic.Init

@[expose] public section

set_option maxRecDepth 16384

noncomputable section

namespace Cert.Proof.Merge

open Idealize.ShloMosaic Idealize.ShloMosaic.TcCoe Idealize.SL.Sem

/-- The bit-exact kernel runs, leaves its arguments unchanged and every counter at zero. -/
theorem frame_k : Cert.quiescent_KernelMerge := fun m ρ _ => Cert.KernelMerge.Gen.frame m ρ

/-- The idealized kernel runs, leaves its arguments unchanged and every counter at zero. -/
theorem frame_ki : Cert.quiescent_KernelMergeIdeal := fun m ρ _ => Cert.KernelMergeIdeal.Gen.frame m ρ

/-- The reference runs, leaves its arguments unchanged and every counter at zero: it declares no semaphore. -/
theorem frame_ri : Cert.quiescent_ReferenceMergeIdeal := fun m ρ _ =>
  (θ_run Cert.ReferenceMergeIdeal.defs _ _).mono
    (fun r h => ⟨fun c => (h c).2, Idealize.ShloMosaic.sem_eq_zero_of_no_sems (by decide) r.2⟩)
    (Cert.ReferenceMergeIdeal.Value.run (F := Ideal) m ρ)

/-- Idealizing the kernel rewrites nothing. -/
theorem preserves : Cert.preserves_KernelMerge_KernelMergeIdeal := trivial

/-- The kernel's result and the reference's are equal at every index, from any arguments. -/
theorem algebraic : Cert.algebraic_KernelMergeIdeal_ReferenceMergeIdeal := by
  pair_intro
  · run_from Cert.KernelMergeIdeal.Gen.run_main m g
  · run_from Cert.ReferenceMergeIdeal.Value.run m' g'
    obtain ⟨h0, h1, h2, h3, h4, h5, h6, h7⟩ := hagree c
    refine (ref m' c).trans ?_
    rw [h0, h1, h2, h3, h4, h5, h6, h7]
    exact (final m c).symm

end Cert.Proof.Merge

end
-- ==== Proof.MlpRef.lean ====
/- The reference's filters (`KernelMlp`): closed forms of the network, the windowed filters, their normalized sums and differences and
   the spectrum's middle frequency, and the proof that the reference computes them. -/
module

public import proofs.«01_k».proof.Proof.Gen.ReferenceMlpIdeal.Run
public import Idealize.ShloMosaic.Lib.Pipeline.ValueKit

@[expose] public section

set_option maxRecDepth 16384

noncomputable section

namespace Cert.Proof.Mlp

open Idealize.ShloMosaic Idealize.ShloMosaic.TcCoe Idealize.SL.Sem

open Cert.ReferenceMlpIdeal Cert.ReferenceMlpIdeal.Gen
open Cert.ReferenceMlpIdeal.Facts

/-- A lag, over the longest one. -/
def time (n : ℕ) : EReal := Ideal.div (FloatOps.sitofp (F := Ideal) FTy.f32 (BitVec.ofNat 32 n)) (Ideal.ofBits FTy.f32 0x44FFE000#32)

/-- The angle of band `b` at lag `n`. -/
def angle (b n : ℕ) : EReal :=
  (Ideal.ofBits FTy.f32 0x38D1B717#32 + FloatOps.sitofp (F := Ideal) FTy.f32 (BitVec.ofNat 32 b) * Ideal.ofBits FTy.f32 0x3F7FFF90#32) *
    Ideal.div (Ideal.ofBits FTy.f32 0x40C90FDB#32 * FloatOps.sitofp (F := Ideal) FTy.f32 (BitVec.ofNat 32 n)) (Ideal.ofBits FTy.f32 0x45000000#32)

/-- The network's first layer. -/
def layer1 (w1 : FVec Ideal S33x64 .f32) (b1 f1 : FVec Ideal S1x64 .f32) (n : Fin 2048) (j : Fin 64) : EReal :=
  Ideal.sin (f1 (ix2 0 j) * (time n * w1 (ix2 0 j) + ∑ b : Fin 16, Ideal.cos (angle b n) * w1 (ix2 ⟨1 + b.val, by omega⟩ j)
    - ∑ b : Fin 16, Ideal.sin (angle b n) * w1 (ix2 ⟨17 + b.val, by omega⟩ j) + b1 (ix2 0 j)))

/-- The network's second layer. -/
def layer2 (w1 : FVec Ideal S33x64 .f32) (b1 f1 : FVec Ideal S1x64 .f32) (w2 : FVec Ideal S64x64 .f32) (b2 f2 : FVec Ideal S1x64 .f32)
    (n : Fin 2048) (j : Fin 64) : EReal :=
  Ideal.sin (f2 (ix2 0 j) * (∑ i : Fin 64, layer1 w1 b1 f1 n i * w2 (ix2 i j) + b2 (ix2 0 j)))

/-- The window at lag `n` of channel `c`. -/
def decay (n c : ℕ) : EReal :=
  Ideal.exp (-(time n) * FloatOps.absf (F := Ideal) (φ := .f32) (Ideal.ofBits FTy.f32 0xC0447CBD#32
    + FloatOps.sitofp (F := Ideal) FTy.f32 (BitVec.ofNat 32 c) * Ideal.ofBits FTy.f32 0xBC44ADE9#32))

/-- A value that lag 0 does not have. -/
def past (n : ℕ) (x : EReal) : EReal := Scalar.select (IntOp.cmpi CmpIPredicate.eq (BitVec.ofNat 32 n) 0#32) 0 x

/-- The cosine (`a = 0`, `b = 2`) or the sine (`a = 1`, `b = 3`) of `n` quarter turns. -/
def quarter (a b : BitVec 32) (n : ℕ) : EReal :=
  Scalar.select (IntOp.cmpi CmpIPredicate.eq (IntOp.andi (BitVec.ofNat 32 n) 3#32) a) 1
    (Scalar.select (IntOp.cmpi CmpIPredicate.eq (IntOp.andi (BitVec.ofNat 32 n) 3#32) b) (Ideal.ofBits FTy.f32 0xBF800000#32) 0)

section Filters

variable (h : Fin 2048 → Fin 64 → EReal) (w3 : FVec Ideal S64x4096 .f32)

/-- The weights' column for a filter's channel `q` (of both filters) in direction `d`. -/
def place (q : Fin 2048) (d : Fin 2) : Fin 4096 := ⟨q.val / 1024 * 2048 + d.val * 1024 + q.val % 1024, by omega⟩

/-- The filter at lag `n` forwards. -/
def fwd (n q : Fin 2048) : EReal := (∑ j : Fin 64, h n j * w3 (ix2 j (place q 0))) * decay n (q.val % 1024)

/-- The filter at lag `n` backwards; lag 0 belongs to the forward half. -/
def bwd (n q : Fin 2048) : EReal := past n ((∑ j : Fin 64, h n j * w3 (ix2 j (place q 1))) * decay n (q.val % 1024))

/-- The filter's sum of absolute values. -/
def total (q : Fin 2048) : EReal :=
  ∑ n : Fin 2048, FloatOps.absf (F := Ideal) (φ := .f32) (fwd h w3 n q) + ∑ n : Fin 2048, FloatOps.absf (F := Ideal) (φ := .f32) (bwd h w3 n q)

/-- The sum of opposite lags, normalized. -/
def sums (n q : Fin 2048) : EReal := (fwd h w3 n q + bwd h w3 n q) * Ideal.div 1 (total h w3 q)

/-- The difference of opposite lags, normalized. -/
def diffs (n q : Fin 2048) : EReal := (fwd h w3 n q - bwd h w3 n q) * Ideal.div 1 (total h w3 q)

/-- The lag in row `p` when even lags come before odd ones. -/
def lag (p : Fin 2048) : Fin 2048 := ⟨p.val % 1024 * 2 + p.val / 1024, by omega⟩

/-- The first result. -/
def GS : FVec Ideal S2048x2048 .bf16 := fun y => sums h w3 (lag (y 0)) (y 1)

/-- The second result. -/
def GD : FVec Ideal S2048x2048 .bf16 := fun y => diffs h w3 (lag (y 0)) (y 1)

/-- The spectrum at the middle frequency, from the sums and the differences. -/
def mid (r : ℕ) (q : Fin 2048) : EReal :=
  if r = 0 then (∑ n : Fin 2048, sums h w3 n q * quarter 0#32 2#32 n) * Ideal.ofBits FTy.f32 0x3A000000#32
  else (∑ n : Fin 2048, diffs h w3 n q * quarter 1#32 3#32 n) * Ideal.ofBits FTy.f32 0xBA000000#32

/-- The third result. -/
def GT : FVec Ideal S2x2048 .f32 := fun y => mid h w3 (y 0).val (y 1)

end Filters

/-- The fourth result: the second half of the weights. -/
def GW (w : FVec Ideal S2048x9216 .f32) : FVec Ideal S1024x9216 .bf16 := fun y =>
  w (ix2 ⟨1024 + (y 0).val, by have : (y 0).val < 1024 := (y 0).isLt; omega⟩ (y 1))

/-- The angles as the reference forms them. -/
def ANGLES : FVec Ideal S2048x16 .f32 :=
  mulf (broadcastInDim S2048x16 ![0, 1] bcast_S1x16_S2048x16_0_1 (addf (broadcastInDim S1x16 ![] bcast_S_S1x16 (constant S_ .f32 0x38D1B717#32)) (mulf (sitofp .f32 (iotaInDim S1x16 32 1)) (broadcastInDim S1x16 ![] bcast_S_S1x16 (constant S_ .f32 0x3F7FFF90#32))))) (broadcastInDim S2048x16 ![0, 1] bcast_S2048x1_S2048x16_0_1 (Host.divf (mulf (broadcastInDim S2048x1 ![] bcast_S_S2048x1 (constant S_ .f32 0x40C90FDB#32)) (sitofp .f32 (iotaInDim S2048x1 32 0))) (broadcastInDim S2048x1 ![] bcast_S_S2048x1 (constant S_ .f32 0x45000000#32))))

/-- The angles at one element. -/
theorem ANGLES_at (n : Fin 2048) (b : Fin 16) : ANGLES (ix2 n b) = angle b.val n.val := by
  pointwise [ANGLES, angle]

/-- The first layer as the reference forms it. -/
def L1 (w1 : FVec Ideal S33x64 .f32) (b1 f1 : FVec Ideal S1x64 .f32) : FVec Ideal S2048x64 .f32 :=
  Host.sin (mulf (broadcastInDim S2048x64 ![0, 1] bcast_S1x64_S2048x64_0_1 f1) (addf (subf (addf (mulf (broadcastInDim S2048x64 ![0, 1] bcast_S2048x1_S2048x64_0_1 (Host.divf (sitofp .f32 (iotaInDim S2048x1 32 0)) (broadcastInDim S2048x1 ![] bcast_S_S2048x1 (constant S_ .f32 0x44FFE000#32)))) (broadcastInDim S2048x64 ![0, 1] bcast_S1x64_S2048x64_0_1 (extractStridedSlice S1x64 ![0, 0] w1 slices_S33x64_S1x64_0_0))) (Host.dotGeneral dot_S2048x16_S16x64_S2048x64_1_0_0_1_n_n none (Host.cos ANGLES) (extractStridedSlice S16x64 ![1, 0] w1 slices_S33x64_S16x64_1_0))) (Host.dotGeneral dot_S2048x16_S16x64_S2048x64_1_0_0_1_n_n none (Host.sin ANGLES) (extractStridedSlice S16x64 ![17, 0] w1 slices_S33x64_S16x64_17_0))) (broadcastInDim S2048x64 ![0, 1] bcast_S1x64_S2048x64_0_1 b1)))

/-- The first layer at one element. -/
theorem L1_at (w1 : FVec Ideal S33x64 .f32) (b1 f1 : FVec Ideal S1x64 .f32) (n : Fin 2048) (j : Fin 64) :
    L1 w1 b1 f1 (ix2 n j) = layer1 w1 b1 f1 n j := by
  pointwise [L1, layer1, time]
  simp only [ANGLES_at]

/-- The second layer as the reference forms it. -/
def L2 (w1 : FVec Ideal S33x64 .f32) (b1 f1 : FVec Ideal S1x64 .f32) (w2 : FVec Ideal S64x64 .f32) (b2 f2 : FVec Ideal S1x64 .f32) : FVec Ideal S2048x64 .f32 :=
  Host.sin (mulf (broadcastInDim S2048x64 ![0, 1] bcast_S1x64_S2048x64_0_1 f2) (addf (Host.dotGeneral dot_S2048x64_S64x64_S2048x64_1_0_0_1_n_n none (L1 w1 b1 f1) w2) (broadcastInDim S2048x64 ![0, 1] bcast_S1x64_S2048x64_0_1 b2)))

/-- The second layer at one element. -/
theorem L2_at (w1 : FVec Ideal S33x64 .f32) (b1 f1 : FVec Ideal S1x64 .f32) (w2 : FVec Ideal S64x64 .f32) (b2 f2 : FVec Ideal S1x64 .f32) (n : Fin 2048) (j : Fin 64) :
    L2 w1 b1 f1 w2 b2 f2 (ix2 n j) = layer2 w1 b1 f1 w2 b2 f2 n j := by
  pointwise [L2, layer2]
  simp only [L1_at]

variable (H : FVec Ideal S2048x64 .f32) (w3 : FVec Ideal S64x4096 .f32)

/-- Both filters in both directions, windowed, as the reference forms them. -/
def K : FVec Ideal S2048x2x2x1024 .f32 :=
  mulf (shapeCast _ (Host.dotGeneral dot_S2048x64_S64x4096_S2048x4096_1_0_0_1_n_n none H w3) shapeCasts_S2048x4096_S2048x2x2x1024) (broadcastInDim S2048x2x2x1024 ![0, 1, 2, 3] bcast_S2048x1x1x1024_S2048x2x2x1024_0_1_2_3 (broadcastInDim S2048x1x1x1024 ![0, 3] bcast_S2048x1024_S2048x1x1x1024_0_3 (Host.exp (mulf (broadcastInDim S2048x1024 ![0, 1] bcast_S2048x1_S2048x1024_0_1 (Host.negf (Host.divf (sitofp .f32 (iotaInDim S2048x1 32 0)) (broadcastInDim S2048x1 ![] bcast_S_S2048x1 (constant S_ .f32 0x44FFE000#32))))) (broadcastInDim S2048x1024 ![0, 1] bcast_S1x1024_S2048x1024_0_1 (Host.absf (addf (broadcastInDim S1x1024 ![] bcast_S_S1x1024 (constant S_ .f32 0xC0447CBD#32)) (mulf (sitofp .f32 (iotaInDim S1x1024 32 1)) (broadcastInDim S1x1024 ![] bcast_S_S1x1024 (constant S_ .f32 0xBC44ADE9#32))))))))))

/-- Both filters at one element. -/
theorem K_at (n : Fin 2048) (o d : Fin 2) (c : Fin 1024) :
    K H w3 (ix4 n o d c) = (∑ j : Fin 64, H (ix2 n j) * w3 (ix2 j ⟨o.val * 2048 + d.val * 1024 + c.val, by omega⟩)) * decay n.val c.val := by
  pointwise [K, decay, time]

/-- The forward halves as the reference forms them. -/
def KF : FVec Ideal S2048x2048 .f32 :=
  shapeCast _ (shapeCast _ (extractStridedSlice S2048x2x1x1024 ![0, 0, 0, 0] (K H w3) slices_S2048x2x2x1024_S2048x2x1x1024_0_0_0_0) shapeCasts_S2048x2x1x1024_S2048x2x1024) shapeCasts_S2048x2x1024_S2048x2048

/-- The forward halves at one element. -/
theorem KF_at (n q : Fin 2048) : KF H w3 (ix2 n q) = fwd (fun n j => H (ix2 n j)) w3 n q := by
  pointwise [KF, fwd]
  simp only [K_at]
  rfl

/-- The backward halves as the reference forms them. -/
def KB : FVec Ideal S2048x2048 .f32 :=
  select (broadcastInDim S2048x2048 ![0, 1] bcast_S2048x1_S2048x2048_0_1 (cmpi .eq (iotaInDim S2048x1 32 0) (broadcastInDim S2048x1 ![] bcast_S_S2048x1 (constantI S_ 32 0#32)))) (broadcastInDim S2048x2048 ![] bcast_S_S2048x2048 (id (constant S_ .f32 0x00000000#32))) (shapeCast _ (shapeCast _ (extractStridedSlice S2048x2x1x1024 ![0, 0, 1, 0] (K H w3) slices_S2048x2x2x1024_S2048x2x1x1024_0_0_1_0) shapeCasts_S2048x2x1x1024_S2048x2x1024) shapeCasts_S2048x2x1024_S2048x2048)

/-- The backward halves at one element. -/
theorem KB_at (n q : Fin 2048) : KB H w3 (ix2 n q) = bwd (fun n j => H (ix2 n j)) w3 n q := by
  pointwise [KB, bwd, past, id_eq]
  simp only [K_at]
  rfl

/-- The filters' sums of absolute values as the reference forms them. -/
def NORM : FVec Ideal S2048 .f32 :=
  addf (Host.reduceAdd (Host.absf (KF H w3)) (constant S_ .f32 0x00000000#32) reducesTo_S2048x2048_S2048_d0 h_S_) (Host.reduceAdd (Host.absf (KB H w3)) (constant S_ .f32 0x00000000#32) reducesTo_S2048x2048_S2048_d0 h_S_)

/-- The filters' sums of absolute values at one element. -/
theorem NORM_at (q : Fin 2048) : NORM H w3 (ix1 q) = total (fun n j => H (ix2 n j)) w3 q := by
  pointwise [NORM, total]
  simp only [KF_at, KB_at]

/-- The normalized sums as the reference forms them. -/
def SS : FVec Ideal S2048x2048 .f32 :=
  mulf (addf (KF H w3) (KB H w3)) (broadcastInDim S2048x2048 ![0, 1] bcast_S1x2048_S2048x2048_0_1 (broadcastInDim S1x2048 ![1] bcast_S2048_S1x2048_1 (Host.divf (broadcastInDim S2048 ![] bcast_S_S2048 (constant S_ .f32 0x3F800000#32)) (NORM H w3))))

/-- The normalized sums at one element. -/
theorem SS_at (n q : Fin 2048) : SS H w3 (ix2 n q) = sums (fun n j => H (ix2 n j)) w3 n q := by
  pointwise [SS, sums]
  simp only [KF_at, KB_at, NORM_at]

/-- The normalized differences as the reference forms them. -/
def DD : FVec Ideal S2048x2048 .f32 :=
  mulf (subf (KF H w3) (KB H w3)) (broadcastInDim S2048x2048 ![0, 1] bcast_S1x2048_S2048x2048_0_1 (broadcastInDim S1x2048 ![1] bcast_S2048_S1x2048_1 (Host.divf (broadcastInDim S2048 ![] bcast_S_S2048 (constant S_ .f32 0x3F800000#32)) (NORM H w3))))

/-- The normalized differences at one element. -/
theorem DD_at (n q : Fin 2048) : DD H w3 (ix2 n q) = diffs (fun n j => H (ix2 n j)) w3 n q := by
  pointwise [DD, diffs]
  simp only [KF_at, KB_at, NORM_at]

/-- Even lags before odd ones, as the reference forms it. -/
def SPLIT (a : FVec Ideal S2048x2048 .f32) : FVec Ideal S2048x2048 .bf16 :=
  truncf .bf16 (shapeCast _ (transpose S2x1024x2048 [1, 0, 2] (shapeCast _ a shapeCasts_S2048x2048_S1024x2x2048) transposes_S1024x2x2048_S2x1024x2048_1_0_2) shapeCasts_S2x1024x2048_S2048x2048) bitsLt_bf16_f32

/-- Even lags before odd ones, at one element. -/
theorem SPLIT_at (a : FVec Ideal S2048x2048 .f32) (p q : Fin 2048) : SPLIT a (ix2 p q) = a (ix2 (lag p) q) := by
  pointwise [SPLIT, lag]

/-- The middle frequency as the reference forms it. -/
def TMID (S D : FVec Ideal S2048x2048 .f32) : FVec Ideal S2x2048 .f32 :=
  concatenate S2x2048 0 [⟨S1x2048, (broadcastInDim S1x2048 ![1] bcast_S2048_S1x2048_1 (mulf (Host.reduceAdd (mulf S (broadcastInDim S2048x2048 ![0, 1] bcast_S2048x1_S2048x2048_0_1 (id (select (cmpi .eq (andi (iotaInDim S2048x1 32 0) (broadcastInDim S2048x1 ![] bcast_S_S2048x1 (constantI S_ 32 3#32))) (broadcastInDim S2048x1 ![] bcast_S_S2048x1 (constantI S_ 32 0#32))) (broadcastInDim S2048x1 ![] bcast_S_S2048x1 (constant S_ .f32 0x3F800000#32)) (select (cmpi .eq (andi (iotaInDim S2048x1 32 0) (broadcastInDim S2048x1 ![] bcast_S_S2048x1 (constantI S_ 32 3#32))) (broadcastInDim S2048x1 ![] bcast_S_S2048x1 (constantI S_ 32 2#32))) (broadcastInDim S2048x1 ![] bcast_S_S2048x1 (constant S_ .f32 0xBF800000#32)) (broadcastInDim S2048x1 ![] bcast_S_S2048x1 (constant S_ .f32 0x00000000#32))))))) (constant S_ .f32 0x00000000#32) reducesTo_S2048x2048_S2048_d0 h_S_) (broadcastInDim S2048 ![] bcast_S_S2048 (constant S_ .f32 0x3A000000#32))))⟩, ⟨S1x2048, (broadcastInDim S1x2048 ![1] bcast_S2048_S1x2048_1 (mulf (Host.reduceAdd (mulf D (broadcastInDim S2048x2048 ![0, 1] bcast_S2048x1_S2048x2048_0_1 (id (select (cmpi .eq (andi (iotaInDim S2048x1 32 0) (broadcastInDim S2048x1 ![] bcast_S_S2048x1 (constantI S_ 32 3#32))) (broadcastInDim S2048x1 ![] bcast_S_S2048x1 (constantI S_ 32 1#32))) (broadcastInDim S2048x1 ![] bcast_S_S2048x1 (constant S_ .f32 0x3F800000#32)) (select (cmpi .eq (andi (iotaInDim S2048x1 32 0) (broadcastInDim S2048x1 ![] bcast_S_S2048x1 (constantI S_ 32 3#32))) (broadcastInDim S2048x1 ![] bcast_S_S2048x1 (constantI S_ 32 3#32))) (broadcastInDim S2048x1 ![] bcast_S_S2048x1 (constant S_ .f32 0xBF800000#32)) (broadcastInDim S2048x1 ![] bcast_S_S2048x1 (constant S_ .f32 0x00000000#32))))))) (constant S_ .f32 0x00000000#32) reducesTo_S2048x2048_S2048_d0 h_S_) (broadcastInDim S2048 ![] bcast_S_S2048 (constant S_ .f32 0xBA000000#32))))⟩] concatenates_S1x2048_S1x2048_S2x2048_d0

/-- The middle frequency at one element. -/
theorem TMID_at (S D : FVec Ideal S2048x2048 .f32) (r : Fin 2) (q : Fin 2048) : TMID S D (ix2 r q) =
    if r.val = 0 then (∑ n : Fin 2048, S (ix2 n q) * quarter 0#32 2#32 n) * Ideal.ofBits FTy.f32 0x3A000000#32
    else (∑ n : Fin 2048, D (ix2 n q) * quarter 1#32 3#32 n) * Ideal.ofBits FTy.f32 0xBA000000#32 := by
  pointwise [TMID, quarter, id_eq, Nat.lt_one_iff, dite_eq_ite]

section Results

variable (m' : (ℓ : Loc nD τ sig) → Buf (Elt Ideal) ℓ) (c : Dev nD)

/-- The reference's second layer, of its arguments. -/
abbrev hidden (n : Fin 2048) (j : Fin 64) : EReal :=
  layer2 (m' (c.tc.loc main_arg0)) (m' (c.tc.loc main_arg1)) (m' (c.tc.loc main_arg2)) (m' (c.tc.loc main_arg3)) (m' (c.tc.loc main_arg4))
    (m' (c.tc.loc main_arg5)) n j

/-- The reference's second layer, as an array. -/
abbrev HID : FVec Ideal S2048x64 .f32 :=
  L2 (m' (c.tc.loc main_arg0)) (m' (c.tc.loc main_arg1)) (m' (c.tc.loc main_arg2)) (m' (c.tc.loc main_arg3)) (m' (c.tc.loc main_arg4))
    (m' (c.tc.loc main_arg5))

/-- The reference's second layer is the closed form. -/
theorem HID_eq : (fun n j => HID m' c (ix2 n j)) = hidden m' c := by
  funext n j
  exact L2_at _ _ _ _ _ _ n j

/-- The reference's first result. -/
theorem ref_s : (Value.res_out0 m' c : FVec Ideal S2048x2048 .bf16) = GS (hidden m' c) (m' (c.tc.loc main_arg6)) := by
  funext y
  idx_vars y
  rw [← HID_eq m' c]
  exact (SPLIT_at (SS (HID m' c) (m' (c.tc.loc main_arg6))) y0 y1).trans (SS_at _ _ _ _)

/-- The reference's second result. -/
theorem ref_d : (Value.res_out1 m' c : FVec Ideal S2048x2048 .bf16) = GD (hidden m' c) (m' (c.tc.loc main_arg6)) := by
  funext y
  idx_vars y
  rw [← HID_eq m' c]
  exact (SPLIT_at (DD (HID m' c) (m' (c.tc.loc main_arg6))) y0 y1).trans (DD_at _ _ _ _)

/-- The reference's third result. -/
theorem ref_t : (Value.res_out2 m' c : FVec Ideal S2x2048 .f32) = GT (hidden m' c) (m' (c.tc.loc main_arg6)) := by
  funext y
  idx_vars y
  rw [← HID_eq m' c]
  refine (TMID_at (SS (HID m' c) (m' (c.tc.loc main_arg6))) (DD (HID m' c) (m' (c.tc.loc main_arg6))) y0 y1).trans ?_
  simp only [SS_at, DD_at]
  rfl

/-- The reference's fourth result. -/
theorem ref_w (hs : S2048x9216.Slices ![1024, 0] S1024x9216) (w : FVec Ideal S2048x9216 .f32) (hb) :
    (truncf .bf16 (extractStridedSlice S1024x9216 ![1024, 0] w hs) hb : FVec Ideal S1024x9216 .bf16) = GW w := by
  funext y
  idx_vars y
  pointwise [GW]

end Results

end Cert.Proof.Mlp

end
-- ==== Proof.MlpBody.lean ====
/- What the body of the filters' kernel (`KernelMlp`) computes at one grid point, over whatever its blocks and its scratch hold. -/
module

public import proofs.«01_k».proof.Proof.Gen.KernelMlpIdeal.Value
public import proofs.«01_k».proof.Proof.MlpRef
public import proofs.«01_k».proof.Proof.Reads
public import Idealize.ShloMosaic.Lib.Pipeline.ValueKit
public import Idealize.ShloMosaic.Lib.Pipeline.StridedRows
public import Idealize.ShloMosaic.Lib.Pipeline.CanonAppend

@[expose] public section

set_option maxRecDepth 16384

noncomputable section

namespace Cert.Proof.Mlp

open Cert.KernelMlpIdeal Cert.KernelMlpIdeal.Gen
open Idealize.ShloMosaic Idealize.ShloMosaic.TcCoe Idealize.SL.Sem
open Idealize.ShloMosaic.Pipeline (Dat)

variable (m : (ℓ : Loc nD τ sig) → Buf (Elt Ideal) ℓ)

/-- The network's weights and biases as the kernel's caller packs them: one row per hidden unit, its weights and biases along the columns. -/
def PACK (w1 : FVec Ideal S33x64 .f32) (b1 f1 : FVec Ideal S1x64 .f32) (w2 : FVec Ideal S64x64 .f32) (b2 f2 : FVec Ideal S1x64 .f32) :
    FVec Ideal S64x128 .f32 :=
  pad S64x128 ![0, 0] ![0, 27] ![0, 0]
    (concatenate S64x101 1
      [⟨S64x33, transpose S64x33 [1, 0] w1 transposes_S33x64_S64x33_1_0⟩, ⟨S64x1, shapeCast S64x1 b1 shapeCasts_S1x64_S64x1⟩,
        ⟨S64x1, shapeCast S64x1 f1 shapeCasts_S1x64_S64x1⟩, ⟨S64x1, shapeCast S64x1 b2 shapeCasts_S1x64_S64x1⟩,
        ⟨S64x1, shapeCast S64x1 f2 shapeCasts_S1x64_S64x1⟩, ⟨S64x64, transpose S64x64 [1, 0] w2 transposes_S64x64_S64x64_1_0⟩]
      concatenates_S64x33_S64x1_S64x1_S64x1_S64x1_S64x64_S64x101_d1)
    (sitofp FTy.f32 (constantI S_ 32 0#32)) pads_S64x101_S64x128_000_0270 h_S_

/-- The packed array the kernel finds is that of its own arguments. -/
theorem V_pack (c : Dev nD) : (V m c main_v7 : FVec Ideal S64x128 .f32)
    = PACK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold V
  simp only [hostOps0, hostOps0_1, StableHlo.TRef.unary, StableHlo.TRef.binary, StableHlo.TRef.toBuf, StableHlo.TRef.ofBuf, cast_eq, List.flatten_cons, List.flatten_nil, List.append_nil, List.cons_append, List.nil_append]
  after_results_simp <;> rfl

section Packed

variable (w1 : FVec Ideal S33x64 .f32) (b1 f1 : FVec Ideal S1x64 .f32) (w2 : FVec Ideal S64x64 .f32) (b2 f2 : FVec Ideal S1x64 .f32)

/-- Where the first layer's weights lie. -/
theorem pack_w1 (k : Fin 64) (j : Fin 33) (q : Fin 128) (hq : q.val = j.val) : PACK w1 b1 f1 w2 b2 f2 (ix2 k q) = w1 (ix2 j k) := by
  obtain rfl : q = ⟨j.val, Nat.lt_of_lt_of_le j.isLt (by decide)⟩ := Fin.ext hq
  pointwise [PACK]
  rw [dif_pos (by omega)]

/-- Where the first layer's bias lies. -/
theorem pack_b1 (k : Fin 64) : PACK w1 b1 f1 w2 b2 f2 (ix2 k 33) = b1 (ix2 0 k) := by
  pointwise [PACK]

/-- Where the first layer's frequencies lie. -/
theorem pack_f1 (k : Fin 64) : PACK w1 b1 f1 w2 b2 f2 (ix2 k 34) = f1 (ix2 0 k) := by
  pointwise [PACK]

/-- Where the second layer's bias lies. -/
theorem pack_b2 (k : Fin 64) : PACK w1 b1 f1 w2 b2 f2 (ix2 k 35) = b2 (ix2 0 k) := by
  pointwise [PACK]

/-- Where the second layer's frequencies lie. -/
theorem pack_f2 (k : Fin 64) : PACK w1 b1 f1 w2 b2 f2 (ix2 k 36) = f2 (ix2 0 k) := by
  pointwise [PACK]

/-- Where the second layer's weights lie. -/
theorem pack_w2 (k j : Fin 64) : PACK w1 b1 f1 w2 b2 f2 (ix2 k ⟨37 + j.val, by omega⟩) = w2 (ix2 j k) := by
  pointwise [PACK]
  rw [dif_pos (by omega), dif_neg (by omega), dif_neg (by omega), dif_neg (by omega), dif_neg (by omega), dif_neg (by omega)]
  exact congrArg (fun i => w2 (ix2 i k)) (Fin.ext (show 37 + j.val - 33 - 1 - 1 - 1 - 1 = j.val by omega))

/-- The network's first layer over the packed array. -/
def first (p : FVec Ideal S64x128 .f32) (r : Fin 2048) (x : Fin 64) : EReal :=
  Ideal.sin (p (ix2 x 34) * (p (ix2 x 0) * time r + ∑ b : Fin 16, p (ix2 x ⟨1 + b.val, by omega⟩) * Ideal.cos (angle b r)
    - ∑ b : Fin 16, p (ix2 x ⟨17 + b.val, by omega⟩) * Ideal.sin (angle b r) + p (ix2 x 33)))

/-- The network as the body computes it, at one element. -/
theorem pay2_at (p : FVec Ideal S64x128 .f32) (r : Fin 2048) (k : Fin 64) : k0_pay4 (k0_pay2 (F := Ideal) p) (ix2 r k)
    = Ideal.sin (p (ix2 k 36) * (∑ x : Fin 64, p (ix2 k ⟨37 + x.val, by omega⟩) * first p r x + p (ix2 k 35))) := by
  pointwise [k0_pay4, k0_pay2, first, time, angle]

/-- The body's first layer over the packed arguments. -/
theorem first_pack (r : Fin 2048) (x : Fin 64) : first (PACK w1 b1 f1 w2 b2 f2) r x = layer1 w1 b1 f1 r x := by
  unfold first layer1
  rw [pack_f1, pack_b1, pack_w1 _ _ _ _ _ _ x 0 0 rfl, mul_comm (w1 (ix2 0 x)) (time r)]
  have hc : ∀ b : Fin 16, PACK w1 b1 f1 w2 b2 f2 (ix2 x ⟨1 + b.val, by omega⟩) * Ideal.cos (angle b r)
      = Ideal.cos (angle b r) * w1 (ix2 ⟨1 + b.val, by omega⟩ x) := fun b => by
    rw [pack_w1 _ _ _ _ _ _ x ⟨1 + b.val, by omega⟩ _ rfl, mul_comm]
  have hs : ∀ b : Fin 16, PACK w1 b1 f1 w2 b2 f2 (ix2 x ⟨17 + b.val, by omega⟩) * Ideal.sin (angle b r)
      = Ideal.sin (angle b r) * w1 (ix2 ⟨17 + b.val, by omega⟩ x) := fun b => by
    rw [pack_w1 _ _ _ _ _ _ x ⟨17 + b.val, by omega⟩ _ rfl, mul_comm]
  simp only [hc, hs]

/-- The body's network over the packed arguments. -/
theorem net_pack (r : Fin 2048) (k : Fin 64) : k0_pay4 (k0_pay2 (F := Ideal) (PACK w1 b1 f1 w2 b2 f2)) (ix2 r k) = layer2 w1 b1 f1 w2 b2 f2 r k := by
  rw [pay2_at, pack_f2, pack_b2]
  have hx : ∀ x : Fin 64, PACK w1 b1 f1 w2 b2 f2 (ix2 k ⟨37 + x.val, by omega⟩) * first (PACK w1 b1 f1 w2 b2 f2) r x
      = layer1 w1 b1 f1 r x * w2 (ix2 x k) := fun x => by rw [pack_w2, first_pack, mul_comm]
  simp only [hx]
  rfl

end Packed

section Body

variable (i : grid0.Coords) (h : FVec Ideal S2048x64 .f32) (u v : FVec Ideal S64x256 .f32)

/-- The row numbers of a block. -/
abbrev rowsI : IVec S2048x256 32 := iota Kind.tc S2048x256 32 [0] iota_S2048x256_d0_w32

/-- The channel number the window uses. -/
theorem chan_bits (a k : ℕ) : IntOp.addi (Scalar.muli (BitVec.ofNat 32 a) 256#32) (BitVec.ofNat 32 k) = BitVec.ofNat 32 (a * 256 + k) := by
  simp only [IntOp.addi, Scalar.muli, IntOp.muli, BitVec.ofNat_add, BitVec.ofNat_mul]

/-- The forward block as the body computes it. -/
theorem pay6_at (r : Fin 2048) (k : Fin 256) : k0_pay6 (F := Ideal) i h u (ix2 r k)
    = (∑ j : Fin 64, h (ix2 r j) * u (ix2 j k)) * decay r ((i 1).val * 256 + k.val) := by
  pointwise [k0_pay6, k0_pay5, decay, time]
  rw [chan_bits, zero_sub]

/-- The backward block as the body computes it. -/
theorem pay7_at (r : Fin 2048) (k : Fin 256) : k0_pay7 (F := Ideal) i h v (ix2 r k)
    = (∑ j : Fin 64, h (ix2 r j) * v (ix2 j k)) * decay r ((i 1).val * 256 + k.val) := by
  pointwise [k0_pay7, k0_pay5, decay, time]
  rw [chan_bits, zero_sub]

variable (a b : FVec Ideal S2048x256 .f32)

/-- A column's sum of absolute values as the body computes it. -/
def colTotal (k : Fin 256) : EReal := ∑ x : Fin 2048, FloatOps.absf (F := Ideal) (φ := .f32) (a (ix2 x k))
  + ∑ x : Fin 2048, FloatOps.absf (F := Ideal) (φ := .f32) (past x (b (ix2 x k)))

/-- The normalized sum as the body computes it. -/
theorem pay10_at (r : Fin 2048) (k : Fin 256) : k0_pay10 (F := Ideal) a b rowsI (ix2 r k)
    = (a (ix2 r k) + past r (b (ix2 r k))) * Ideal.div 1 (colTotal a b k) := by
  pointwise [k0_pay10, k0_pay9, k0_pay8, past, colTotal, rowsI]

/-- The normalized difference as the body computes it. -/
theorem pay11_at (r : Fin 2048) (k : Fin 256) : k0_pay11 (F := Ideal) a b rowsI (ix2 r k)
    = (a (ix2 r k) - past r (b (ix2 r k))) * Ideal.div 1 (colTotal a b k) := by
  pointwise [k0_pay11, k0_pay9, k0_pay8, past, colTotal, rowsI]

/-- The middle frequency's first row as the body computes it. -/
theorem pay15_at (r : Fin 1) (k : Fin 256) : k0_pay15 (F := Ideal) (k0_pay14 a b rowsI) (FloatOps.ofBits FTy.f32 0x3A000000#32) (ix2 r k)
    = (∑ x : Fin 2048, k0_pay10 (F := Ideal) a b rowsI (ix2 x k) * quarter 0#32 2#32 x) * Ideal.ofBits FTy.f32 0x3A000000#32 := by
  pointwise [k0_pay15, k0_pay14, k0_pay12, quarter, rowsI]

/-- The middle frequency's second row as the body computes it. -/
theorem pay16_at (r : Fin 1) (k : Fin 256) : k0_pay16 (F := Ideal) a (k0_pay13 rowsI) (ix2 r k)
    = (∑ x : Fin 2048, a (ix2 x k) * quarter 1#32 3#32 x) * Ideal.ofBits FTy.f32 0xBA000000#32 := by
  pointwise [k0_pay16, k0_pay13, k0_pay12, quarter, rowsI]

/-- The two lane groups of a block as one function of the scratch's index. -/
def held (y : S2x2048x128.Idx) : EReal := a (ix2 (y 1) ⟨(y 0).val * 128 + (y 2).val, by
  have h0 : (y 0).val < 2 := (y 0).isLt
  have h2 : (y 2).val < 128 := (y 2).isLt
  omega⟩)

/-- A store of a lane group agrees with `held`. -/
theorem store_good (g : Fin 2) (inb : ∀ a, (![g.val, 0, 0] : Fin 3 → Nat) a + S1x2048x128.size a ≤ S2x2048x128.size a)
    (w : FVec Ideal S1x2048x128 .f32) (hw : ∀ (r : Fin 2048) (l : Fin 128), w (ix3 0 r l) = a (ix2 r ⟨g.val * 128 + l.val, by omega⟩)) (x : S1x2048x128.Idx) :
    w x = held a ((Rect.unit (s := S2x2048x128) ![g.val, 0, 0] S1x2048x128.size inb).emb x) := by
  have hx : w x = a (ix2 (x 1) ⟨g.val * 128 + (x 2).val, by have : (x 2).val < 128 := (x 2).isLt; omega⟩) := by
    idx_vars x
    exact (congrArg (fun a => w (ix3 a _ _)) (Subsingleton.elim _ _)).trans (hw _ _)
  have b0 : (x 0).val < 1 := (x 0).isLt
  have e0 : ((Rect.unit (s := S2x2048x128) ![g.val, 0, 0] S1x2048x128.size inb).emb x) 0 = g :=
    Fin.ext (show g.val + 1 * (x 0).val = g.val by omega)
  have e1 : ((Rect.unit (s := S2x2048x128) ![g.val, 0, 0] S1x2048x128.size inb).emb x) 1 = x 1 :=
    Fin.ext (show 0 + 1 * (x 1).val = (x 1).val by omega)
  have e2 : ((Rect.unit (s := S2x2048x128) ![g.val, 0, 0] S1x2048x128.size inb).emb x) 2 = x 2 :=
    Fin.ext (show 0 + 1 * (x 2).val = (x 2).val by omega)
  rw [hx]
  unfold held
  simp only [e0, e1, e2]

/-- Where a store of a lane group lies. -/
theorem mem_store (g : ℕ) (inb : ∀ a, (![g, 0, 0] : Fin 3 → Nat) a + S1x2048x128.size a ≤ S2x2048x128.size a) (y : S2x2048x128.Idx)
    (h0 : (y 0).val = g) : y ∈ (Rect.unit (s := S2x2048x128) ![g, 0, 0] S1x2048x128.size inb).set := by
  have b1 : (y 1).val < 2048 := (y 1).isLt
  have b2 : (y 2).val < 128 := (y 2).isLt
  rw [LoadRect.mem_set]
  intro a
  match a with
  | ⟨0, _⟩ => exact ⟨0, Nat.one_pos, show (y 0).val = g + 1 * 0 by omega⟩
  | ⟨1, _⟩ => exact ⟨(y 1).val, b1, show (y 1).val = 0 + 1 * (y 1).val by omega⟩
  | ⟨2, _⟩ => exact ⟨(y 2).val, b2, show (y 2).val = 0 + 1 * (y 2).val by omega⟩

/-- The two stores of a block's lane groups, newest first. -/
abbrev pair (p0 p1 : FVec Ideal S1x2048x128 .f32) : List (View.Piece (Elt Ideal) S2x2048x128 .f32) :=
  [⟨Rect.unit (s := S2x2048x128) ![1, 0, 0] S1x2048x128.size inb_S2x2048x128_S1x2048x128_1_0_0, p1⟩,
    ⟨Rect.unit (s := S2x2048x128) ![0, 0, 0] S1x2048x128.size inb_S2x2048x128_S1x2048x128_0_0_0, p0⟩]

/-- A read of every other row of lane group `g` from row `o` on, after the two stores and any before them. -/
theorem slab {sig' : RefSig} {κ : Kind} {sp : Space} (w : View sig' κ sp S2x2048x128 .f32) (p0 p1 : FVec Ideal S1x2048x128 .f32)
    (L : List (View.Piece (Elt Ideal) S2x2048x128 .f32))
    (h0 : ∀ (r : Fin 2048) (l : Fin 128), p0 (ix3 0 r l) = a (ix2 r ⟨0 * 128 + l.val, by omega⟩))
    (h1 : ∀ (r : Fin 2048) (l : Fin 128), p1 (ix3 0 r l) = a (ix2 r ⟨1 * 128 + l.val, by omega⟩)) (g o : Fin 2)
    (inb : ∀ a, S1x1024x128.size a = 0 ∨ (![g.val, o.val, 0] : Fin 3 → Nat) a + (![1, 2, 1] : Fin 3 → Nat) a * (S1x1024x128.size a - 1) < S2x2048x128.size a)
    (n : Fin 1024) (l : Fin 128) :
    w.readCov (pair p0 p1 ++ L) (⟨![g.val, o.val, 0], S1x1024x128.size, ![1, 2, 1], inb⟩ : LoadRect S2x2048x128) (ix3 0 n l : S1x1024x128.Idx)
      = a (ix2 ⟨o.val + 2 * n.val, by omega⟩ ⟨g.val * 128 + l.val, by omega⟩) := by
  rw [View.readCov_eq_canon']
  have e0 : ((⟨![g.val, o.val, 0], S1x1024x128.size, ![1, 2, 1], inb⟩ : LoadRect S2x2048x128).idx (ix3 0 n l : S1x1024x128.Idx)) 0 = g := rfl
  have e1 : ((⟨![g.val, o.val, 0], S1x1024x128.size, ![1, 2, 1], inb⟩ : LoadRect S2x2048x128).idx (ix3 0 n l : S1x1024x128.Idx)) 1 = (⟨o.val + 2 * n.val, by omega⟩ : Fin 2048) := rfl
  have e2 : ((⟨![g.val, o.val, 0], S1x1024x128.size, ![1, 2, 1], inb⟩ : LoadRect S2x2048x128).idx (ix3 0 n l : S1x1024x128.Idx)) 2 = l :=
    Fin.ext (show 0 + 1 * l.val = l.val by omega)
  refine (View.canon_append_of_pieces (held a) L (pair p0 p1) ?_ _ ?_).trans ?_
  · exact List.forall_mem_cons.2 ⟨store_good a 1 inb_S2x2048x128_S1x2048x128_1_0_0 _ h1,
      List.forall_mem_cons.2 ⟨store_good a 0 inb_S2x2048x128_S1x2048x128_0_0_0 _ h0, fun p hp => absurd hp List.not_mem_nil⟩⟩
  · have hg : g.val = 0 ∨ g.val = 1 := by omega
    rcases hg with hg | hg
    · exact ⟨_, List.getElem_mem (l := pair p0 p1) (n := 1) (show 1 < 2 by decide), mem_store 0 inb_S2x2048x128_S1x2048x128_0_0_0 _ ((congrArg Fin.val e0).trans hg)⟩
    · exact ⟨_, List.getElem_mem (l := pair p0 p1) (n := 0) (show 0 < 2 by decide), mem_store 1 inb_S2x2048x128_S1x2048x128_1_0_0 _ ((congrArg Fin.val e0).trans hg)⟩
  · unfold held
    simp only [e0, e1, e2]

/-- The stores of the sums' lane groups. -/
abbrev scrS : List (View.Piece (Elt Ideal) S2x2048x128 .f32) := pair (k0_pay17 a) (k0_pay18 a)

/-- The stores of the differences' lane groups, and those of the sums before them. -/
abbrev scrD : List (View.Piece (Elt Ideal) S2x2048x128 .f32) := pair (k0_pay23 b) (k0_pay24 b) ++ scrS a

/-- A strided read of the sums, at one element. -/
theorem slabS {sig' : RefSig} {κ : Kind} {sp : Space} (w : View sig' κ sp S2x2048x128 .f32) (g o : Fin 2) (inb) (n : Fin 1024) (l : Fin 128) :
    w.readCov (scrS a) (⟨![g.val, o.val, 0], S1x1024x128.size, ![1, 2, 1], inb⟩ : LoadRect S2x2048x128) (ix3 0 n l : S1x1024x128.Idx)
      = a (ix2 ⟨o.val + 2 * n.val, by omega⟩ ⟨g.val * 128 + l.val, by omega⟩) := by
  refine slab a w (k0_pay17 a) (k0_pay18 a) [] (fun r l => ?_) (fun r l => ?_) g o inb n l
  · pointwise [k0_pay17]
  · pointwise [k0_pay18]

/-- A strided read of the differences, at one element. -/
theorem slabD {sig' : RefSig} {κ : Kind} {sp : Space} (w : View sig' κ sp S2x2048x128 .f32) (g o : Fin 2) (inb) (n : Fin 1024) (l : Fin 128) :
    w.readCov (scrD a b) (⟨![g.val, o.val, 0], S1x1024x128.size, ![1, 2, 1], inb⟩ : LoadRect S2x2048x128) (ix3 0 n l : S1x1024x128.Idx)
      = b (ix2 ⟨o.val + 2 * n.val, by omega⟩ ⟨g.val * 128 + l.val, by omega⟩) := by
  refine slab b w (k0_pay23 b) (k0_pay24 b) (scrS a) (fun r l => ?_) (fun r l => ?_) g o inb n l
  · pointwise [k0_pay23]
  · pointwise [k0_pay24]

/-- A strided read of the scratch. -/
abbrev rd (g o : Fin 2) (inb : ∀ a, S1x1024x128.size a = 0 ∨ (![g.val, o.val, 0] : Fin 3 → Nat) a + (![1, 2, 1] : Fin 3 → Nat) a * (S1x1024x128.size a - 1) < S2x2048x128.size a) :
    LoadRect S2x2048x128 := ⟨![g.val, o.val, 0], S1x1024x128.size, ![1, 2, 1], inb⟩

/-- The block of sums a point leaves. -/
def BS : FVec Ideal S2048x256 .bf16 := View.canon (Val := Elt Ideal) (s := S2048x256) (e := .bf16)
  [⟨Rect.unit (s := S2048x256) ![1024, 128] S1024x128.size inb_S2048x256_S1024x128_1024_128, k0_pay22 (F := Ideal) ((View.whole cc0_scratch1).readCov (scrS a) ⟨![1, 1, 0], S1x1024x128.size, ![1, 2, 1], inb_S2x2048x128_S1x1024x128_1_1_0_s_1_2_1⟩)⟩,
    ⟨Rect.unit (s := S2048x256) ![0, 128] S1024x128.size inb_S2048x256_S1024x128_0_128, k0_pay21 (F := Ideal) ((View.whole cc0_scratch1).readCov (scrS a) ⟨![1, 0, 0], S1x1024x128.size, ![1, 2, 1], inb_S2x2048x128_S1x1024x128_1_0_0_s_1_2_1⟩)⟩,
    ⟨Rect.unit (s := S2048x256) ![1024, 0] S1024x128.size inb_S2048x256_S1024x128_1024_0, k0_pay20 (F := Ideal) ((View.whole cc0_scratch1).readCov (scrS a) ⟨![0, 1, 0], S1x1024x128.size, ![1, 2, 1], inb_S2x2048x128_S1x1024x128_0_1_0_s_1_2_1⟩)⟩,
    ⟨Rect.unit (s := S2048x256) ![0, 0] S1024x128.size inb_S2048x256_S1024x128_0_0, k0_pay19 (F := Ideal) ((View.whole cc0_scratch1).readCov (scrS a) ⟨![0, 0, 0], S1x1024x128.size, ![1, 2, 1], inb_S2x2048x128_S1x1024x128_0_0_0_s_1_2_1⟩)⟩]

/-- The block of differences a point leaves. -/
def BD : FVec Ideal S2048x256 .bf16 := View.canon (Val := Elt Ideal) (s := S2048x256) (e := .bf16)
  [⟨Rect.unit (s := S2048x256) ![1024, 128] S1024x128.size inb_S2048x256_S1024x128_1024_128, k0_pay1 (F := Ideal) ((View.whole cc0_scratch1).readCov (scrD a b) ⟨![1, 1, 0], S1x1024x128.size, ![1, 2, 1], inb_S2x2048x128_S1x1024x128_1_1_0_s_1_2_1⟩)⟩,
    ⟨Rect.unit (s := S2048x256) ![0, 128] S1024x128.size inb_S2048x256_S1024x128_0_128, k0_pay27 (F := Ideal) ((View.whole cc0_scratch1).readCov (scrD a b) ⟨![1, 0, 0], S1x1024x128.size, ![1, 2, 1], inb_S2x2048x128_S1x1024x128_1_0_0_s_1_2_1⟩)⟩,
    ⟨Rect.unit (s := S2048x256) ![1024, 0] S1024x128.size inb_S2048x256_S1024x128_1024_0, k0_pay26 (F := Ideal) ((View.whole cc0_scratch1).readCov (scrD a b) ⟨![0, 1, 0], S1x1024x128.size, ![1, 2, 1], inb_S2x2048x128_S1x1024x128_0_1_0_s_1_2_1⟩)⟩,
    ⟨Rect.unit (s := S2048x256) ![0, 0] S1024x128.size inb_S2048x256_S1024x128_0_0, k0_pay25 (F := Ideal) ((View.whole cc0_scratch1).readCov (scrD a b) ⟨![0, 0, 0], S1x1024x128.size, ![1, 2, 1], inb_S2x2048x128_S1x1024x128_0_0_0_s_1_2_1⟩)⟩]

/-- The lag in row `p` of a block. -/
theorem at_lag (q : FVec Ideal S2048x256 .f32) (y : S2048x256.Idx) (g o : Fin 2) (n : Fin 1024) (l : Fin 128) (h0 : (y 0).val = o.val * 1024 + n.val)
    (h1 : (y 1).val = g.val * 128 + l.val) :
    q (ix2 ⟨o.val + 2 * n.val, by omega⟩ ⟨g.val * 128 + l.val, by omega⟩) = q (ix2 (lag (y 0)) (y 1)) := by
  refine congrArg q (congrArg₂ ix2 (Fin.ext ?_) (Fin.ext h1.symm))
  show o.val + 2 * n.val = (y 0).val % 1024 * 2 + (y 0).val / 1024
  omega

/-- The block of sums at one element. -/
theorem BS_at (y : S2048x256.Idx) : BS a y = a (ix2 (lag (y 0)) (y 1)) := by
  unfold BS
  canon_tiles x h
  case piece0 =>
    idx_vars x
    refine Eq.trans ?_ (((slabS a (View.whole cc0_scratch1) 1 1 inb_S2x2048x128_S1x1024x128_1_1_0_s_1_2_1 x0 x1)).trans
      (at_lag a y 1 1 x0 x1 (by show (y 0).val = 1 * 1024 + x0.val; first | exact h0.trans (by show _ = _; omega) | omega) (by show (y 1).val = 1 * 128 + x1.val; first | exact h1.trans (by show _ = _; omega) | omega)))
    pointwise [k0_pay22]
  case piece1 =>
    idx_vars x
    refine Eq.trans ?_ (((slabS a (View.whole cc0_scratch1) 1 0 inb_S2x2048x128_S1x1024x128_1_0_0_s_1_2_1 x0 x1)).trans
      (at_lag a y 1 0 x0 x1 (by show (y 0).val = 0 * 1024 + x0.val; first | exact h0.trans (by show _ = _; omega) | omega) (by show (y 1).val = 1 * 128 + x1.val; first | exact h1.trans (by show _ = _; omega) | omega)))
    pointwise [k0_pay21]
  case piece2 =>
    idx_vars x
    refine Eq.trans ?_ (((slabS a (View.whole cc0_scratch1) 0 1 inb_S2x2048x128_S1x1024x128_0_1_0_s_1_2_1 x0 x1)).trans
      (at_lag a y 0 1 x0 x1 (by show (y 0).val = 1 * 1024 + x0.val; first | exact h0.trans (by show _ = _; omega) | omega) (by show (y 1).val = 0 * 128 + x1.val; first | exact h1.trans (by show _ = _; omega) | omega)))
    pointwise [k0_pay20]
  case piece3 =>
    idx_vars x
    refine Eq.trans ?_ (((slabS a (View.whole cc0_scratch1) 0 0 inb_S2x2048x128_S1x1024x128_0_0_0_s_1_2_1 x0 x1)).trans
      (at_lag a y 0 0 x0 x1 (by show (y 0).val = 0 * 1024 + x0.val; first | exact h0.trans (by show _ = _; omega) | omega) (by show (y 1).val = 0 * 128 + x1.val; first | exact h1.trans (by show _ = _; omega) | omega)))
    pointwise [k0_pay19]

/-- The block of differences at one element. -/
theorem BD_at (y : S2048x256.Idx) : BD a b y = b (ix2 (lag (y 0)) (y 1)) := by
  unfold BD
  canon_tiles x h
  case piece0 =>
    idx_vars x
    refine Eq.trans ?_ (((slabD a b (View.whole cc0_scratch1) 1 1 inb_S2x2048x128_S1x1024x128_1_1_0_s_1_2_1 x0 x1)).trans
      (at_lag b y 1 1 x0 x1 (by show (y 0).val = 1 * 1024 + x0.val; first | exact h0.trans (by show _ = _; omega) | omega) (by show (y 1).val = 1 * 128 + x1.val; first | exact h1.trans (by show _ = _; omega) | omega)))
    pointwise [k0_pay1]
  case piece1 =>
    idx_vars x
    refine Eq.trans ?_ (((slabD a b (View.whole cc0_scratch1) 1 0 inb_S2x2048x128_S1x1024x128_1_0_0_s_1_2_1 x0 x1)).trans
      (at_lag b y 1 0 x0 x1 (by show (y 0).val = 0 * 1024 + x0.val; first | exact h0.trans (by show _ = _; omega) | omega) (by show (y 1).val = 1 * 128 + x1.val; first | exact h1.trans (by show _ = _; omega) | omega)))
    pointwise [k0_pay27]
  case piece2 =>
    idx_vars x
    refine Eq.trans ?_ (((slabD a b (View.whole cc0_scratch1) 0 1 inb_S2x2048x128_S1x1024x128_0_1_0_s_1_2_1 x0 x1)).trans
      (at_lag b y 0 1 x0 x1 (by show (y 0).val = 1 * 1024 + x0.val; first | exact h0.trans (by show _ = _; omega) | omega) (by show (y 1).val = 0 * 128 + x1.val; first | exact h1.trans (by show _ = _; omega) | omega)))
    pointwise [k0_pay26]
  case piece3 =>
    idx_vars x
    refine Eq.trans ?_ (((slabD a b (View.whole cc0_scratch1) 0 0 inb_S2x2048x128_S1x1024x128_0_0_0_s_1_2_1 x0 x1)).trans
      (at_lag b y 0 0 x0 x1 (by show (y 0).val = 0 * 1024 + x0.val; first | exact h0.trans (by show _ = _; omega) | omega) (by show (y 1).val = 0 * 128 + x1.val; first | exact h1.trans (by show _ = _; omega) | omega)))
    pointwise [k0_pay25]

end Body

end Cert.Proof.Mlp

end
-- ==== Proof.MlpValue.lean ====
/- The filters (`KernelMlp`): what a grid point leaves in its blocks is the closed forms at the block's place. -/
module

public import proofs.«01_k».proof.Proof.MlpBody

@[expose] public section

set_option maxRecDepth 16384

noncomputable section

namespace Cert.Proof.Mlp

open Cert.KernelMlpIdeal Cert.KernelMlpIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`. -/
theorem idx : ∀ t : Fin cfg0.N,
    win0_0.index t = ![0, 0] ∧ win0_1.index t = ![0, t.val / 4 * 8 + t.val % 4] ∧ win0_2.index t = ![0, t.val / 4 * 8 + 4 + t.val % 4] ∧
    win0_3.index t = ![8 + t.val, 0] ∧ win0_4.index t = ![0, t.val] ∧ win0_5.index t = ![0, t.val] ∧
    win0_6.index t = ![0, t.val] ∧ win0_7.index t = ![t.val, 0] :=
  (by decide +kernel : ∀ t : Fin grid0.N, _)

/-- The second coordinate of a grid point. -/
theorem coord : ∀ t : Fin cfg0.N, (grid0.coords t 1).val = t.val % 4 :=
  (by decide +kernel : ∀ t : Fin grid0.N, _)

/-- The column that column `k` of grid point `t`'s blocks is. -/
abbrev col (t : Fin cfg0.N) (k : Fin 256) : Fin 2048 := ⟨t.val * 256 + k.val, by have := lt_of_lt_of_eq t.isLt N_0; omega⟩

/-- The network's second layer, of the kernel's arguments. -/
abbrev net (c : Dev nD) (n : Fin 2048) (j : Fin 64) : EReal :=
  layer2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n j

/-- The last layer's weights. -/
abbrev w3 (c : Dev nD) : FVec Ideal S64x4096 .f32 := m ((c : Thread nD τ).loc main_arg6)

/-- The block of sums of grid point `t` from a hidden layer `h`. -/
abbrev SB (c : Dev nD) (t : Fin cfg0.N) (h : FVec Ideal S2048x64 .f32) : FVec Ideal S2048x256 .f32 :=
  k0_pay10 (F := Ideal) (k0_pay6 (grid0.coords t) h (iblk m c 1 t)) (k0_pay7 (grid0.coords t) h (iblk m c 2 t)) rowsI

/-- The block of differences of grid point `t` from a hidden layer `h`. -/
abbrev DB (c : Dev nD) (t : Fin cfg0.N) (h : FVec Ideal S2048x64 .f32) : FVec Ideal S2048x256 .f32 :=
  k0_pay11 (F := Ideal) (k0_pay6 (grid0.coords t) h (iblk m c 1 t)) (k0_pay7 (grid0.coords t) h (iblk m c 2 t)) rowsI

/-- The middle frequency's block of grid point `t` from a hidden layer `h`. -/
def BT (c : Dev nD) (t : Fin cfg0.N) (h : FVec Ideal S2048x64 .f32) : FVec Ideal S2x256 .f32 := View.canon (Val := Elt Ideal) (s := S2x256) (e := .f32)
  [⟨Rect.unit (s := S2x256) ![1, 0] S1x256.size inb_S2x256_S1x256_1_0, k0_pay16 (F := Ideal) (DB m c t h) (k0_pay13 rowsI)⟩,
    ⟨Rect.unit (s := S2x256) ![0, 0] S1x256.size inb_S2x256_S1x256_0_0, k0_pay15 (F := Ideal)
      (k0_pay14 (k0_pay6 (grid0.coords t) h (iblk m c 1 t)) (k0_pay7 (grid0.coords t) h (iblk m c 2 t)) rowsI) (FloatOps.ofBits FTy.f32 0x3A000000#32)⟩]

/-- What a point leaves in its four blocks and in the hidden layer's scratch, from the hidden layer. -/
abbrev leaves (c : Dev nD) (t : Fin cfg0.N) (h : FVec Ideal S2048x64 .f32) :
    FVec Ideal S2048x256 .bf16 × FVec Ideal S2048x256 .bf16 × FVec Ideal S2x256 .f32 × FVec Ideal S128x9216 .bf16 × FVec Ideal S2048x64 .f32 :=
  (BS (SB m c t h), BD (SB m c t h) (DB m c t h), BT m c t h, k0_pay3 (F := Ideal) (iblk m c 3 t), h)

set_option maxHeartbeats 1000000 in
/-- What the first point leaves: it computes the hidden layer. -/
theorem at_A (c : Dev nD) (t : Fin cfg0.N) (h0 : t.val % 8 = 0) :
    outsAt0 m c t.val t.isLt = leaves m c t (k0_pay4 (k0_pay2 (F := Ideal) (iblk m c 0 t))) := by
  rw [outsAt0_A m c t h0]
  frame_out
  rfl

set_option maxHeartbeats 1000000 in
/-- What any other point leaves: it keeps the hidden layer of the point before. -/
theorem at_B (c : Dev nD) (t : Fin cfg0.N) (h0 : ¬ t.val % 8 = 0) (s : FVec Ideal S2048x64 .f32)
    (hs : (outsAt0 m c (t.val - 1) (Nat.lt_of_le_of_lt (Nat.sub_le _ _) t.isLt)).2.2.2.2 = s) :
    outsAt0 m c t.val t.isLt = leaves m c t s := by
  rw [outsAt0_B m c t h0]
  frame_out
  rw [read_unread_whole, hs]
  rfl

/-- The hidden layer the first point computes is the network's. -/
theorem hidden_A (c : Dev nD) (t : Fin cfg0.N) (r : Fin 2048) (k : Fin 64) :
    k0_pay4 (k0_pay2 (F := Ideal) (iblk m c 0 t)) (ix2 r k) = net m c r k := by
  have e : (iblk m c 0 t : FVec Ideal S64x128 .f32) = PACK (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
    rw [← V_pack m c]
    funext y
    idx_vars y
    blk_point [iblk, idx t]
  rw [e]
  exact net_pack _ _ _ _ _ _ r k

/-- After every point the scratch holds the network's second layer. -/
theorem scratch (c : Dev nD) (n : ℕ) : ∀ (hn : n < cfg0.N) (r : Fin 2048) (k : Fin 64),
    (outsAt0 m c n hn).2.2.2.2 (ix2 r k) = net m c r k := by
  induction n with
  | zero =>
    intro hn r k
    rw [at_A m c ⟨0, hn⟩ rfl]
    exact hidden_A m c ⟨0, hn⟩ r k
  | succ n ih =>
    intro hn r k
    by_cases h0 : (n + 1) % 8 = 0
    · rw [at_A m c ⟨n + 1, hn⟩ h0]
      exact hidden_A m c ⟨n + 1, hn⟩ r k
    · rw [at_B m c ⟨n + 1, hn⟩ h0 _ rfl]
      exact ih (Nat.lt_of_succ_lt hn) r k

/-- At every point the blocks come from the hidden layer the point leaves. -/
theorem out_eq (c : Dev nD) (t : Fin cfg0.N) :
    outsAt0 m c t.val t.isLt = leaves m c t (outsAt0 m c t.val t.isLt).2.2.2.2 := by
  by_cases h0 : t.val % 8 = 0
  · rw [at_A m c t h0]
  · rw [at_B m c t h0 _ rfl]

section Point

variable (c : Dev nD) (t : Fin cfg0.N) (h : FVec Ideal S2048x64 .f32) (hh : ∀ r k, h (ix2 r k) = net m c r k)

/-- The window's channel within its order. -/
theorem chan (k : Fin 256) : (grid0.coords t 1).val * 256 + k.val = (col t k).val % 1024 := by
  rw [coord]
  show t.val % 4 * 256 + k.val = (t.val * 256 + k.val) % 1024
  omega

include hh in
/-- The forward block is the forward filter. -/
theorem fwd_at (r : Fin 2048) (k : Fin 256) : k0_pay6 (F := Ideal) (grid0.coords t) h (iblk m c 1 t) (ix2 r k) = fwd (net m c) (w3 m c) r (col t k) := by
  have hu : ∀ j : Fin 64, (iblk m c 1 t : FVec Ideal S64x256 .f32) (ix2 j k) = w3 m c (ix2 j (place (col t k) 0)) := fun j => by
    have he : (place (col t k) 0) = ⟨(t.val / 4 * 8 + t.val % 4) * 256 + k.val, by have := lt_of_lt_of_eq t.isLt N_0; omega⟩ :=
      Fin.ext (show (t.val * 256 + k.val) / 1024 * 2048 + 0 * 1024 + (t.val * 256 + k.val) % 1024 = (t.val / 4 * 8 + t.val % 4) * 256 + k.val by omega)
    rw [he]
    blk_point [iblk, V, idx t]
    all_goals rfl
  rw [pay6_at, chan]
  simp only [hh, hu]
  rfl

include hh in
/-- The backward block, its lag 0 left out, is the backward filter. -/
theorem bwd_at (r : Fin 2048) (k : Fin 256) :
    past r (k0_pay7 (F := Ideal) (grid0.coords t) h (iblk m c 2 t) (ix2 r k)) = bwd (net m c) (w3 m c) r (col t k) := by
  have hu : ∀ j : Fin 64, (iblk m c 2 t : FVec Ideal S64x256 .f32) (ix2 j k) = w3 m c (ix2 j (place (col t k) 1)) := fun j => by
    have he : (place (col t k) 1) = ⟨(t.val / 4 * 8 + 4 + t.val % 4) * 256 + k.val, by have := lt_of_lt_of_eq t.isLt N_0; omega⟩ :=
      Fin.ext (show (t.val * 256 + k.val) / 1024 * 2048 + 1 * 1024 + (t.val * 256 + k.val) % 1024 = (t.val / 4 * 8 + 4 + t.val % 4) * 256 + k.val by omega)
    rw [he]
    blk_point [iblk, V, idx t]
    all_goals rfl
  rw [pay7_at, chan]
  simp only [hh, hu]
  rfl

include hh in
/-- The column's sum of absolute values is the filter's. -/
theorem total_at (k : Fin 256) : colTotal (k0_pay6 (F := Ideal) (grid0.coords t) h (iblk m c 1 t)) (k0_pay7 (F := Ideal) (grid0.coords t) h (iblk m c 2 t)) k
    = total (net m c) (w3 m c) (col t k) := by
  unfold colTotal total
  simp only [fwd_at m c t h hh, bwd_at m c t h hh]

include hh in
/-- The block of sums at one element. -/
theorem sums_at (r : Fin 2048) (k : Fin 256) : SB m c t h (ix2 r k) = sums (net m c) (w3 m c) r (col t k) := by
  refine (pay10_at _ _ r k).trans ?_
  rw [fwd_at m c t h hh, bwd_at m c t h hh, total_at m c t h hh]
  rfl

include hh in
/-- The block of differences at one element. -/
theorem diffs_at (r : Fin 2048) (k : Fin 256) : DB m c t h (ix2 r k) = diffs (net m c) (w3 m c) r (col t k) := by
  refine (pay11_at _ _ r k).trans ?_
  rw [fwd_at m c t h hh, bwd_at m c t h hh, total_at m c t h hh]
  rfl

include hh in
/-- The middle frequency's block at one element. -/
theorem mid_at (y : S2x256.Idx) : BT m c t h y = mid (net m c) (w3 m c) (y 0).val (col t (y 1)) := by
  unfold BT
  canon_tiles x h
  case piece0 =>
    have e1 : y 1 = x 1 := Fin.ext h1
    have e0 : (y 0).val = 1 := by omega
    rw [e0, e1]
    idx_vars x
    refine (pay16_at _ _ _).trans ?_
    simp only [diffs_at m c t _ hh]
    rfl
  case piece1 =>
    have e1 : y 1 = x 1 := Fin.ext h1
    have e0 : (y 0).val = 0 := by omega
    rw [e0, e1]
    idx_vars x
    refine (pay15_at _ _ _ _).trans ?_
    simp only [sums_at m c t _ hh]
    rfl

include hh in
/-- The block of sums a point leaves, at one element. -/
theorem point_s (y : S2048x256.Idx) : BS (SB m c t h) y = GS (net m c) (w3 m c) (ix2 (y 0) (col t (y 1))) := by
  refine (BS_at _ y).trans ((sums_at m c t h hh (lag (y 0)) (y 1)).trans ?_)
  rfl

include hh in
/-- The block of differences a point leaves, at one element. -/
theorem point_d (y : S2048x256.Idx) : BD (SB m c t h) (DB m c t h) y = GD (net m c) (w3 m c) (ix2 (y 0) (col t (y 1))) := by
  refine (BD_at _ _ y).trans ((diffs_at m c t h hh (lag (y 0)) (y 1)).trans ?_)
  rfl

end Point

end Cert.Proof.Mlp

end
-- ==== Proof.MlpFinal.lean ====
/- The filters (`KernelMlp`): the four arrays the kernel leaves are the closed forms the reference computes. -/
module

public import proofs.«01_k».proof.Proof.MlpValue

@[expose] public section

set_option maxRecDepth 16384

noncomputable section

namespace Cert.Proof.Mlp

open Cert.KernelMlpIdeal Cert.KernelMlpIdeal.Gen
open Idealize.ShloMosaic Idealize.ShloMosaic.TcCoe Idealize.SL.Sem
open Idealize.ShloMosaic.Pipeline (Dat)

variable (m : (ℓ : Loc nD τ sig) → Buf (Elt Ideal) ℓ)

/-- The sums' block a point leaves, at one element. -/
theorem out_s (c : Dev nD) (t : Fin cfg0.N) (y : S2048x256.Idx) :
    (outsAt0 m c t.val t.isLt).1 y = GS (net m c) (w3 m c) (ix2 (y 0) (col t (y 1))) := by
  have hh := scratch m c t.val t.isLt
  rw [out_eq m c t]
  generalize (outsAt0 m c t.val t.isLt).2.2.2.2 = h at hh ⊢
  unfold leaves
  dsimp only
  exact point_s m c t h hh y

/-- The differences' block a point leaves, at one element. -/
theorem out_d (c : Dev nD) (t : Fin cfg0.N) (y : S2048x256.Idx) :
    (outsAt0 m c t.val t.isLt).2.1 y = GD (net m c) (w3 m c) (ix2 (y 0) (col t (y 1))) := by
  have hh := scratch m c t.val t.isLt
  rw [out_eq m c t]
  generalize (outsAt0 m c t.val t.isLt).2.2.2.2 = h at hh ⊢
  unfold leaves
  dsimp only
  exact point_d m c t h hh y

/-- The middle frequency's block a point leaves, at one element. -/
theorem out_t (c : Dev nD) (t : Fin cfg0.N) (y : S2x256.Idx) :
    (outsAt0 m c t.val t.isLt).2.2.1 y = mid (net m c) (w3 m c) (y 0).val (col t (y 1)) := by
  have hh := scratch m c t.val t.isLt
  rw [out_eq m c t]
  generalize (outsAt0 m c t.val t.isLt).2.2.2.2 = h at hh ⊢
  unfold leaves
  dsimp only
  exact mid_at m c t h hh y

/-- The weights' block a point leaves. -/
theorem out_w (c : Dev nD) (t : Fin cfg0.N) : (outsAt0 m c t.val t.isLt).2.2.2.1 = k0_pay3 (F := Ideal) (iblk m c 3 t) := by
  rw [out_eq m c t]

/-- The sums the kernel leaves. -/
theorem final_s (c : Dev nD) : (dats m 0 c).arrAt 4 cfg0.N = GS (net m c) (w3 m c) := by
  refine (dats m 0 c).arrAt_eq_of_covers 4 _ (by decide +kernel) fun t hf y => ?_
  blk_simp
  rw [after0_4]
  have he : ((cfg0.win 4).blk t).view.emb y = (ix2 (y 0) (col t (y 1)) : S2048x2048.Idx) := by
    blk_ext [idx t]
    all_goals rfl
  rw [he]
  exact out_s m c t y

/-- The differences the kernel leaves. -/
theorem final_d (c : Dev nD) : (dats m 0 c).arrAt 5 cfg0.N = GD (net m c) (w3 m c) := by
  refine (dats m 0 c).arrAt_eq_of_covers 5 _ (by decide +kernel) fun t hf y => ?_
  blk_simp
  rw [after0_5]
  have he : ((cfg0.win 5).blk t).view.emb y = (ix2 (y 0) (col t (y 1)) : S2048x2048.Idx) := by
    blk_ext [idx t]
    all_goals rfl
  rw [he]
  exact out_d m c t y

/-- The middle frequency the kernel leaves. -/
theorem final_t (c : Dev nD) : (dats m 0 c).arrAt 6 cfg0.N = GT (net m c) (w3 m c) := by
  refine (dats m 0 c).arrAt_eq_of_covers 6 _ (by decide +kernel) fun t hf y => ?_
  blk_simp
  rw [after0_6]
  have he : ((cfg0.win 6).blk t).view.emb y = (ix2 (y 0) (col t (y 1)) : S2x2048.Idx) := by
    blk_ext [idx t]
    all_goals rfl
  rw [he]
  exact out_t m c t y

/-- The row of the weights that row `r` of grid point `t`'s block is. -/
abbrev wrow (t : Fin cfg0.N) (r : Fin 128) : Fin 1024 := ⟨t.val * 128 + r.val, by have := lt_of_lt_of_eq t.isLt N_0; omega⟩

/-- The weights' block at one element. -/
theorem weights_at (c : Dev nD) (t : Fin cfg0.N) (y : S128x9216.Idx) :
    k0_pay3 (F := Ideal) (iblk m c 3 t) y = GW (m ((c : Thread nD τ).loc main_arg7)) (ix2 (wrow t (y 0)) (y 1)) := by
  idx_vars y
  have he : (⟨1024 + (wrow t y0).val, by have := (wrow t y0).isLt; omega⟩ : Fin 2048) = ⟨(8 + t.val) * 128 + y0.val, by have := lt_of_lt_of_eq t.isLt N_0; omega⟩ :=
    Fin.ext (show 1024 + (t.val * 128 + y0.val) = (8 + t.val) * 128 + y0.val by omega)
  show _ = m ((c : Thread nD τ).loc main_arg7) (ix2 ⟨1024 + (wrow t y0).val, _⟩ y1)
  rw [he]
  pointwise [k0_pay3]
  blk_point [iblk, V, idx t]
  all_goals rfl

/-- The cast weights the kernel leaves. -/
theorem final_w (c : Dev nD) : (dats m 0 c).arrAt 7 cfg0.N = GW (m ((c : Thread nD τ).loc main_arg7)) := by
  refine (dats m 0 c).arrAt_eq_of_covers 7 _ (by decide +kernel) fun t hf y => ?_
  blk_simp
  rw [after0_7, out_w]
  have he : ((cfg0.win 7).blk t).view.emb y = (ix2 (wrow t (y 0)) (y 1) : S1024x9216.Idx) := by
    blk_ext [idx t]
    all_goals rfl
  rw [he]
  exact weights_at m c t y

end Cert.Proof.Mlp

end
-- ==== Proof.MlpClaims.lean ====
/- The claims about the filters (`KernelMlp`): each program runs and leaves its arguments alone, idealizing changes nothing,
   and over the extended reals the kernel's result is the reference's. -/
module

public import proofs.«01_k».proof.Defs
public import proofs.«01_k».proof.Proof.Gen.KernelMlp
public import proofs.«01_k».proof.Proof.Gen.KernelMlp.Frame
public import proofs.«01_k».proof.Proof.Gen.KernelMlpIdeal
public import proofs.«01_k».proof.Proof.Gen.KernelMlpIdeal.Frame
public import proofs.«01_k».proof.Proof.Gen.ReferenceMlpIdeal
public import proofs.«01_k».proof.Proof.Gen.ReferenceMlpIdeal.Run
public import proofs.«01_k».proof.Proof.MlpFinal
public import Idealize.ShloMosaic.Lib.Claim
public import Idealize.ShloMosaic.Adequacy
public import Idealize.ShloMosaic.Init

@[expose] public section

set_option maxRecDepth 16384

noncomputable section

namespace Cert.Proof.Mlp

open Idealize.ShloMosaic Idealize.ShloMosaic.TcCoe Idealize.SL.Sem

/-- The bit-exact kernel runs, leaves its arguments unchanged and every counter at zero. -/
theorem frame_k : Cert.quiescent_KernelMlp := fun m ρ _ => Cert.KernelMlp.Gen.frame m ρ

/-- The idealized kernel runs, leaves its arguments unchanged and every counter at zero. -/
theorem frame_ki : Cert.quiescent_KernelMlpIdeal := fun m ρ _ => Cert.KernelMlpIdeal.Gen.frame m ρ

/-- The reference runs, leaves its arguments unchanged and every counter at zero: it declares no semaphore. -/
theorem frame_ri : Cert.quiescent_ReferenceMlpIdeal := fun m ρ _ =>
  (θ_run Cert.ReferenceMlpIdeal.defs _ _).mono
    (fun r h => ⟨fun c => (h c).2.2.2.2, Idealize.ShloMosaic.sem_eq_zero_of_no_sems (by decide) r.2⟩)
    (Cert.ReferenceMlpIdeal.Value.run (F := Ideal) m ρ)

/-- Idealizing the kernel rewrites nothing. -/
theorem preserves : Cert.preserves_KernelMlp_KernelMlpIdeal := trivial

/-- From equal arguments the two programs' networks are the same. -/
theorem same (m : (ℓ : Loc Cert.KernelMlpIdeal.nD Cert.KernelMlpIdeal.τ Cert.KernelMlpIdeal.sig) → Buf (Elt Ideal) ℓ)
    (m' : (ℓ : Loc Cert.ReferenceMlpIdeal.nD Cert.ReferenceMlpIdeal.τ Cert.ReferenceMlpIdeal.sig) → Buf (Elt Ideal) ℓ) (c : Dev Cert.KernelMlpIdeal.nD)
    (h0 : m' (c.tc.loc Cert.ReferenceMlpIdeal.main_arg0) = m (c.tc.loc Cert.KernelMlpIdeal.main_arg0))
    (h1 : m' (c.tc.loc Cert.ReferenceMlpIdeal.main_arg1) = m (c.tc.loc Cert.KernelMlpIdeal.main_arg1))
    (h2 : m' (c.tc.loc Cert.ReferenceMlpIdeal.main_arg2) = m (c.tc.loc Cert.KernelMlpIdeal.main_arg2))
    (h3 : m' (c.tc.loc Cert.ReferenceMlpIdeal.main_arg3) = m (c.tc.loc Cert.KernelMlpIdeal.main_arg3))
    (h4 : m' (c.tc.loc Cert.ReferenceMlpIdeal.main_arg4) = m (c.tc.loc Cert.KernelMlpIdeal.main_arg4))
    (h5 : m' (c.tc.loc Cert.ReferenceMlpIdeal.main_arg5) = m (c.tc.loc Cert.KernelMlpIdeal.main_arg5)) : hidden m' c = net m c := by
  funext n j
  unfold hidden net
  rw [h0, h1, h2, h3, h4, h5]
  all_goals rfl

/-- The kernel's four results and the reference's are equal at every index, from any arguments. -/
theorem algebraic : Cert.algebraic_KernelMlpIdeal_ReferenceMlpIdeal := by
  pair_intro
  · run_from Cert.KernelMlpIdeal.Gen.run_main m g & Cert.KernelMlpIdeal.Gen.unchanged m g
  · run_from Cert.ReferenceMlpIdeal.Value.run m' g'
    · obtain ⟨h0, h1, h2, h3, h4, h5, h6, h7⟩ := hagree c
      refine (ref_s m' c).trans ?_
      rw [same m m' c h0 h1 h2 h3 h4 h5, h6]
      exact (final_s m c).symm
    · obtain ⟨h0, h1, h2, h3, h4, h5, h6, h7⟩ := hagree c
      refine (ref_d m' c).trans ?_
      rw [same m m' c h0 h1 h2 h3 h4 h5, h6]
      exact (final_d m c).symm
    · obtain ⟨h0, h1, h2, h3, h4, h5, h6, h7⟩ := hagree c
      refine (ref_t m' c).trans ?_
      rw [same m m' c h0 h1 h2 h3 h4 h5, h6]
      exact (final_t m c).symm
    · exact (ref_w _ _ _).trans (final_w m c).symm

end Cert.Proof.Mlp

end
-- ==== Proof.SkipValue.lean ====
/- The inverse transform of the first long convolution (`KernelSkip`), its skip and its gate, the positions split by parity: the
   array the kernel leaves and the array the reference computes are one function of the arguments. -/
module

public import proofs.«01_k».proof.Proof.Gen.KernelSkipIdeal.Value
public import proofs.«01_k».proof.Proof.Gen.ReferenceSkipIdeal.Run
public import proofs.«01_k».proof.Proof.InvRef
public import Idealize.ShloMosaic.Lib.Pipeline.ValueKit

@[expose] public section

set_option maxRecDepth 16384

noncomputable section

namespace Cert.Proof.Skip

open Idealize.ShloMosaic Idealize.ShloMosaic.TcCoe Idealize.SL.Sem
open Idealize.ShloMosaic.Pipeline (Dat)
open Cert.Proof.Inv (plane even_at odd_at STACK STACK_at IDFT)

section Reference

open Cert.ReferenceSkipIdeal Cert.ReferenceSkipIdeal.Gen
open Cert.ReferenceSkipIdeal.Facts

/-- The gated output at half-position `n` of parity `p`. -/
def gated (ce se co so : FVec Ideal S1024x1024 .bf16) (w : FVec Ideal S4x4x1024x1024 .bf16) (g : FVec Ideal S4x2x1024x3072 .bf16)
    (bias : FVec Ideal S2x1024 .f32) (b : Fin 4) (p : Fin 2) (n c : Fin 1024) : EReal :=
  g (ix4 b p n ⟨1024 + c.val, by omega⟩) *
    ((if p.val = 0 then plane ce se w b 0 2 n c else plane co so w b 1 3 n c) + g (ix4 b p n ⟨c.val, by omega⟩) * bias (ix2 0 c))

/-- The result: the gated output of each parity. -/
def G (ce se co so : FVec Ideal S1024x1024 .bf16) (w : FVec Ideal S4x4x1024x1024 .bf16) (g : FVec Ideal S4x2x1024x3072 .bf16)
    (bias : FVec Ideal S2x1024 .f32) : FVec Ideal S4x2x1024x1024 .bf16 := fun y => gated ce se co so w g bias (y 0) (y 1) (y 2) (y 3)

/-- The bias's first row, everywhere. -/
def BIAS (bias : FVec Ideal S2x1024 .f32) : FVec Ideal S4x2x1024x1024 .f32 :=
  broadcastInDim S4x2x1024x1024 ![0, 1, 2, 3] bcast_S1x1x1x1024_S4x2x1024x1024_0_1_2_3
    (broadcastInDim S1x1x1x1024 ![3] bcast_S1024_S1x1x1x1024_3
      (shapeCast _ (extractStridedSlice S1x1024 ![0, 0] bias slices_S2x1024_S1x1024_0_0) shapeCasts_S1x1024_S1024))

/-- The bias at one element. -/
theorem BIAS_at (bias : FVec Ideal S2x1024 .f32) (b : Fin 4) (p : Fin 2) (n c : Fin 1024) : BIAS bias (ix4 b p n c) = bias (ix2 0 c) := by
  pointwise [BIAS]

/-- The reference's result term. -/
def REF (ce se co so : FVec Ideal S1024x1024 .bf16) (w : FVec Ideal S4x4x1024x1024 .bf16) (g : FVec Ideal S4x2x1024x3072 .bf16)
    (bias : FVec Ideal S2x1024 .f32) : FVec Ideal S4x2x1024x1024 .bf16 :=
  truncf .bf16 (mulf (extractStridedSlice S4x2x1024x1024 ![0, 0, 0, 1024] (extf .f32 g bitsLt_bf16_f32) slices_S4x2x1024x3072_S4x2x1024x1024_0_0_0_1024)
    (addf (STACK (IDFT _ _ slices_S4x4x1024x1024_S4x1x1024x1024_0_0_0_0 slices_S4x4x1024x1024_S4x1x1024x1024_0_2_0_0 ce se w)
        (IDFT _ _ slices_S4x4x1024x1024_S4x1x1024x1024_0_1_0_0 slices_S4x4x1024x1024_S4x1x1024x1024_0_3_0_0 co so w))
      (mulf (extractStridedSlice S4x2x1024x1024 ![0, 0, 0, 0] (extf .f32 g bitsLt_bf16_f32) slices_S4x2x1024x3072_S4x2x1024x1024_0_0_0_0)
        (BIAS bias)))) bitsLt_bf16_f32

/-- The reference's result is `G` of the arguments. -/
theorem ref (ce se co so : FVec Ideal S1024x1024 .bf16) (w : FVec Ideal S4x4x1024x1024 .bf16) (g : FVec Ideal S4x2x1024x3072 .bf16)
    (bias : FVec Ideal S2x1024 .f32) : REF ce se co so w g bias = G ce se co so w g bias := by
  funext y
  idx_vars y
  pointwise [REF, G, gated, STACK_at, BIAS_at]
  all_goals simp only [even_at, odd_at]

end Reference

open Cert.KernelSkipIdeal Cert.KernelSkipIdeal.Gen

variable (m : (ℓ : Loc nD τ sig) → Buf (Elt Ideal) ℓ)

/-- Which block of its array each window holds at grid point `t`: batch `t / 2`, row block `t % 2`. -/
theorem idx : ∀ t : Fin cfg0.N,
    win0_0.index t = ![0, 0] ∧ win0_1.index t = ![0, 0] ∧ win0_2.index t = ![0, 0] ∧ win0_3.index t = ![0, 0] ∧
    win0_4.index t = ![t.val / 2, 0, 0, 0] ∧ win0_5.index t = ![t.val / 2, 0, t.val % 2, 1] ∧
    win0_6.index t = ![t.val / 2, 0, t.val % 2, 0] ∧ win0_7.index t = ![0, 0] ∧ win0_8.index t = ![t.val / 2, 0, t.val % 2, 0] :=
  (by decide +kernel : ∀ t : Fin grid0.N, _)

/-- The half-position row `r` of the row block is. -/
abbrev row (t : Fin cfg0.N) (r : Fin 512) : Fin 1024 := ⟨t.val % 2 * 512 + r.val, by omega⟩

/-- The batch of grid point `t`. -/
abbrev batch (t : Fin cfg0.N) : Fin 4 := ⟨t.val / 2, by have := lt_of_lt_of_eq t.isLt N_0; omega⟩

/-- Where the row block of grid point `t` begins. -/
theorem off : ∀ t : Fin cfg0.N, k0_off1 (grid0.coords t) = ![t.val % 2 * 512, 0] :=
  (by decide +kernel : ∀ t : Fin grid0.N, _)

/-- The rows of a matrix that grid point `t` uses. -/
abbrev rM (t : Fin cfg0.N) : Rect S1024x1024 := Rect.unit (s := S1024x1024) (k0_off1 (grid0.coords t)) S512x1024.size (k0_off1_inb (grid0.coords t))
/-- Plane 0 of the spectrum's block. -/
abbrev rY0 : Rect S1x4x1024x1024 := Rect.unit (s := S1x4x1024x1024) ![0, 0, 0, 0] S1x1x1024x1024.size inb_S1x4x1024x1024_S1x1x1024x1024_0_0_0_0
/-- Plane 1 of the spectrum's block. -/
abbrev rY1 : Rect S1x4x1024x1024 := Rect.unit (s := S1x4x1024x1024) ![0, 1, 0, 0] S1x1x1024x1024.size inb_S1x4x1024x1024_S1x1x1024x1024_0_1_0_0
/-- Plane 2 of the spectrum's block. -/
abbrev rY2 : Rect S1x4x1024x1024 := Rect.unit (s := S1x4x1024x1024) ![0, 2, 0, 0] S1x1x1024x1024.size inb_S1x4x1024x1024_S1x1x1024x1024_0_2_0_0
/-- Plane 3 of the spectrum's block. -/
abbrev rY3 : Rect S1x4x1024x1024 := Rect.unit (s := S1x4x1024x1024) ![0, 3, 0, 0] S1x1x1024x1024.size inb_S1x4x1024x1024_S1x1x1024x1024_0_3_0_0
/-- The even positions of a gate's or a skip's block. -/
abbrev rG0 : Rect S1x2x512x1024 := Rect.unit (s := S1x2x512x1024) ![0, 0, 0, 0] S1x1x512x1024.size inb_S1x2x512x1024_S1x1x512x1024_0_0_0_0
/-- The odd positions of a gate's or a skip's block. -/
abbrev rG1 : Rect S1x2x512x1024 := Rect.unit (s := S1x2x512x1024) ![0, 1, 0, 0] S1x1x512x1024.size inb_S1x2x512x1024_S1x1x512x1024_0_1_0_0
/-- The bias's first row. -/
abbrev rB : Rect S2x1024 := Rect.unit (s := S2x1024) ![0, 0] S1x1024.size inb_S2x1024_S1x1024_0_0

/-- The two products of the even positions, as the kernel forms them. -/
theorem even_plane (c : Dev nD) (t : Fin cfg0.N) (r : Fin 512) (k : Fin 1024) :
    k0_pay3 (F := Ideal) (View.ld (iblk m c 0 t) (rM t)) (View.ld (iblk m c 4 t) rY0) (View.ld (iblk m c 1 t) (rM t)) (View.ld (iblk m c 4 t) rY2) (ix2 r k)
      = plane (m ((c : Thread nD τ).loc main_arg0)) (m ((c : Thread nD τ).loc main_arg1)) (m ((c : Thread nD τ).loc main_arg4)) (batch t) 0 2 (row t r) k := by
  pointwise [k0_pay3, plane]
  blk_point [iblk, V, idx t, off t]

/-- The two products of the odd positions, as the kernel forms them. -/
theorem odd_plane (c : Dev nD) (t : Fin cfg0.N) (r : Fin 512) (k : Fin 1024) :
    k0_pay4 (F := Ideal) (View.ld (iblk m c 2 t) (rM t)) (View.ld (iblk m c 4 t) rY1) (View.ld (iblk m c 3 t) (rM t)) (View.ld (iblk m c 4 t) rY3) (ix2 r k)
      = plane (m ((c : Thread nD τ).loc main_arg2)) (m ((c : Thread nD τ).loc main_arg3)) (m ((c : Thread nD τ).loc main_arg4)) (batch t) 1 3 (row t r) k := by
  pointwise [k0_pay4, plane]
  blk_point [iblk, V, idx t, off t]

/-- The even positions' store is the gated output. -/
theorem even_rows (c : Dev nD) (t : Fin cfg0.N) (a b : Fin 1) (r : Fin 512) (k : Fin 1024) :
    k0_pay1 (F := Ideal) (k0_pay3 (View.ld (iblk m c 0 t) (rM t)) (View.ld (iblk m c 4 t) rY0) (View.ld (iblk m c 1 t) (rM t)) (View.ld (iblk m c 4 t) rY2))
      (View.ld (iblk m c 7 t) rB) (k0_pay5 (View.ld (iblk m c 5 t) rG0)) (View.ld (iblk m c 6 t) rG0) (ix4 a b r k)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t) 0 (row t r) k) := by
  pointwise [k0_pay1, k0_pay5, G, gated]
  rw [even_plane]
  blk_point [iblk, V, idx t]

/-- The odd positions' store is the gated output. -/
theorem odd_rows (c : Dev nD) (t : Fin cfg0.N) (a b : Fin 1) (r : Fin 512) (k : Fin 1024) :
    k0_pay2 (F := Ideal) (k0_pay4 (View.ld (iblk m c 2 t) (rM t)) (View.ld (iblk m c 4 t) rY1) (View.ld (iblk m c 3 t) (rM t)) (View.ld (iblk m c 4 t) rY3))
      (View.ld (iblk m c 7 t) rB) (View.ld (iblk m c 5 t) rG1) (View.ld (iblk m c 6 t) rG1) (ix4 a b r k)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t) 1 (row t r) k) := by
  pointwise [k0_pay2, G, gated]
  rw [odd_plane]
  blk_point [iblk, V, idx t]

/-- The element of the array that element `y` of the block is, from the store's own index `x`. -/
theorem place (t : Fin cfg0.N) (y : S1x2x512x1024.Idx) (x : S1x1x512x1024.Idx) (q : Fin 2) (h1 : (y 1).val = q.val)
    (h2 : (y 2).val = (x 2).val) (h3 : (y 3).val = (x 3).val) :
    (ix4 (batch t) (y 1) (row t (y 2)) (y 3) : S4x2x1024x1024.Idx) = ix4 (batch t) q (row t (x 2)) (x 3) := by
  have e1 : y 1 = q := Fin.ext h1
  have e2 : y 2 = x 2 := Fin.ext h2
  have e3 : y 3 = x 3 := Fin.ext h3
  rw [e1, e2, e3]
  rfl

set_option maxHeartbeats 400000 in
/-- What grid point `t` leaves in the output block, at one element. -/
theorem point (c : Dev nD) (t : Fin cfg0.N) (y : S1x2x512x1024.Idx) :
    outsAt0 m c t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t) (y 1) (row t (y 2)) (y 3)) := by
  unfold outsAt0
  frame_out
  canon_tiles x h
  case piece0 =>
    rw [place t y x 1 (by show (y 1).val = 1; omega) h2 h3]
    idx_vars x
    exact odd_rows m c t _ _ _ _
  case piece1 =>
    rw [place t y x 0 (by show (y 1).val = 0; omega) h2 h3]
    idx_vars x
    exact even_rows m c t _ _ _ _

/-- The array the kernel leaves is `G` of its arguments. -/
theorem final (c : Dev nD) : (dats m 0 c).arrAt 8 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have he : ((cfg0.win 8).blk t).view.emb y = (ix4 (batch t) (y 1) (row t (y 2)) (y 3) : S4x2x1024x1024.Idx) := by
    blk_ext [idx t]
    all_goals rfl
  rw [he]
  exact point m c t y

end Cert.Proof.Skip

end
-- ==== Proof.SkipClaims.lean ====
/- The claims about the first inverse transform (`KernelSkip`): each program runs and leaves its arguments alone, idealizing changes nothing,
   and over the extended reals the kernel's result is the reference's. -/
module

public import proofs.«01_k».proof.Defs
public import proofs.«01_k».proof.Proof.Gen.KernelSkip
public import proofs.«01_k».proof.Proof.Gen.KernelSkip.Frame
public import proofs.«01_k».proof.Proof.Gen.KernelSkipIdeal
public import proofs.«01_k».proof.Proof.Gen.KernelSkipIdeal.Frame
public import proofs.«01_k».proof.Proof.Gen.ReferenceSkipIdeal
public import proofs.«01_k».proof.Proof.Gen.ReferenceSkipIdeal.Run
public import proofs.«01_k».proof.Proof.SkipValue
public import Idealize.ShloMosaic.Lib.Claim
public import Idealize.ShloMosaic.Adequacy
public import Idealize.ShloMosaic.Init

@[expose] public section

set_option maxRecDepth 16384

noncomputable section

namespace Cert.Proof.Skip

open Idealize.ShloMosaic Idealize.ShloMosaic.TcCoe Idealize.SL.Sem

/-- The bit-exact kernel runs, leaves its arguments unchanged and every counter at zero. -/
theorem frame_k : Cert.quiescent_KernelSkip := fun m ρ _ => Cert.KernelSkip.Gen.frame m ρ

/-- The idealized kernel runs, leaves its arguments unchanged and every counter at zero. -/
theorem frame_ki : Cert.quiescent_KernelSkipIdeal := fun m ρ _ => Cert.KernelSkipIdeal.Gen.frame m ρ

/-- The reference runs, leaves its arguments unchanged and every counter at zero: it declares no semaphore. -/
theorem frame_ri : Cert.quiescent_ReferenceSkipIdeal := fun m ρ _ =>
  (θ_run Cert.ReferenceSkipIdeal.defs _ _).mono
    (fun r h => ⟨fun c => (h c).2, Idealize.ShloMosaic.sem_eq_zero_of_no_sems (by decide) r.2⟩)
    (Cert.ReferenceSkipIdeal.Value.run (F := Ideal) m ρ)

/-- Idealizing the kernel rewrites nothing. -/
theorem preserves : Cert.preserves_KernelSkip_KernelSkipIdeal := trivial

/-- The kernel's result and the reference's are equal at every index, from any arguments. -/
theorem algebraic : Cert.algebraic_KernelSkipIdeal_ReferenceSkipIdeal := by
  pair_intro
  · run_from Cert.KernelSkipIdeal.Gen.run_main m g
  · run_from Cert.ReferenceSkipIdeal.Value.run m' g'
    obtain ⟨h0, h1, h2, h3, h4, h5, h6⟩ := hagree c
    refine (ref _ _ _ _ _ _ _).trans ?_
    rw [h4]
    exact (final m c).symm

end Cert.Proof.Skip

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelFfn
public import proofs.«01_k».proof.Proof.Gen.KernelFfnIdeal
public import proofs.«01_k».proof.Proof.Gen.ReferenceFfnIdeal
public import proofs.«01_k».proof.Proof.Gen.KernelInv
public import proofs.«01_k».proof.Proof.Gen.KernelInvIdeal
public import proofs.«01_k».proof.Proof.Gen.ReferenceInvIdeal
public import proofs.«01_k».proof.Proof.Gen.KernelIn
public import proofs.«01_k».proof.Proof.Gen.KernelInIdeal
public import proofs.«01_k».proof.Proof.Gen.ReferenceInIdeal
public import proofs.«01_k».proof.Proof.Gen.KernelMerge
public import proofs.«01_k».proof.Proof.Gen.KernelMergeIdeal
public import proofs.«01_k».proof.Proof.Gen.ReferenceMergeIdeal
public import proofs.«01_k».proof.Proof.Gen.KernelSkip
public import proofs.«01_k».proof.Proof.Gen.KernelSkipIdeal
public import proofs.«01_k».proof.Proof.Gen.ReferenceSkipIdeal
public import proofs.«01_k».proof.Proof.Gen.KernelFilt
public import proofs.«01_k».proof.Proof.Gen.KernelFiltIdeal
public import proofs.«01_k».proof.Proof.Gen.ReferenceFiltIdeal
public import proofs.«01_k».proof.Proof.Gen.KernelConv
public import proofs.«01_k».proof.Proof.Gen.KernelConvIdeal
public import proofs.«01_k».proof.Proof.Gen.ReferenceConvIdeal
public import proofs.«01_k».proof.Proof.Gen.KernelMlp
public import proofs.«01_k».proof.Proof.Gen.KernelMlpIdeal
public import proofs.«01_k».proof.Proof.Gen.ReferenceMlpIdeal
public import proofs.«01_k».proof.Proof.Gen.Pre_sine_rows_zero
public import proofs.«01_k».proof.Proof.ConvClaims
public import proofs.«01_k».proof.Proof.FfnClaims
public import proofs.«01_k».proof.Proof.FiltClaims
public import proofs.«01_k».proof.Proof.FwdClaims
public import proofs.«01_k».proof.Proof.InClaims
public import proofs.«01_k».proof.Proof.InvClaims
public import proofs.«01_k».proof.Proof.MergeClaims
public import proofs.«01_k».proof.Proof.MlpClaims
public import proofs.«01_k».proof.Proof.SkipClaims

@[expose] public section

noncomputable section

namespace Cert.Proof

/-- Every claim of the certificate, with the facts each program's text states of its shapes. -/
theorem claim : Cert.Claim := ⟨Cert.Kernel.Gen.facts,
  Cert.KernelIdeal.Gen.facts,
  Cert.ReferenceIdeal.Gen.facts,
  Cert.KernelFfn.Gen.facts,
  Cert.KernelFfnIdeal.Gen.facts,
  Cert.ReferenceFfnIdeal.Gen.facts,
  Cert.KernelInv.Gen.facts,
  Cert.KernelInvIdeal.Gen.facts,
  Cert.ReferenceInvIdeal.Gen.facts,
  Cert.KernelIn.Gen.facts,
  Cert.KernelInIdeal.Gen.facts,
  Cert.ReferenceInIdeal.Gen.facts,
  Cert.KernelMerge.Gen.facts,
  Cert.KernelMergeIdeal.Gen.facts,
  Cert.ReferenceMergeIdeal.Gen.facts,
  Cert.KernelSkip.Gen.facts,
  Cert.KernelSkipIdeal.Gen.facts,
  Cert.ReferenceSkipIdeal.Gen.facts,
  Cert.KernelFilt.Gen.facts,
  Cert.KernelFiltIdeal.Gen.facts,
  Cert.ReferenceFiltIdeal.Gen.facts,
  Cert.KernelConv.Gen.facts,
  Cert.KernelConvIdeal.Gen.facts,
  Cert.ReferenceConvIdeal.Gen.facts,
  Cert.KernelMlp.Gen.facts,
  Cert.KernelMlpIdeal.Gen.facts,
  Cert.ReferenceMlpIdeal.Gen.facts,
  Cert.Pre_sine_rows_zero.Gen.facts,
  Fwd.frame_k,
  Fwd.frame_ki,
  Fwd.frame_ki_pre,
  Fwd.frame_ri,
  Fwd.frame_ri_pre,
  Ffn.frame_k,
  Ffn.frame_ki,
  Ffn.frame_ri,
  Inv.frame_k,
  Inv.frame_ki,
  Inv.frame_ri,
  In.frame_k,
  In.frame_ki,
  In.frame_ri,
  Merge.frame_k,
  Merge.frame_ki,
  Merge.frame_ri,
  Skip.frame_k,
  Skip.frame_ki,
  Skip.frame_ri,
  Filt.frame_k,
  Filt.frame_ki,
  Filt.frame_ri,
  Conv.frame_k,
  Conv.frame_ki,
  Conv.frame_ri,
  Mlp.frame_k,
  Mlp.frame_ki,
  Mlp.frame_ri,
  Fwd.preserves,
  Fwd.algebraic,
  Ffn.preserves,
  Ffn.algebraic,
  Inv.preserves,
  Inv.algebraic,
  In.preserves,
  In.algebraic,
  Merge.preserves,
  Merge.algebraic,
  Skip.preserves,
  Skip.algebraic,
  Filt.preserves,
  Filt.algebraic,
  Conv.preserves,
  Conv.algebraic,
  Mlp.preserves,
  Mlp.algebraic⟩

end Cert.Proof

end
